-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_HostIdeal (m : (ℓ : Loc Cert.HostIdeal.nD Cert.HostIdeal.τ Cert.HostIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_HostIdeal [hHostIdeal : Cert.HostIdeal.Facts] : Prop :=
  ∀ (m : (ℓ : Loc Cert.HostIdeal.nD Cert.HostIdeal.τ Cert.HostIdeal.sig) → Buf (Elt Ideal) ℓ) (g : Dev Cert.HostIdeal.nD → PrngReg), Pre_HostIdeal m →
    θ_run (Cert.HostIdeal.defs (F := Ideal)) (onTc (τ := Cert.HostIdeal.τ) (Cert.HostIdeal.main (F := Ideal))) ⟨m, fun _ => 0, g⟩ (fun r => (∀ c : Dev Cert.HostIdeal.nD,
      r.2.mem ((c.tc : Thread Cert.HostIdeal.nD Cert.HostIdeal.τ).loc Cert.HostIdeal.main_arg0) = m ((c.tc : Thread Cert.HostIdeal.nD Cert.HostIdeal.τ).loc Cert.HostIdeal.main_arg0)
      ∧ r.2.mem ((c.tc : Thread Cert.HostIdeal.nD Cert.HostIdeal.τ).loc Cert.HostIdeal.main_arg1) = m ((c.tc : Thread Cert.HostIdeal.nD Cert.HostIdeal.τ).loc Cert.HostIdeal.main_arg1)
      ∧ r.2.mem ((c.tc : Thread Cert.HostIdeal.nD Cert.HostIdeal.τ).loc Cert.HostIdeal.main_arg2) = m ((c.tc : Thread Cert.HostIdeal.nD Cert.HostIdeal.τ).loc Cert.HostIdeal.main_arg2)
      ∧ r.2.mem ((c.tc : Thread Cert.HostIdeal.nD Cert.HostIdeal.τ).loc Cert.HostIdeal.main_arg3) = m ((c.tc : Thread Cert.HostIdeal.nD Cert.HostIdeal.τ).loc Cert.HostIdeal.main_arg3)
      ∧ r.2.mem ((c.tc : Thread Cert.HostIdeal.nD Cert.HostIdeal.τ).loc Cert.HostIdeal.main_arg4) = m ((c.tc : Thread Cert.HostIdeal.nD Cert.HostIdeal.τ).loc Cert.HostIdeal.main_arg4)
      ∧ r.2.mem ((c.tc : Thread Cert.HostIdeal.nD Cert.HostIdeal.τ).loc Cert.HostIdeal.main_arg5) = m ((c.tc : Thread Cert.HostIdeal.nD Cert.HostIdeal.τ).loc Cert.HostIdeal.main_arg5)
      ∧ r.2.mem ((c.tc : Thread Cert.HostIdeal.nD Cert.HostIdeal.τ).loc Cert.HostIdeal.main_arg6) = m ((c.tc : Thread Cert.HostIdeal.nD Cert.HostIdeal.τ).loc Cert.HostIdeal.main_arg6)
      ∧ r.2.mem ((c.tc : Thread Cert.HostIdeal.nD Cert.HostIdeal.τ).loc Cert.HostIdeal.main_arg7) = m ((c.tc : Thread Cert.HostIdeal.nD Cert.HostIdeal.τ).loc Cert.HostIdeal.main_arg7)
      ∧ r.2.mem ((c.tc : Thread Cert.HostIdeal.nD Cert.HostIdeal.τ).loc Cert.HostIdeal.main_arg8) = m ((c.tc : Thread Cert.HostIdeal.nD Cert.HostIdeal.τ).loc Cert.HostIdeal.main_arg8)
      ∧ r.2.mem ((c.tc : Thread Cert.HostIdeal.nD Cert.HostIdeal.τ).loc Cert.HostIdeal.main_arg9) = m ((c.tc : Thread Cert.HostIdeal.nD Cert.HostIdeal.τ).loc Cert.HostIdeal.main_arg9)
      ∧ r.2.mem ((c.tc : Thread Cert.HostIdeal.nD Cert.HostIdeal.τ).loc Cert.HostIdeal.main_arg10) = m ((c.tc : Thread Cert.HostIdeal.nD Cert.HostIdeal.τ).loc Cert.HostIdeal.main_arg10))
      ∧ r.2.sem = fun _ => 0)

def preserves_Kernel_KernelIdeal : Prop :=
  True

def algebraic_KernelIdeal_ReferenceIdeal_on_selected [hKernelIdeal : Cert.KernelIdeal.Facts] [hReferenceIdeal : Cert.ReferenceIdeal.Facts] [hOn_selected : Cert.On_selected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)) (v4 : (c : Dev Cert.KernelIdeal.nD) → Buf (Elt Ideal) ((c.tc : Thread Cert.KernelIdeal.nD Cert.KernelIdeal.τ).loc Cert.KernelIdeal.main_v22)) (v5 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![36, 1, 5120]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v16) i = v0 c i)
          ∧ (∀ i : (⟨3, ![36, 1, 17920]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v18) i = v1 c i)
          ∧ (∀ i : (⟨2, ![36, 32]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.KernelIdeal.nD Cert.KernelIdeal.τ).loc Cert.KernelIdeal.main_v19) i = v2 c i)
          ∧ (∀ i : (⟨2, ![36, 16]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.KernelIdeal.nD Cert.KernelIdeal.τ).loc Cert.KernelIdeal.main_v20) i = v3 c i)
          ∧ (∀ i : (⟨3, ![36, 1, 5120]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.KernelIdeal.nD Cert.KernelIdeal.τ).loc Cert.KernelIdeal.main_v22) i = v4 c i)
          ∧ (∀ i : (⟨3, ![36, 1, 40]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 i = 1#1 → r.2.mem ((c.tc : Thread Cert.KernelIdeal.nD Cert.KernelIdeal.τ).loc Cert.KernelIdeal.main_v24) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![36, 1, 5120]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceIdeal.nD Cert.ReferenceIdeal.τ).loc Cert.ReferenceIdeal.main_v121) i = v0 c i)
          ∧ (∀ i : (⟨3, ![36, 1, 17920]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceIdeal.nD Cert.ReferenceIdeal.τ).loc Cert.ReferenceIdeal.main_v126) i = v1 c i)
          ∧ (∀ i : (⟨2, ![36, 32]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.ReferenceIdeal.nD Cert.ReferenceIdeal.τ).loc Cert.ReferenceIdeal.main_v48) i = v2 c i)
          ∧ (∀ i : (⟨2, ![36, 16]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.ReferenceIdeal.nD Cert.ReferenceIdeal.τ).loc Cert.ReferenceIdeal.main_v111) i = v3 c i)
          ∧ (∀ i : (⟨3, ![36, 1, 5120]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.ReferenceIdeal.nD Cert.ReferenceIdeal.τ).loc Cert.ReferenceIdeal.main_v149) i = v4 c i)
          ∧ (∀ i : (⟨3, ![36, 1, 40]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 i = 1#1 → r.2.mem ((c.tc : Thread Cert.ReferenceIdeal.nD Cert.ReferenceIdeal.τ).loc Cert.ReferenceIdeal.main_v146) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hHostIdeal : Cert.HostIdeal.Facts) (hOn_selected : Cert.On_selected.Facts),
    quiescent_Kernel (hKernel := hKernel)
    ∧ quiescent_KernelIdeal (hKernelIdeal := hKernelIdeal)
    ∧ quiescent_ReferenceIdeal (hReferenceIdeal := hReferenceIdeal)
    ∧ quiescent_HostIdeal (hHostIdeal := hHostIdeal)
    ∧ preserves_Kernel_KernelIdeal
    ∧ algebraic_KernelIdeal_ReferenceIdeal_on_selected (hKernelIdeal := hKernelIdeal) (hReferenceIdeal := hReferenceIdeal) (hOn_selected := hOn_selected)
-- ==== On_selected.lean ====
abbrev S36x1x5120 : Shape := ⟨3, ![36, 1, 5120]⟩
abbrev S36 : Shape := ⟨1, ![36]⟩
abbrev S2560x35840 : Shape := ⟨2, ![2560, 35840]⟩
abbrev S40x35840 : Shape := ⟨2, ![40, 35840]⟩
abbrev S8960x5120 : Shape := ⟨2, ![8960, 5120]⟩
abbrev S140x5120 : Shape := ⟨2, ![140, 5120]⟩
abbrev S7x5120x32 : Shape := ⟨3, ![7, 5120, 32]⟩
abbrev S7x2x16x17920 : Shape := ⟨4, ![7, 2, 16, 17920]⟩
abbrev S7x17920x16 : Shape := ⟨3, ![7, 17920, 16]⟩
abbrev S7x16x5120 : Shape := ⟨3, ![7, 16, 5120]⟩
abbrev S7 : Shape := ⟨1, ![7]⟩
abbrev S36x5120 : Shape := ⟨2, ![36, 5120]⟩
abbrev S36x1 : Shape := ⟨2, ![36, 1]⟩
abbrev S1x7 : Shape := ⟨2, ![1, 7]⟩
abbrev S36x7 : Shape := ⟨2, ![36, 7]⟩
abbrev S_ : Shape := ⟨0, ![]⟩
abbrev S20x35840 : Shape := ⟨2, ![20, 35840]⟩
abbrev S20x128x35840 : Shape := ⟨3, ![20, 128, 35840]⟩
abbrev S20x1x35840 : Shape := ⟨3, ![20, 1, 35840]⟩
abbrev S36x2560 : Shape := ⟨2, ![36, 2560]⟩
abbrev S36x35840 : Shape := ⟨2, ![36, 35840]⟩
abbrev S36x7x32 : Shape := ⟨3, ![36, 7, 32]⟩
abbrev S36x32 : Shape := ⟨2, ![36, 32]⟩
abbrev S36x7x1x1 : Shape := ⟨4, ![36, 7, 1, 1]⟩
abbrev S36x1x2x16 : Shape := ⟨4, ![36, 1, 2, 16]⟩
abbrev S36x7x2x16 : Shape := ⟨4, ![36, 7, 2, 16]⟩
abbrev S2x17920x36 : Shape := ⟨3, ![2, 17920, 36]⟩
abbrev S36x2x17920 : Shape := ⟨3, ![36, 2, 17920]⟩
abbrev S36x1x17920 : Shape := ⟨3, ![36, 1, 17920]⟩
abbrev S36x17920 : Shape := ⟨2, ![36, 17920]⟩
abbrev S70x5120 : Shape := ⟨2, ![70, 5120]⟩
abbrev S70x128x5120 : Shape := ⟨3, ![70, 128, 5120]⟩
abbrev S70x1x5120 : Shape := ⟨3, ![70, 1, 5120]⟩
abbrev S36x8960 : Shape := ⟨2, ![36, 8960]⟩
abbrev S36x7x16 : Shape := ⟨3, ![36, 7, 16]⟩
abbrev S36x16 : Shape := ⟨2, ![36, 16]⟩
abbrev S36x7x1 : Shape := ⟨3, ![36, 7, 1]⟩
abbrev S36x1x16 : Shape := ⟨3, ![36, 1, 16]⟩
abbrev S36x1x40x128 : Shape := ⟨4, ![36, 1, 40, 128]⟩
abbrev S36x1x40 : Shape := ⟨3, ![36, 1, 40]⟩

class Facts : Prop where
  shapeCasts_S36x1x5120_S36x5120 : S36x1x5120.ShapeCasts S36x5120
  bcast_S36_S36x1_0 : S36.BroadcastsInDim S36x1 (![0] : Fin 1 → Fin S36x1.rank)
  bcast_S36x1_S36x7_0_1 : S36x1.BroadcastsInDim S36x7 (![0, 1] : Fin 2 → Fin S36x7.rank)
  bcast_S1x7_S36x7_0_1 : S1x7.BroadcastsInDim S36x7 (![0, 1] : Fin 2 → Fin S36x7.rank)
  bcast_S_S36 : S_.BroadcastsInDim S36 (![] : Fin 0 → Fin S36.rank)
  natLt_8_32 : 8 < 32
  bcast_S_S2560x35840 : S_.BroadcastsInDim S2560x35840 (![] : Fin 0 → Fin S2560x35840.rank)
  slices_S40x35840_S20x35840_0_0 : S40x35840.Slices ![0, 0] S20x35840
  shapeCasts_S2560x35840_S20x128x35840 : S2560x35840.ShapeCasts S20x128x35840
  bcast_S20x35840_S20x1x35840_0_2 : S20x35840.BroadcastsInDim S20x1x35840 (![0, 2] : Fin 2 → Fin S20x1x35840.rank)
  bcast_S20x1x35840_S20x128x35840_0_1_2 : S20x1x35840.BroadcastsInDim S20x128x35840 (![0, 1, 2] : Fin 3 → Fin S20x128x35840.rank)
  shapeCasts_S20x128x35840_S2560x35840 : S20x128x35840.ShapeCasts S2560x35840
  slices_S40x35840_S20x35840_20_0 : S40x35840.Slices ![20, 0] S20x35840
  slices_S36x5120_S36x2560_0_0 : S36x5120.Slices ![0, 0] S36x2560
  slices_S36x5120_S36x2560_0_2560 : S36x5120.Slices ![0, 2560] S36x2560
  bcast_S36x1_S36x32_0_1 : S36x1.BroadcastsInDim S36x32 (![0, 1] : Fin 2 → Fin S36x32.rank)
  bitsLt_bf16_f32 : FTy.bits .bf16 < FTy.bits .f32
  bcast_S36x7_S36x7x1x1_0_1 : S36x7.BroadcastsInDim S36x7x1x1 (![0, 1] : Fin 2 → Fin S36x7x1x1.rank)
  shapeCasts_S36x32_S36x1x2x16 : S36x32.ShapeCasts S36x1x2x16
  bcast_S36x7x1x1_S36x7x2x16_0_1_2_3 : S36x7x1x1.BroadcastsInDim S36x7x2x16 (![0, 1, 2, 3] : Fin 4 → Fin S36x7x2x16.rank)
  bcast_S36x1x2x16_S36x7x2x16_0_1_2_3 : S36x1x2x16.BroadcastsInDim S36x7x2x16 (![0, 1, 2, 3] : Fin 4 → Fin S36x7x2x16.rank)
  transposes_S2x17920x36_S36x2x17920_2_0_1 : S2x17920x36.Transposes [2, 0, 1] S36x2x17920
  shapeCasts_S36x35840_S36x2x17920 : S36x35840.ShapeCasts S36x2x17920
  slices_S36x2x17920_S36x1x17920_0_0_0 : S36x2x17920.Slices ![0, 0, 0] S36x1x17920
  shapeCasts_S36x1x17920_S36x17920 : S36x1x17920.ShapeCasts S36x17920
  slices_S36x2x17920_S36x1x17920_0_1_0 : S36x2x17920.Slices ![0, 1, 0] S36x1x17920
  bcast_S_S36x17920 : S_.BroadcastsInDim S36x17920 (![] : Fin 0 → Fin S36x17920.rank)
  bcast_S_S8960x5120 : S_.BroadcastsInDim S8960x5120 (![] : Fin 0 → Fin S8960x5120.rank)
  slices_S140x5120_S70x5120_0_0 : S140x5120.Slices ![0, 0] S70x5120
  shapeCasts_S8960x5120_S70x128x5120 : S8960x5120.ShapeCasts S70x128x5120
  bcast_S70x5120_S70x1x5120_0_2 : S70x5120.BroadcastsInDim S70x1x5120 (![0, 2] : Fin 2 → Fin S70x1x5120.rank)
  bcast_S70x1x5120_S70x128x5120_0_1_2 : S70x1x5120.BroadcastsInDim S70x128x5120 (![0, 1, 2] : Fin 3 → Fin S70x128x5120.rank)
  shapeCasts_S70x128x5120_S8960x5120 : S70x128x5120.ShapeCasts S8960x5120
  slices_S140x5120_S70x5120_70_0 : S140x5120.Slices ![70, 0] S70x5120
  slices_S36x17920_S36x8960_0_0 : S36x17920.Slices ![0, 0] S36x8960
  slices_S36x17920_S36x8960_0_8960 : S36x17920.Slices ![0, 8960] S36x8960
  bcast_S36x1_S36x16_0_1 : S36x1.BroadcastsInDim S36x16 (![0, 1] : Fin 2 → Fin S36x16.rank)
  bcast_S36x7_S36x7x1_0_1 : S36x7.BroadcastsInDim S36x7x1 (![0, 1] : Fin 2 → Fin S36x7x1.rank)
  bcast_S36x16_S36x1x16_0_2 : S36x16.BroadcastsInDim S36x1x16 (![0, 2] : Fin 2 → Fin S36x1x16.rank)
  bcast_S36x7x1_S36x7x16_0_1_2 : S36x7x1.BroadcastsInDim S36x7x16 (![0, 1, 2] : Fin 3 → Fin S36x7x16.rank)
  bcast_S36x1x16_S36x7x16_0_1_2 : S36x1x16.BroadcastsInDim S36x7x16 (![0, 1, 2] : Fin 3 → Fin S36x7x16.rank)
  shapeCasts_S36x5120_S36x1x5120 : S36x5120.ShapeCasts S36x1x5120
  shapeCasts_S36x1x5120_S36x1x40x128 : S36x1x5120.ShapeCasts S36x1x40x128
  reducesTo_S36x1x40x128_S36x1x40_d3 : S36x1x40x128.ReducesTo [3] S36x1x40
  h_S_ : 0 < S_.numel
  shapeCasts_S36x17920_S36x1x17920 : S36x17920.ShapeCasts S36x1x17920
  bcast_S_S36x1x40 : S_.BroadcastsInDim S36x1x40 (![] : Fin 0 → Fin S36x1x40.rank)
  bcast_S_S36x1x5120 : S_.BroadcastsInDim S36x1x5120 (![] : Fin 0 → Fin S36x1x5120.rank)
  bcast_S_S36x1x17920 : S_.BroadcastsInDim S36x1x17920 (![] : Fin 0 → Fin S36x1x17920.rank)
  bcast_S_S36x32 : S_.BroadcastsInDim S36x32 (![] : Fin 0 → Fin S36x32.rank)
  bcast_S_S36x16 : S_.BroadcastsInDim S36x16 (![] : Fin 0 → Fin S36x16.rank)
  bcast_S36x1x40_S36x1x40x128_0_1_2 : S36x1x40.BroadcastsInDim S36x1x40x128 (![0, 1, 2] : Fin 3 → Fin S36x1x40x128.rank)
  shapeCasts_S36x1x40x128_S36x1x5120 : S36x1x40x128.ShapeCasts S36x1x5120
  gather_S7_S36x1_S36_n_0_n_n_0_1_1_wf : GatherDims.WF S7 S36x1 S36 [] [0] [] [0] [] 1 ![1]
  dot_S36x2560_S2560x35840_S36x35840_1_0_0_1_n_n_wf : DotDims.WF S36x2560 S2560x35840 S36x35840 [1] [0] [0] [1] [] []
  dot_S36x5120_S7x5120x32_S36x7x32_1_1_0_02_n_n_wf : DotDims.WF S36x5120 S7x5120x32 S36x7x32 [1] [1] [0] [0, 2] [] []
  dot_S36x7_S36x7x32_S36x32_1_1_n_2_0_0_wf : DotDims.WF S36x7 S36x7x32 S36x32 [1] [1] [] [2] [0] [0]
  dot_S7x2x16x17920_S36x7x2x16_S2x17920x36_02_13_3_0_1_2_wf : DotDims.WF S7x2x16x17920 S36x7x2x16 S2x17920x36 [0, 2] [1, 3] [3] [0] [1] [2]
  dot_S36x8960_S8960x5120_S36x5120_1_0_0_1_n_n_wf : DotDims.WF S36x8960 S8960x5120 S36x5120 [1] [0] [0] [1] [] []
  dot_S36x17920_S7x17920x16_S36x7x16_1_1_0_02_n_n_wf : DotDims.WF S36x17920 S7x17920x16 S36x7x16 [1] [1] [0] [0, 2] [] []
  dot_S36x7_S36x7x16_S36x16_1_1_n_2_0_0_wf : DotDims.WF S36x7 S36x7x16 S36x16 [1] [1] [] [2] [0] [0]
  dot_S36x7x16_S7x16x5120_S36x5120_12_01_0_2_n_n_wf : DotDims.WF S36x7x16 S7x16x5120 S36x5120 [1, 2] [0, 1] [0] [2] [] []

variable [Facts]

def gather_S7_S36x1_S36_n_0_n_n_0_1_1 : GatherDims S7 S36x1 S36 where
  offsetDims := []
  collapsedSliceDims := [0]
  operandBatchingDims := []
  startIndicesBatchingDims := []
  startIndexMap := [0]
  indexVectorDim := 1
  sliceSizes := ![1]
  wf := gather_S7_S36x1_S36_n_0_n_n_0_1_1_wf
def dot_S36x2560_S2560x35840_S36x35840_1_0_0_1_n_n : DotDims S36x2560 S2560x35840 S36x35840 where
  lhsContracting := [1]
  rhsContracting := [0]
  lhsNonContracting := [0]
  rhsNonContracting := [1]
  lhsBatch := []
  rhsBatch := []
  wf := dot_S36x2560_S2560x35840_S36x35840_1_0_0_1_n_n_wf
def dot_S36x5120_S7x5120x32_S36x7x32_1_1_0_02_n_n : DotDims S36x5120 S7x5120x32 S36x7x32 where
  lhsContracting := [1]
  rhsContracting := [1]
  lhsNonContracting := [0]
  rhsNonContracting := [0, 2]
  lhsBatch := []
  rhsBatch := []
  wf := dot_S36x5120_S7x5120x32_S36x7x32_1_1_0_02_n_n_wf
def dot_S36x7_S36x7x32_S36x32_1_1_n_2_0_0 : DotDims S36x7 S36x7x32 S36x32 where
  lhsContracting := [1]
  rhsContracting := [1]
  lhsNonContracting := []
  rhsNonContracting := [2]
  lhsBatch := [0]
  rhsBatch := [0]
  wf := dot_S36x7_S36x7x32_S36x32_1_1_n_2_0_0_wf
def dot_S7x2x16x17920_S36x7x2x16_S2x17920x36_02_13_3_0_1_2 : DotDims S7x2x16x17920 S36x7x2x16 S2x17920x36 where
  lhsContracting := [0, 2]
  rhsContracting := [1, 3]
  lhsNonContracting := [3]
  rhsNonContracting := [0]
  lhsBatch := [1]
  rhsBatch := [2]
  wf := dot_S7x2x16x17920_S36x7x2x16_S2x17920x36_02_13_3_0_1_2_wf
def dot_S36x8960_S8960x5120_S36x5120_1_0_0_1_n_n : DotDims S36x8960 S8960x5120 S36x5120 where
  lhsContracting := [1]
  rhsContracting := [0]
  lhsNonContracting := [0]
  rhsNonContracting := [1]
  lhsBatch := []
  rhsBatch := []
  wf := dot_S36x8960_S8960x5120_S36x5120_1_0_0_1_n_n_wf
def dot_S36x17920_S7x17920x16_S36x7x16_1_1_0_02_n_n : DotDims S36x17920 S7x17920x16 S36x7x16 where
  lhsContracting := [1]
  rhsContracting := [1]
  lhsNonContracting := [0]
  rhsNonContracting := [0, 2]
  lhsBatch := []
  rhsBatch := []
  wf := dot_S36x17920_S7x17920x16_S36x7x16_1_1_0_02_n_n_wf
def dot_S36x7_S36x7x16_S36x16_1_1_n_2_0_0 : DotDims S36x7 S36x7x16 S36x16 where
  lhsContracting := [1]
  rhsContracting := [1]
  lhsNonContracting := []
  rhsNonContracting := [2]
  lhsBatch := [0]
  rhsBatch := [0]
  wf := dot_S36x7_S36x7x16_S36x16_1_1_n_2_0_0_wf
def dot_S36x7x16_S7x16x5120_S36x5120_12_01_0_2_n_n : DotDims S36x7x16 S7x16x5120 S36x5120 where
  lhsContracting := [1, 2]
  rhsContracting := [0, 1]
  lhsNonContracting := [0]
  rhsNonContracting := [2]
  lhsBatch := []
  rhsBatch := []
  wf := dot_S36x7x16_S7x16x5120_S36x5120_12_01_0_2_n_n_wf
def fn_one_hot {F : FTy → Type} [FloatOps F] (arg0 : IVec S36 32) : FVec F S36x7 .f32 :=
  let v0 : IVec S36x1 32 := broadcastInDim S36x1 ![0] bcast_S36_S36x1_0 arg0
  let v1 : IVec S1x7 32 := iotaInDim S1x7 32 1
  let v2 : IVec S36x7 32 := broadcastInDim S36x7 ![0, 1] bcast_S36x1_S36x7_0_1 v0
  let v3 : IVec S36x7 32 := broadcastInDim S36x7 ![0, 1] bcast_S1x7_S36x7_0_1 v1
  let v4 : IVec S36x7 1 := cmpi .eq v2 v3
  let v5 : FVec F S36x7 .f32 := uitofp .f32 v4
  v5

def fn_where {F : FTy → Type} [FloatOps F] (arg0 : IVec S2560x35840 1) (arg1 : IVec S2560x35840 32) (arg2 : IVec S2560x35840 32) : IVec S2560x35840 32 :=
  let v0 : IVec S2560x35840 32 := select arg0 arg1 arg2
  v0

def fn_where_0 {F : FTy → Type} [FloatOps F] (arg0 : IVec S8960x5120 1) (arg1 : IVec S8960x5120 32) (arg2 : IVec S8960x5120 32) : IVec S8960x5120 32 :=
  let v0 : IVec S8960x5120 32 := select arg0 arg1 arg2
  v0

def fn_part6 {F : FTy → Type} [FloatOps F] (main_v125 : FVec F S36x1x40 .f32) : IVec S36x1x5120 1 × IVec S36x1x17920 1 × IVec S36x32 1 × IVec S36x16 1 × IVec S36x1x5120 1 × IVec S36x1x40 1 :=
  let main_cst_15 : FVec F S_ .f32 := constant S_ .f32 0x3B124925#32
  let main_v127 : FVec F S36x1x40 .f32 := broadcastInDim S36x1x40 ![] bcast_S_S36x1x40 main_cst_15
  let main_v128 : FVec F S36x1x40 .f32 := mulf main_v125 main_v127
  let main_cst_16 : FVec F S_ .f32 := constant S_ .f32 0x7E800000#32
  let main_v129 : FVec F S36x1x40 .f32 := broadcastInDim S36x1x40 ![] bcast_S_S36x1x40 main_cst_16
  let main_v130 : IVec S36x1x40 1 := cmpf .olt main_v128 main_v129
  let main_c_17 : IVec S_ 1 := constantI S_ 1 1#1
  let main_v131 : IVec S36x1x5120 1 := broadcastInDim S36x1x5120 ![] bcast_S_S36x1x5120 main_c_17
  let main_c_18 : IVec S_ 1 := constantI S_ 1 1#1
  let main_v132 : IVec S36x1x17920 1 := broadcastInDim S36x1x17920 ![] bcast_S_S36x1x17920 main_c_18
  let main_c_19 : IVec S_ 1 := constantI S_ 1 1#1
  let main_v133 : IVec S36x32 1 := broadcastInDim S36x32 ![] bcast_S_S36x32 main_c_19
  let main_c_20 : IVec S_ 1 := constantI S_ 1 1#1
  let main_v134 : IVec S36x16 1 := broadcastInDim S36x16 ![] bcast_S_S36x16 main_c_20
  let main_v135 : IVec S36x1x40x128 1 := broadcastInDim S36x1x40x128 ![0, 1, 2] bcast_S36x1x40_S36x1x40x128_0_1_2 main_v130
  let main_v136 : IVec S36x1x5120 1 := shapeCast S36x1x5120 main_v135 shapeCasts_S36x1x40x128_S36x1x5120
  (main_v131, main_v132, main_v133, main_v134, main_v136, main_v130)

def fn_part5 {F : FTy → Type} [FloatOps F] (main_arg8 : FVec F S7x17920x16 .bf16) (main_arg9 : FVec F S7x16x5120 .bf16) (main_v1 : FVec F S36x7 .f32) (main_v8 : FVec F S36 .f32) (main_v71 : FVec F S36x17920 .bf16) (main_v100 : FVec F S8960x5120 .bf16) (main_v102 : FVec F S36x5120 .f32) (main_v103 : FVec F S36x8960 .bf16) : IVec S36x1x5120 1 × IVec S36x1x17920 1 × IVec S36x32 1 × IVec S36x16 1 × IVec S36x1x5120 1 × IVec S36x1x40 1 :=
  let main_v104 : FVec F S36x5120 .f32 := (fun l r => Host.dotGeneral dot_S36x8960_S8960x5120_S36x5120_1_0_0_1_n_n none l r) main_v103 main_v100
  let main_v105 : FVec F S36x5120 .f32 := addf main_v102 main_v104
  let main_v106 : FVec F S36x7x16 .f32 := (fun l r => Host.dotGeneral dot_S36x17920_S7x17920x16_S36x7x16_1_1_0_02_n_n none l r) main_v71 main_arg8
  let main_v107 : FVec F S36x16 .f32 := (fun l r => Host.dotGeneral dot_S36x7_S36x7x16_S36x16_1_1_n_2_0_0 (some .fp32) l r) main_v1 main_v106
  let main_v108 : FVec F S36x1 .f32 := broadcastInDim S36x1 ![0] bcast_S36_S36x1_0 main_v8
  let main_v109 : FVec F S36x16 .f32 := broadcastInDim S36x16 ![0, 1] bcast_S36x1_S36x16_0_1 main_v108
  let main_v110 : FVec F S36x16 .f32 := mulf main_v107 main_v109
  let main_v111 : FVec F S36x16 .bf16 := (truncf .bf16 · bitsLt_bf16_f32) main_v110
  let main_v112 : FVec F S36x7 .bf16 := (truncf .bf16 · bitsLt_bf16_f32) main_v1
  let main_v113 : FVec F S36x7x1 .bf16 := broadcastInDim S36x7x1 ![0, 1] bcast_S36x7_S36x7x1_0_1 main_v112
  let main_v114 : FVec F S36x1x16 .bf16 := broadcastInDim S36x1x16 ![0, 2] bcast_S36x16_S36x1x16_0_2 main_v111
  let main_v115 : FVec F S36x7x16 .bf16 := broadcastInDim S36x7x16 ![0, 1, 2] bcast_S36x7x1_S36x7x16_0_1_2 main_v113
  let main_v116 : FVec F S36x7x16 .bf16 := broadcastInDim S36x7x16 ![0, 1, 2] bcast_S36x1x16_S36x7x16_0_1_2 main_v114
  let main_v117 : FVec F S36x7x16 .bf16 := mulf main_v115 main_v116
  let main_v118 : FVec F S36x5120 .f32 := (fun l r => Host.dotGeneral dot_S36x7x16_S7x16x5120_S36x5120_12_01_0_2_n_n none l r) main_v117 main_arg9
  let main_v119 : FVec F S36x5120 .f32 := addf main_v105 main_v118
  let main_v120 : FVec F S36x5120 .bf16 := (truncf .bf16 · bitsLt_bf16_f32) main_v119
  let main_v121 : FVec F S36x1x5120 .bf16 := shapeCast S36x1x5120 main_v120 shapeCasts_S36x5120_S36x1x5120
  let main_v122 : FVec F S36x1x5120 .f32 := (extf .f32 · bitsLt_bf16_f32) main_v121
  let main_v123 : FVec F S36x1x40x128 .f32 := shapeCast S36x1x40x128 main_v122 shapeCasts_S36x1x5120_S36x1x40x128
  let main_v124 : FVec F S36x1x40x128 .f32 := Host.absf main_v123
  let main_cst_14 : FVec F S_ .f32 := constant S_ .f32 0xFF800000#32
  let main_v125 : FVec F S36x1x40 .f32 := (fun x v => Host.reduce FloatOps.maximumf x v reducesTo_S36x1x40x128_S36x1x40_d3 h_S_) main_v124 main_cst_14
  let main_v126 : FVec F S36x1x17920 .bf16 := shapeCast S36x1x17920 main_v71 shapeCasts_S36x17920_S36x1x17920
  fn_part6 (F := F) main_v125

def fn_part4 {F : FTy → Type} [FloatOps F] (main_arg5 : FVec F S140x5120 .bf16) (main_arg8 : FVec F S7x17920x16 .bf16) (main_arg9 : FVec F S7x16x5120 .bf16) (main_v1 : FVec F S36x7 .f32) (main_v8 : FVec F S36 .f32) (main_v71 : FVec F S36x17920 .bf16) (main_v76 : IVec S8960x5120 32) (main_v81 : IVec S8960x5120 32) : IVec S36x1x5120 1 × IVec S36x1x17920 1 × IVec S36x32 1 × IVec S36x16 1 × IVec S36x1x5120 1 × IVec S36x1x40 1 :=
  let main_v82 : FVec F S8960x5120 .bf16 := sitofp .bf16 main_v81
  let main_c_12 : IVec S_ 32 := constantI S_ 32 8#32
  let main_v83 : IVec S8960x5120 32 := broadcastInDim S8960x5120 ![] bcast_S_S8960x5120 main_c_12
  let main_v84 : IVec S8960x5120 1 := cmpi .sge main_v76 main_v83
  let main_c_13 : IVec S_ 32 := constantI S_ 32 16#32
  let main_v85 : IVec S8960x5120 32 := broadcastInDim S8960x5120 ![] bcast_S_S8960x5120 main_c_13
  let main_v86 : IVec S8960x5120 32 := subi main_v76 main_v85
  let main_v87 : IVec S8960x5120 32 := fn_where_0 (F := F) main_v84 main_v86 main_v76
  let main_v88 : FVec F S8960x5120 .bf16 := sitofp .bf16 main_v87
  let main_v89 : FVec F S70x5120 .bf16 := (extractStridedSlice S70x5120 ![0, 0] · slices_S140x5120_S70x5120_0_0) main_arg5
  let main_v90 : FVec F S70x128x5120 .bf16 := shapeCast S70x128x5120 main_v82 shapeCasts_S8960x5120_S70x128x5120
  let main_v91 : FVec F S70x1x5120 .bf16 := broadcastInDim S70x1x5120 ![0, 2] bcast_S70x5120_S70x1x5120_0_2 main_v89
  let main_v92 : FVec F S70x128x5120 .bf16 := broadcastInDim S70x128x5120 ![0, 1, 2] bcast_S70x1x5120_S70x128x5120_0_1_2 main_v91
  let main_v93 : FVec F S70x128x5120 .bf16 := mulf main_v90 main_v92
  let main_v94 : FVec F S8960x5120 .bf16 := shapeCast S8960x5120 main_v93 shapeCasts_S70x128x5120_S8960x5120
  let main_v95 : FVec F S70x5120 .bf16 := (extractStridedSlice S70x5120 ![70, 0] · slices_S140x5120_S70x5120_70_0) main_arg5
  let main_v96 : FVec F S70x128x5120 .bf16 := shapeCast S70x128x5120 main_v88 shapeCasts_S8960x5120_S70x128x5120
  let main_v97 : FVec F S70x1x5120 .bf16 := broadcastInDim S70x1x5120 ![0, 2] bcast_S70x5120_S70x1x5120_0_2 main_v95
  let main_v98 : FVec F S70x128x5120 .bf16 := broadcastInDim S70x128x5120 ![0, 1, 2] bcast_S70x1x5120_S70x128x5120_0_1_2 main_v97
  let main_v99 : FVec F S70x128x5120 .bf16 := mulf main_v96 main_v98
  let main_v100 : FVec F S8960x5120 .bf16 := shapeCast S8960x5120 main_v99 shapeCasts_S70x128x5120_S8960x5120
  let main_v101 : FVec F S36x8960 .bf16 := (extractStridedSlice S36x8960 ![0, 0] · slices_S36x17920_S36x8960_0_0) main_v71
  let main_v102 : FVec F S36x5120 .f32 := (fun l r => Host.dotGeneral dot_S36x8960_S8960x5120_S36x5120_1_0_0_1_n_n none l r) main_v101 main_v94
  let main_v103 : FVec F S36x8960 .bf16 := (extractStridedSlice S36x8960 ![0, 8960] · slices_S36x17920_S36x8960_0_8960) main_v71
  fn_part5 (F := F) main_arg8 main_arg9 main_v1 main_v8 main_v71 main_v100 main_v102 main_v103

def fn_part3 {F : FTy → Type} [FloatOps F] (main_arg4 : IVec S8960x5120 8) (main_arg5 : FVec F S140x5120 .bf16) (main_arg8 : FVec F S7x17920x16 .bf16) (main_arg9 : FVec F S7x16x5120 .bf16) (main_v1 : FVec F S36x7 .f32) (main_v8 : FVec F S36 .f32) (main_v60 : FVec F S36x17920 .f32) (main_v62 : FVec F S36x17920 .f32) (main_v63 : FVec F S36x17920 .f32) : IVec S36x1x5120 1 × IVec S36x1x17920 1 × IVec S36x32 1 × IVec S36x16 1 × IVec S36x1x5120 1 × IVec S36x1x40 1 :=
  let main_v64 : FVec F S36x17920 .f32 := Host.exp main_v63
  let main_cst : FVec F S_ .f32 := constant S_ .f32 0x3F800000#32
  let main_v65 : FVec F S36x17920 .f32 := broadcastInDim S36x17920 ![] bcast_S_S36x17920 main_cst
  let main_v66 : FVec F S36x17920 .f32 := addf main_v65 main_v64
  let main_cst_7 : FVec F S_ .f32 := constant S_ .f32 0x3F800000#32
  let main_v67 : FVec F S36x17920 .f32 := broadcastInDim S36x17920 ![] bcast_S_S36x17920 main_cst_7
  let main_v68 : FVec F S36x17920 .f32 := Host.divf main_v67 main_v66
  let main_v69 : FVec F S36x17920 .f32 := mulf main_v60 main_v68
  let main_v70 : FVec F S36x17920 .f32 := mulf main_v69 main_v62
  let main_v71 : FVec F S36x17920 .bf16 := (truncf .bf16 · bitsLt_bf16_f32) main_v70
  let main_v72 : IVec S8960x5120 32 := (extui 32 · natLt_8_32) main_arg4
  let main_c_8 : IVec S_ 32 := constantI S_ 32 15#32
  let main_v73 : IVec S8960x5120 32 := broadcastInDim S8960x5120 ![] bcast_S_S8960x5120 main_c_8
  let main_v74 : IVec S8960x5120 32 := andi main_v72 main_v73
  let main_c_9 : IVec S_ 32 := constantI S_ 32 4#32
  let main_v75 : IVec S8960x5120 32 := broadcastInDim S8960x5120 ![] bcast_S_S8960x5120 main_c_9
  let main_v76 : IVec S8960x5120 32 := Host.shrsi main_v72 main_v75
  let main_c_10 : IVec S_ 32 := constantI S_ 32 8#32
  let main_v77 : IVec S8960x5120 32 := broadcastInDim S8960x5120 ![] bcast_S_S8960x5120 main_c_10
  let main_v78 : IVec S8960x5120 1 := cmpi .sge main_v74 main_v77
  let main_c_11 : IVec S_ 32 := constantI S_ 32 16#32
  let main_v79 : IVec S8960x5120 32 := broadcastInDim S8960x5120 ![] bcast_S_S8960x5120 main_c_11
  let main_v80 : IVec S8960x5120 32 := subi main_v74 main_v79
  let main_v81 : IVec S8960x5120 32 := fn_where_0 (F := F) main_v78 main_v80 main_v74
  fn_part4 (F := F) main_arg5 main_arg8 main_arg9 main_v1 main_v8 main_v71 main_v76 main_v81

def fn_part2 {F : FTy → Type} [FloatOps F] (main_arg4 : IVec S8960x5120 8) (main_arg5 : FVec F S140x5120 .bf16) (main_arg6 : FVec F S7x5120x32 .bf16) (main_arg7 : FVec F S7x2x16x17920 .bf16) (main_arg8 : FVec F S7x17920x16 .bf16) (main_arg9 : FVec F S7x16x5120 .bf16) (main_v0 : FVec F S36x5120 .bf16) (main_v1 : FVec F S36x7 .f32) (main_v8 : FVec F S36 .f32) (main_v37 : FVec F S2560x35840 .bf16) (main_v39 : FVec F S36x35840 .f32) : IVec S36x1x5120 1 × IVec S36x1x17920 1 × IVec S36x32 1 × IVec S36x16 1 × IVec S36x1x5120 1 × IVec S36x1x40 1 :=
  let main_v40 : FVec F S36x2560 .bf16 := (extractStridedSlice S36x2560 ![0, 2560] · slices_S36x5120_S36x2560_0_2560) main_v0
  let main_v41 : FVec F S36x35840 .f32 := (fun l r => Host.dotGeneral dot_S36x2560_S2560x35840_S36x35840_1_0_0_1_n_n none l r) main_v40 main_v37
  let main_v42 : FVec F S36x35840 .f32 := addf main_v39 main_v41
  let main_v43 : FVec F S36x7x32 .f32 := (fun l r => Host.dotGeneral dot_S36x5120_S7x5120x32_S36x7x32_1_1_0_02_n_n none l r) main_v0 main_arg6
  let main_v44 : FVec F S36x32 .f32 := (fun l r => Host.dotGeneral dot_S36x7_S36x7x32_S36x32_1_1_n_2_0_0 (some .fp32) l r) main_v1 main_v43
  let main_v45 : FVec F S36x1 .f32 := broadcastInDim S36x1 ![0] bcast_S36_S36x1_0 main_v8
  let main_v46 : FVec F S36x32 .f32 := broadcastInDim S36x32 ![0, 1] bcast_S36x1_S36x32_0_1 main_v45
  let main_v47 : FVec F S36x32 .f32 := mulf main_v44 main_v46
  let main_v48 : FVec F S36x32 .bf16 := (truncf .bf16 · bitsLt_bf16_f32) main_v47
  let main_v49 : FVec F S36x7 .bf16 := (truncf .bf16 · bitsLt_bf16_f32) main_v1
  let main_v50 : FVec F S36x7x1x1 .bf16 := broadcastInDim S36x7x1x1 ![0, 1] bcast_S36x7_S36x7x1x1_0_1 main_v49
  let main_v51 : FVec F S36x1x2x16 .bf16 := shapeCast S36x1x2x16 main_v48 shapeCasts_S36x32_S36x1x2x16
  let main_v52 : FVec F S36x7x2x16 .bf16 := broadcastInDim S36x7x2x16 ![0, 1, 2, 3] bcast_S36x7x1x1_S36x7x2x16_0_1_2_3 main_v50
  let main_v53 : FVec F S36x7x2x16 .bf16 := broadcastInDim S36x7x2x16 ![0, 1, 2, 3] bcast_S36x1x2x16_S36x7x2x16_0_1_2_3 main_v51
  let main_v54 : FVec F S36x7x2x16 .bf16 := mulf main_v52 main_v53
  let main_v55 : FVec F S2x17920x36 .f32 := (fun l r => Host.dotGeneral dot_S7x2x16x17920_S36x7x2x16_S2x17920x36_02_13_3_0_1_2 none l r) main_arg7 main_v54
  let main_v56 : FVec F S36x2x17920 .f32 := (transpose S36x2x17920 [2, 0, 1] · transposes_S2x17920x36_S36x2x17920_2_0_1) main_v55
  let main_v57 : FVec F S36x2x17920 .f32 := shapeCast S36x2x17920 main_v42 shapeCasts_S36x35840_S36x2x17920
  let main_v58 : FVec F S36x2x17920 .f32 := addf main_v57 main_v56
  let main_v59 : FVec F S36x1x17920 .f32 := (extractStridedSlice S36x1x17920 ![0, 0, 0] · slices_S36x2x17920_S36x1x17920_0_0_0) main_v58
  let main_v60 : FVec F S36x17920 .f32 := shapeCast S36x17920 main_v59 shapeCasts_S36x1x17920_S36x17920
  let main_v61 : FVec F S36x1x17920 .f32 := (extractStridedSlice S36x1x17920 ![0, 1, 0] · slices_S36x2x17920_S36x1x17920_0_1_0) main_v58
  let main_v62 : FVec F S36x17920 .f32 := shapeCast S36x17920 main_v61 shapeCasts_S36x1x17920_S36x17920
  let main_v63 : FVec F S36x17920 .f32 := Host.negf main_v60
  fn_part3 (F := F) main_arg4 main_arg5 main_arg8 main_arg9 main_v1 main_v8 main_v60 main_v62 main_v63

def fn_part1 {F : FTy → Type} [FloatOps F] (main_arg3 : FVec F S40x35840 .bf16) (main_arg4 : IVec S8960x5120 8) (main_arg5 : FVec F S140x5120 .bf16) (main_arg6 : FVec F S7x5120x32 .bf16) (main_arg7 : FVec F S7x2x16x17920 .bf16) (main_arg8 : FVec F S7x17920x16 .bf16) (main_arg9 : FVec F S7x16x5120 .bf16) (main_v0 : FVec F S36x5120 .bf16) (main_v1 : FVec F S36x7 .f32) (main_v8 : FVec F S36 .f32) (main_v11 : IVec S2560x35840 32) (main_v13 : IVec S2560x35840 32) (main_v15 : IVec S2560x35840 1) (main_v17 : IVec S2560x35840 32) : IVec S36x1x5120 1 × IVec S36x1x17920 1 × IVec S36x32 1 × IVec S36x16 1 × IVec S36x1x5120 1 × IVec S36x1x40 1 :=
  let main_v18 : IVec S2560x35840 32 := fn_where (F := F) main_v15 main_v17 main_v11
  let main_v19 : FVec F S2560x35840 .bf16 := sitofp .bf16 main_v18
  let main_c_5 : IVec S_ 32 := constantI S_ 32 8#32
  let main_v20 : IVec S2560x35840 32 := broadcastInDim S2560x35840 ![] bcast_S_S2560x35840 main_c_5
  let main_v21 : IVec S2560x35840 1 := cmpi .sge main_v13 main_v20
  let main_c_6 : IVec S_ 32 := constantI S_ 32 16#32
  let main_v22 : IVec S2560x35840 32 := broadcastInDim S2560x35840 ![] bcast_S_S2560x35840 main_c_6
  let main_v23 : IVec S2560x35840 32 := subi main_v13 main_v22
  let main_v24 : IVec S2560x35840 32 := fn_where (F := F) main_v21 main_v23 main_v13
  let main_v25 : FVec F S2560x35840 .bf16 := sitofp .bf16 main_v24
  let main_v26 : FVec F S20x35840 .bf16 := (extractStridedSlice S20x35840 ![0, 0] · slices_S40x35840_S20x35840_0_0) main_arg3
  let main_v27 : FVec F S20x128x35840 .bf16 := shapeCast S20x128x35840 main_v19 shapeCasts_S2560x35840_S20x128x35840
  let main_v28 : FVec F S20x1x35840 .bf16 := broadcastInDim S20x1x35840 ![0, 2] bcast_S20x35840_S20x1x35840_0_2 main_v26
  let main_v29 : FVec F S20x128x35840 .bf16 := broadcastInDim S20x128x35840 ![0, 1, 2] bcast_S20x1x35840_S20x128x35840_0_1_2 main_v28
  let main_v30 : FVec F S20x128x35840 .bf16 := mulf main_v27 main_v29
  let main_v31 : FVec F S2560x35840 .bf16 := shapeCast S2560x35840 main_v30 shapeCasts_S20x128x35840_S2560x35840
  let main_v32 : FVec F S20x35840 .bf16 := (extractStridedSlice S20x35840 ![20, 0] · slices_S40x35840_S20x35840_20_0) main_arg3
  let main_v33 : FVec F S20x128x35840 .bf16 := shapeCast S20x128x35840 main_v25 shapeCasts_S2560x35840_S20x128x35840
  let main_v34 : FVec F S20x1x35840 .bf16 := broadcastInDim S20x1x35840 ![0, 2] bcast_S20x35840_S20x1x35840_0_2 main_v32
  let main_v35 : FVec F S20x128x35840 .bf16 := broadcastInDim S20x128x35840 ![0, 1, 2] bcast_S20x1x35840_S20x128x35840_0_1_2 main_v34
  let main_v36 : FVec F S20x128x35840 .bf16 := mulf main_v33 main_v35
  let main_v37 : FVec F S2560x35840 .bf16 := shapeCast S2560x35840 main_v36 shapeCasts_S20x128x35840_S2560x35840
  let main_v38 : FVec F S36x2560 .bf16 := (extractStridedSlice S36x2560 ![0, 0] · slices_S36x5120_S36x2560_0_0) main_v0
  let main_v39 : FVec F S36x35840 .f32 := (fun l r => Host.dotGeneral dot_S36x2560_S2560x35840_S36x35840_1_0_0_1_n_n none l r) main_v38 main_v31
  fn_part2 (F := F) main_arg4 main_arg5 main_arg6 main_arg7 main_arg8 main_arg9 main_v0 main_v1 main_v8 main_v37 main_v39

def fn {F : FTy → Type} [FloatOps F] (main_arg0 : FVec F S36x1x5120 .bf16) (main_arg1 : IVec S36 32) (main_arg2 : IVec S2560x35840 8) (main_arg3 : FVec F S40x35840 .bf16) (main_arg4 : IVec S8960x5120 8) (main_arg5 : FVec F S140x5120 .bf16) (main_arg6 : FVec F S7x5120x32 .bf16) (main_arg7 : FVec F S7x2x16x17920 .bf16) (main_arg8 : FVec F S7x17920x16 .bf16) (main_arg9 : FVec F S7x16x5120 .bf16) (main_arg10 : FVec F S7 .f32) : IVec S36x1x5120 1 × IVec S36x1x17920 1 × IVec S36x32 1 × IVec S36x16 1 × IVec S36x1x5120 1 × IVec S36x1x40 1 :=
  let main_v0 : FVec F S36x5120 .bf16 := shapeCast S36x5120 main_arg0 shapeCasts_S36x1x5120_S36x5120
  let main_v1 : FVec F S36x7 .f32 := fn_one_hot (F := F) main_arg1
  let main_c : IVec S_ 32 := constantI S_ 32 0#32
  let main_v2 : IVec S36 32 := broadcastInDim S36 ![] bcast_S_S36 main_c
  let main_v3 : IVec S36 1 := cmpi .slt main_arg1 main_v2
  let main_c_0 : IVec S_ 32 := constantI S_ 32 7#32
  let main_v4 : IVec S36 32 := broadcastInDim S36 ![] bcast_S_S36 main_c_0
  let main_v5 : IVec S36 32 := addi main_arg1 main_v4
  let main_v6 : IVec S36 32 := select main_v3 main_v5 main_arg1
  let main_v7 : IVec S36x1 32 := broadcastInDim S36x1 ![0] bcast_S36_S36x1_0 main_v6
  let main_v8 : FVec F S36 .f32 := (fun x i => Host.gather gather_S7_S36x1_S36_n_0_n_n_0_1_1 x i) main_arg10 main_v7
  let main_v9 : IVec S2560x35840 32 := (extui 32 · natLt_8_32) main_arg2
  let main_c_1 : IVec S_ 32 := constantI S_ 32 15#32
  let main_v10 : IVec S2560x35840 32 := broadcastInDim S2560x35840 ![] bcast_S_S2560x35840 main_c_1
  let main_v11 : IVec S2560x35840 32 := andi main_v9 main_v10
  let main_c_2 : IVec S_ 32 := constantI S_ 32 4#32
  let main_v12 : IVec S2560x35840 32 := broadcastInDim S2560x35840 ![] bcast_S_S2560x35840 main_c_2
  let main_v13 : IVec S2560x35840 32 := Host.shrsi main_v9 main_v12
  let main_c_3 : IVec S_ 32 := constantI S_ 32 8#32
  let main_v14 : IVec S2560x35840 32 := broadcastInDim S2560x35840 ![] bcast_S_S2560x35840 main_c_3
  let main_v15 : IVec S2560x35840 1 := cmpi .sge main_v11 main_v14
  let main_c_4 : IVec S_ 32 := constantI S_ 32 16#32
  let main_v16 : IVec S2560x35840 32 := broadcastInDim S2560x35840 ![] bcast_S_S2560x35840 main_c_4
  let main_v17 : IVec S2560x35840 32 := subi main_v11 main_v16
  fn_part1 (F := F) main_arg3 main_arg4 main_arg5 main_arg6 main_arg7 main_arg8 main_arg9 main_v0 main_v1 main_v8 main_v11 main_v13 main_v15 main_v17
-- ==== Kernel.lean ====
abbrev S36x1x5120 : Shape := ⟨3, ![36, 1, 5120]⟩
abbrev S36 : Shape := ⟨1, ![36]⟩
abbrev S2560x35840 : Shape := ⟨2, ![2560, 35840]⟩
abbrev S40x35840 : Shape := ⟨2, ![40, 35840]⟩
abbrev S8960x5120 : Shape := ⟨2, ![8960, 5120]⟩
abbrev S140x5120 : Shape := ⟨2, ![140, 5120]⟩
abbrev S7x5120x32 : Shape := ⟨3, ![7, 5120, 32]⟩
abbrev S7x2x16x17920 : Shape := ⟨4, ![7, 2, 16, 17920]⟩
abbrev S7x17920x16 : Shape := ⟨3, ![7, 17920, 16]⟩
abbrev S7x16x5120 : Shape := ⟨3, ![7, 16, 5120]⟩
abbrev S7 : Shape := ⟨1, ![7]⟩
abbrev S36x5120 : Shape := ⟨2, ![36, 5120]⟩
abbrev S_ : Shape := ⟨0, ![]⟩
abbrev S48x5120 : Shape := ⟨2, ![48, 5120]⟩
abbrev S48 : Shape := ⟨1, ![48]⟩
abbrev S48x1 : Shape := ⟨2, ![48, 1]⟩
abbrev S48x1x1 : Shape := ⟨3, ![48, 1, 1]⟩
abbrev S48x17920 : Shape := ⟨2, ![48, 17920]⟩
abbrev S48x32 : Shape := ⟨2, ![48, 32]⟩
abbrev S2560x256 : Shape := ⟨2, ![2560, 256]⟩
abbrev S40x256 : Shape := ⟨2, ![40, 256]⟩
abbrev S7x2x16x256 : Shape := ⟨4, ![7, 2, 16, 256]⟩
abbrev S48x256 : Shape := ⟨2, ![48, 256]⟩
abbrev S2x48x112 : Shape := ⟨3, ![2, 48, 112]⟩
abbrev S1x5120x32 : Shape := ⟨3, ![1, 5120, 32]⟩
abbrev S5120x32 : Shape := ⟨2, ![5120, 32]⟩
abbrev S48x16 : Shape := ⟨2, ![48, 16]⟩
abbrev S1x48x16 : Shape := ⟨3, ![1, 48, 16]⟩
abbrev S256x256 : Shape := ⟨2, ![256, 256]⟩
abbrev S64x256 : Shape := ⟨2, ![64, 256]⟩
abbrev S2x256 : Shape := ⟨2, ![2, 256]⟩
abbrev S128x256 : Shape := ⟨2, ![128, 256]⟩
abbrev S1x256 : Shape := ⟨2, ![1, 256]⟩
abbrev S1x1x16x256 : Shape := ⟨4, ![1, 1, 16, 256]⟩
abbrev S16x256 : Shape := ⟨2, ![16, 256]⟩
abbrev S112x256 : Shape := ⟨2, ![112, 256]⟩
abbrev S1x48x112 : Shape := ⟨3, ![1, 48, 112]⟩
abbrev S48x112 : Shape := ⟨2, ![48, 112]⟩
abbrev S20x48x2 : Shape := ⟨3, ![20, 48, 2]⟩
abbrev S8960x256 : Shape := ⟨2, ![8960, 256]⟩
abbrev S140x256 : Shape := ⟨2, ![140, 256]⟩
abbrev S7x16x256 : Shape := ⟨3, ![7, 16, 256]⟩
abbrev S1x48x2 : Shape := ⟨3, ![1, 48, 2]⟩
abbrev S1x17920x16 : Shape := ⟨3, ![1, 17920, 16]⟩
abbrev S17920x16 : Shape := ⟨2, ![17920, 16]⟩
abbrev S1x16x256 : Shape := ⟨3, ![1, 16, 256]⟩
abbrev S48x128 : Shape := ⟨2, ![48, 128]⟩
abbrev S1x48x1 : Shape := ⟨3, ![1, 48, 1]⟩
abbrev S48x20x2 : Shape := ⟨3, ![48, 20, 2]⟩
abbrev S48x40 : Shape := ⟨2, ![48, 40]⟩
abbrev S36x17920 : Shape := ⟨2, ![36, 17920]⟩
abbrev S36x1x17920 : Shape := ⟨3, ![36, 1, 17920]⟩
abbrev S36x32 : Shape := ⟨2, ![36, 32]⟩
abbrev S36x16 : Shape := ⟨2, ![36, 16]⟩
abbrev S36x40 : Shape := ⟨2, ![36, 40]⟩
abbrev S36x1x40 : Shape := ⟨3, ![36, 1, 40]⟩

abbrev nBuf : Space → Nat
  | .hbm => 46
  | .vmem => 36
  | .smem => 0
  | _ => 0

abbrev bufTy : (tb : Table) → Fin (tcTables nBuf tb) → BufTy
  | .hbm, ⟨0, _⟩ => ⟨S36x1x5120, .bf16⟩
  | .hbm, ⟨1, _⟩ => ⟨S36, .i32⟩
  | .hbm, ⟨2, _⟩ => ⟨S2560x35840, .i8⟩
  | .hbm, ⟨3, _⟩ => ⟨S40x35840, .bf16⟩
  | .hbm, ⟨4, _⟩ => ⟨S8960x5120, .i8⟩
  | .hbm, ⟨5, _⟩ => ⟨S140x5120, .bf16⟩
  | .hbm, ⟨6, _⟩ => ⟨S7x5120x32, .bf16⟩
  | .hbm, ⟨7, _⟩ => ⟨S7x2x16x17920, .bf16⟩
  | .hbm, ⟨8, _⟩ => ⟨S7x17920x16, .bf16⟩
  | .hbm, ⟨9, _⟩ => ⟨S7x16x5120, .bf16⟩
  | .hbm, ⟨10, _⟩ => ⟨S7, .f32⟩
  | .hbm, ⟨11, _⟩ => ⟨S36x5120, .bf16⟩
  | .hbm, ⟨12, _⟩ => ⟨S_, .i32⟩
  | .hbm, ⟨13, _⟩ => ⟨S_, .bf16⟩
  | .hbm, ⟨14, _⟩ => ⟨S48x5120, .bf16⟩
  | .hbm, ⟨15, _⟩ => ⟨S_, .i32⟩
  | .hbm, ⟨16, _⟩ => ⟨S_, .i32⟩
  | .hbm, ⟨17, _⟩ => ⟨S48, .i32⟩
  | .hbm, ⟨18, _⟩ => ⟨S48x1, .i32⟩
  | .hbm, ⟨19, _⟩ => ⟨S_, .i32⟩
  | .hbm, ⟨20, _⟩ => ⟨S48x1, .i32⟩
  | .hbm, ⟨21, _⟩ => ⟨S48x1, .i1⟩
  | .hbm, ⟨22, _⟩ => ⟨S_, .i32⟩
  | .hbm, ⟨23, _⟩ => ⟨S48x1, .i32⟩
  | .hbm, ⟨24, _⟩ => ⟨S48x1, .i32⟩
  | .hbm, ⟨25, _⟩ => ⟨S48x1, .i32⟩
  | .hbm, ⟨26, _⟩ => ⟨S48x1x1, .i32⟩
  | .hbm, ⟨27, _⟩ => ⟨S48x1, .f32⟩
  | .hbm, ⟨28, _⟩ => ⟨S48x17920, .bf16⟩
  | .hbm, ⟨29, _⟩ => ⟨S48x32, .bf16⟩
  | .hbm, ⟨30, _⟩ => ⟨S48x5120, .bf16⟩
  | .hbm, ⟨31, _⟩ => ⟨S48x5120, .fp8e4m3⟩
  | .hbm, ⟨32, _⟩ => ⟨S20x48x2, .f32⟩
  | .hbm, ⟨33, _⟩ => ⟨S48x16, .bf16⟩
  | .hbm, ⟨34, _⟩ => ⟨S48x20x2, .f32⟩
  | .hbm, ⟨35, _⟩ => ⟨S48x40, .f32⟩
  | .hbm, ⟨36, _⟩ => ⟨S36x5120, .bf16⟩
  | .hbm, ⟨37, _⟩ => ⟨S36x1x5120, .bf16⟩
  | .hbm, ⟨38, _⟩ => ⟨S36x17920, .bf16⟩
  | .hbm, ⟨39, _⟩ => ⟨S36x1x17920, .bf16⟩
  | .hbm, ⟨40, _⟩ => ⟨S36x32, .bf16⟩
  | .hbm, ⟨41, _⟩ => ⟨S36x16, .bf16⟩
  | .hbm, ⟨42, _⟩ => ⟨S36x5120, .fp8e4m3⟩
  | .hbm, ⟨43, _⟩ => ⟨S36x1x5120, .fp8e4m3⟩
  | .hbm, ⟨44, _⟩ => ⟨S36x40, .f32⟩
  | .hbm, ⟨45, _⟩ => ⟨S36x1x40, .f32⟩
  | .local _ .vmem, ⟨0, _⟩ => ⟨S48x1, .i32⟩
  | .local _ .vmem, ⟨1, _⟩ => ⟨S48x1, .f32⟩
  | .local _ .vmem, ⟨2, _⟩ => ⟨S48x5120, .bf16⟩
  | .local _ .vmem, ⟨3, _⟩ => ⟨S2560x256, .i8⟩
  | .local _ .vmem, ⟨4, _⟩ => ⟨S2560x256, .i8⟩
  | .local _ .vmem, ⟨5, _⟩ => ⟨S2560x256, .i8⟩
  | .local _ .vmem, ⟨6, _⟩ => ⟨S2560x256, .i8⟩
  | .local _ .vmem, ⟨7, _⟩ => ⟨S40x256, .bf16⟩
  | .local _ .vmem, ⟨8, _⟩ => ⟨S40x256, .bf16⟩
  | .local _ .vmem, ⟨9, _⟩ => ⟨S40x256, .bf16⟩
  | .local _ .vmem, ⟨10, _⟩ => ⟨S40x256, .bf16⟩
  | .local _ .vmem, ⟨11, _⟩ => ⟨S7x5120x32, .bf16⟩
  | .local _ .vmem, ⟨12, _⟩ => ⟨S7x2x16x256, .bf16⟩
  | .local _ .vmem, ⟨13, _⟩ => ⟨S7x2x16x256, .bf16⟩
  | .local _ .vmem, ⟨14, _⟩ => ⟨S48x256, .bf16⟩
  | .local _ .vmem, ⟨15, _⟩ => ⟨S48x256, .bf16⟩
  | .local _ .vmem, ⟨16, _⟩ => ⟨S48x32, .bf16⟩
  | .local _ .vmem, ⟨17, _⟩ => ⟨S2x48x112, .bf16⟩
  | .local _ .vmem, ⟨18, _⟩ => ⟨S48x1, .i32⟩
  | .local _ .vmem, ⟨19, _⟩ => ⟨S48x1, .f32⟩
  | .local _ .vmem, ⟨20, _⟩ => ⟨S48x17920, .bf16⟩
  | .local _ .vmem, ⟨21, _⟩ => ⟨S8960x256, .i8⟩
  | .local _ .vmem, ⟨22, _⟩ => ⟨S8960x256, .i8⟩
  | .local _ .vmem, ⟨23, _⟩ => ⟨S140x256, .bf16⟩
  | .local _ .vmem, ⟨24, _⟩ => ⟨S140x256, .bf16⟩
  | .local _ .vmem, ⟨25, _⟩ => ⟨S7x17920x16, .bf16⟩
  | .local _ .vmem, ⟨26, _⟩ => ⟨S7x16x256, .bf16⟩
  | .local _ .vmem, ⟨27, _⟩ => ⟨S7x16x256, .bf16⟩
  | .local _ .vmem, ⟨28, _⟩ => ⟨S48x256, .bf16⟩
  | .local _ .vmem, ⟨29, _⟩ => ⟨S48x256, .bf16⟩
  | .local _ .vmem, ⟨30, _⟩ => ⟨S48x256, .fp8e4m3⟩
  | .local _ .vmem, ⟨31, _⟩ => ⟨S48x256, .fp8e4m3⟩
  | .local _ .vmem, ⟨32, _⟩ => ⟨S1x48x2, .f32⟩
  | .local _ .vmem, ⟨33, _⟩ => ⟨S1x48x2, .f32⟩
  | .local _ .vmem, ⟨34, _⟩ => ⟨S48x16, .bf16⟩
  | .local _ .vmem, ⟨35, _⟩ => ⟨S48x112, .bf16⟩
  | _, _ => ⟨S36x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_v4 : Ref sig .tc := ⟨.hbm, 20, rfl⟩
abbrev main_v5 : Ref sig .tc := ⟨.hbm, 21, rfl⟩
abbrev main_c_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v12_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_scratch0 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc1_sem0_0 : DmaSem sig := 17
abbrev cc1_sem1_0 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33

abbrev nD : Nat := 1
abbrev τ : Topo := Topo.v7x

variable {F : FTy → Type} [FloatOps F]

abbrev grid0 : Pipeline.Grid := ⟨1, ![70], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c70_i32 : BitVec 32 := 70#32
  let v0 : BitVec 32 := Scalar.addi arg0 c70_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c70_i32 : BitVec 32 := 70#32
  let v0 : BitVec 32 := Scalar.addi arg0 c70_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S48x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S48x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2560x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S40x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S40x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S7x5120x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S7x2x16x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S48x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S48x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![20], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S48x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S48x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S48x17920 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8960x256 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S140x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S7x17920x16 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S7x16x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S48x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S48x256 .fp8e4m3 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x48x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S48x16 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== ReferenceIdeal.lean ====
abbrev S36x1x5120 : Shape := ⟨3, ![36, 1, 5120]⟩
abbrev S36 : Shape := ⟨1, ![36]⟩
abbrev S2560x35840 : Shape := ⟨2, ![2560, 35840]⟩
abbrev S40x35840 : Shape := ⟨2, ![40, 35840]⟩
abbrev S8960x5120 : Shape := ⟨2, ![8960, 5120]⟩
abbrev S140x5120 : Shape := ⟨2, ![140, 5120]⟩
abbrev S7x5120x32 : Shape := ⟨3, ![7, 5120, 32]⟩
abbrev S7x2x16x17920 : Shape := ⟨4, ![7, 2, 16, 17920]⟩
abbrev S7x17920x16 : Shape := ⟨3, ![7, 17920, 16]⟩
abbrev S7x16x5120 : Shape := ⟨3, ![7, 16, 5120]⟩
abbrev S7 : Shape := ⟨1, ![7]⟩
abbrev S36x5120 : Shape := ⟨2, ![36, 5120]⟩
abbrev S36x1 : Shape := ⟨2, ![36, 1]⟩
abbrev S1x7 : Shape := ⟨2, ![1, 7]⟩
abbrev S36x7 : Shape := ⟨2, ![36, 7]⟩
abbrev S_ : Shape := ⟨0, ![]⟩
abbrev S20x35840 : Shape := ⟨2, ![20, 35840]⟩
abbrev S20x128x35840 : Shape := ⟨3, ![20, 128, 35840]⟩
abbrev S20x1x35840 : Shape := ⟨3, ![20, 1, 35840]⟩
abbrev S36x2560 : Shape := ⟨2, ![36, 2560]⟩
abbrev S36x35840 : Shape := ⟨2, ![36, 35840]⟩
abbrev S36x7x32 : Shape := ⟨3, ![36, 7, 32]⟩
abbrev S36x32 : Shape := ⟨2, ![36, 32]⟩
abbrev S36x7x1x1 : Shape := ⟨4, ![36, 7, 1, 1]⟩
abbrev S36x1x2x16 : Shape := ⟨4, ![36, 1, 2, 16]⟩
abbrev S36x7x2x16 : Shape := ⟨4, ![36, 7, 2, 16]⟩
abbrev S2x17920x36 : Shape := ⟨3, ![2, 17920, 36]⟩
abbrev S36x2x17920 : Shape := ⟨3, ![36, 2, 17920]⟩
abbrev S36x1x17920 : Shape := ⟨3, ![36, 1, 17920]⟩
abbrev S36x17920 : Shape := ⟨2, ![36, 17920]⟩
abbrev S70x5120 : Shape := ⟨2, ![70, 5120]⟩
abbrev S70x128x5120 : Shape := ⟨3, ![70, 128, 5120]⟩
abbrev S70x1x5120 : Shape := ⟨3, ![70, 1, 5120]⟩
abbrev S36x8960 : Shape := ⟨2, ![36, 8960]⟩
abbrev S36x7x16 : Shape := ⟨3, ![36, 7, 16]⟩
abbrev S36x16 : Shape := ⟨2, ![36, 16]⟩
abbrev S36x7x1 : Shape := ⟨3, ![36, 7, 1]⟩
abbrev S36x1x16 : Shape := ⟨3, ![36, 1, 16]⟩
abbrev S36x1x40x128 : Shape := ⟨4, ![36, 1, 40, 128]⟩
abbrev S36x1x40 : Shape := ⟨3, ![36, 1, 40]⟩
abbrev S254 : Shape := ⟨1, ![254]⟩
abbrev S36x1x40x1 : Shape := ⟨4, ![36, 1, 40, 1]⟩
abbrev S1x1x1x254 : Shape := ⟨4, ![1, 1, 1, 254]⟩
abbrev S36x1x40x254 : Shape := ⟨4, ![36, 1, 40, 254]⟩

abbrev nBuf : Space → Nat
  | .hbm => 196
  | .vmem => 3
  | .smem => 0
  | _ => 0

abbrev hbmTy0_0 (i : Nat) : BufTy := match i % 128 with
  | 0 => ⟨S36x1x5120, .bf16⟩
  | 1 => ⟨S36, .i32⟩
  | 2 => ⟨S2560x35840, .i8⟩
  | 3 => ⟨S40x35840, .bf16⟩
  | 4 => ⟨S8960x5120, .i8⟩
  | 5 => ⟨S140x5120, .bf16⟩
  | 6 => ⟨S7x5120x32, .bf16⟩
  | 7 => ⟨S7x2x16x17920, .bf16⟩
  | 8 => ⟨S7x17920x16, .bf16⟩
  | 9 => ⟨S7x16x5120, .bf16⟩
  | 10 => ⟨S7, .f32⟩
  | 11 => ⟨S36x5120, .bf16⟩
  | 12 => ⟨S36x1, .i32⟩
  | 13 => ⟨S1x7, .i32⟩
  | 14 => ⟨S36x7, .i32⟩
  | 15 => ⟨S36x7, .i32⟩
  | 16 => ⟨S36x7, .i1⟩
  | 17 => ⟨S36x7, .f32⟩
  | 18 => ⟨S_, .i32⟩
  | 19 => ⟨S36, .i32⟩
  | 20 => ⟨S36, .i1⟩
  | 21 => ⟨S_, .i32⟩
  | 22 => ⟨S36, .i32⟩
  | 23 => ⟨S36, .i32⟩
  | 24 => ⟨S36, .i32⟩
  | 25 => ⟨S36x1, .i32⟩
  | 26 => ⟨S36, .f32⟩
  | 27 => ⟨S2560x35840, .i32⟩
  | 28 => ⟨S_, .i32⟩
  | 29 => ⟨S2560x35840, .i32⟩
  | 30 => ⟨S2560x35840, .i32⟩
  | 31 => ⟨S_, .i32⟩
  | 32 => ⟨S2560x35840, .i32⟩
  | 33 => ⟨S2560x35840, .i32⟩
  | 34 => ⟨S_, .i32⟩
  | 35 => ⟨S2560x35840, .i32⟩
  | 36 => ⟨S2560x35840, .i1⟩
  | 37 => ⟨S_, .i32⟩
  | 38 => ⟨S2560x35840, .i32⟩
  | 39 => ⟨S2560x35840, .i32⟩
  | 40 => ⟨S2560x35840, .i32⟩
  | 41 => ⟨S2560x35840, .bf16⟩
  | 42 => ⟨S_, .i32⟩
  | 43 => ⟨S2560x35840, .i32⟩
  | 44 => ⟨S2560x35840, .i1⟩
  | 45 => ⟨S_, .i32⟩
  | 46 => ⟨S2560x35840, .i32⟩
  | 47 => ⟨S2560x35840, .i32⟩
  | 48 => ⟨S2560x35840, .i32⟩
  | 49 => ⟨S2560x35840, .bf16⟩
  | 50 => ⟨S20x35840, .bf16⟩
  | 51 => ⟨S20x128x35840, .bf16⟩
  | 52 => ⟨S20x1x35840, .bf16⟩
  | 53 => ⟨S20x128x35840, .bf16⟩
  | 54 => ⟨S20x128x35840, .bf16⟩
  | 55 => ⟨S2560x35840, .bf16⟩
  | 56 => ⟨S20x35840, .bf16⟩
  | 57 => ⟨S20x128x35840, .bf16⟩
  | 58 => ⟨S20x1x35840, .bf16⟩
  | 59 => ⟨S20x128x35840, .bf16⟩
  | 60 => ⟨S20x128x35840, .bf16⟩
  | 61 => ⟨S2560x35840, .bf16⟩
  | 62 => ⟨S36x2560, .bf16⟩
  | 63 => ⟨S36x35840, .f32⟩
  | 64 => ⟨S36x2560, .bf16⟩
  | 65 => ⟨S36x35840, .f32⟩
  | 66 => ⟨S36x35840, .f32⟩
  | 67 => ⟨S36x7x32, .f32⟩
  | 68 => ⟨S36x32, .f32⟩
  | 69 => ⟨S36x1, .f32⟩
  | 70 => ⟨S36x32, .f32⟩
  | 71 => ⟨S36x32, .f32⟩
  | 72 => ⟨S36x32, .bf16⟩
  | 73 => ⟨S36x7, .bf16⟩
  | 74 => ⟨S36x7x1x1, .bf16⟩
  | 75 => ⟨S36x1x2x16, .bf16⟩
  | 76 => ⟨S36x7x2x16, .bf16⟩
  | 77 => ⟨S36x7x2x16, .bf16⟩
  | 78 => ⟨S36x7x2x16, .bf16⟩
  | 79 => ⟨S2x17920x36, .f32⟩
  | 80 => ⟨S36x2x17920, .f32⟩
  | 81 => ⟨S36x2x17920, .f32⟩
  | 82 => ⟨S36x2x17920, .f32⟩
  | 83 => ⟨S36x1x17920, .f32⟩
  | 84 => ⟨S36x17920, .f32⟩
  | 85 => ⟨S36x1x17920, .f32⟩
  | 86 => ⟨S36x17920, .f32⟩
  | 87 => ⟨S36x17920, .f32⟩
  | 88 => ⟨S36x17920, .f32⟩
  | 89 => ⟨S_, .f32⟩
  | 90 => ⟨S36x17920, .f32⟩
  | 91 => ⟨S36x17920, .f32⟩
  | 92 => ⟨S_, .f32⟩
  | 93 => ⟨S36x17920, .f32⟩
  | 94 => ⟨S36x17920, .f32⟩
  | 95 => ⟨S36x17920, .f32⟩
  | 96 => ⟨S36x17920, .f32⟩
  | 97 => ⟨S36x17920, .bf16⟩
  | 98 => ⟨S8960x5120, .i32⟩
  | 99 => ⟨S_, .i32⟩
  | 100 => ⟨S8960x5120, .i32⟩
  | 101 => ⟨S8960x5120, .i32⟩
  | 102 => ⟨S_, .i32⟩
  | 103 => ⟨S8960x5120, .i32⟩
  | 104 => ⟨S8960x5120, .i32⟩
  | 105 => ⟨S_, .i32⟩
  | 106 => ⟨S8960x5120, .i32⟩
  | 107 => ⟨S8960x5120, .i1⟩
  | 108 => ⟨S_, .i32⟩
  | 109 => ⟨S8960x5120, .i32⟩
  | 110 => ⟨S8960x5120, .i32⟩
  | 111 => ⟨S8960x5120, .i32⟩
  | 112 => ⟨S8960x5120, .bf16⟩
  | 113 => ⟨S_, .i32⟩
  | 114 => ⟨S8960x5120, .i32⟩
  | 115 => ⟨S8960x5120, .i1⟩
  | 116 => ⟨S_, .i32⟩
  | 117 => ⟨S8960x5120, .i32⟩
  | 118 => ⟨S8960x5120, .i32⟩
  | 119 => ⟨S8960x5120, .i32⟩
  | 120 => ⟨S8960x5120, .bf16⟩
  | 121 => ⟨S70x5120, .bf16⟩
  | 122 => ⟨S70x128x5120, .bf16⟩
  | 123 => ⟨S70x1x5120, .bf16⟩
  | 124 => ⟨S70x128x5120, .bf16⟩
  | 125 => ⟨S70x128x5120, .bf16⟩
  | 126 => ⟨S8960x5120, .bf16⟩
  | 127 => ⟨S70x5120, .bf16⟩
  | _ => ⟨S36x1x5120, .bf16⟩

abbrev hbmTy0_1 (i : Nat) : BufTy := match i % 128 with
  | 0 => ⟨S70x128x5120, .bf16⟩
  | 1 => ⟨S70x1x5120, .bf16⟩
  | 2 => ⟨S70x128x5120, .bf16⟩
  | 3 => ⟨S70x128x5120, .bf16⟩
  | 4 => ⟨S8960x5120, .bf16⟩
  | 5 => ⟨S36x8960, .bf16⟩
  | 6 => ⟨S36x5120, .f32⟩
  | 7 => ⟨S36x8960, .bf16⟩
  | 8 => ⟨S36x5120, .f32⟩
  | 9 => ⟨S36x5120, .f32⟩
  | 10 => ⟨S36x7x16, .f32⟩
  | 11 => ⟨S36x16, .f32⟩
  | 12 => ⟨S36x1, .f32⟩
  | 13 => ⟨S36x16, .f32⟩
  | 14 => ⟨S36x16, .f32⟩
  | 15 => ⟨S36x16, .bf16⟩
  | 16 => ⟨S36x7, .bf16⟩
  | 17 => ⟨S36x7x1, .bf16⟩
  | 18 => ⟨S36x1x16, .bf16⟩
  | 19 => ⟨S36x7x16, .bf16⟩
  | 20 => ⟨S36x7x16, .bf16⟩
  | 21 => ⟨S36x7x16, .bf16⟩
  | 22 => ⟨S36x5120, .f32⟩
  | 23 => ⟨S36x5120, .f32⟩
  | 24 => ⟨S36x5120, .bf16⟩
  | 25 => ⟨S36x1x5120, .bf16⟩
  | 26 => ⟨S36x1x5120, .f32⟩
  | 27 => ⟨S36x1x40x128, .f32⟩
  | 28 => ⟨S36x1x40x128, .f32⟩
  | 29 => ⟨S_, .f32⟩
  | 30 => ⟨S36x1x40, .f32⟩
  | 31 => ⟨S36x1x17920, .bf16⟩
  | 32 => ⟨S_, .f32⟩
  | 33 => ⟨S36x1x40, .f32⟩
  | 34 => ⟨S36x1x40, .f32⟩
  | 35 => ⟨S254, .i32⟩
  | 36 => ⟨S_, .i32⟩
  | 37 => ⟨S254, .i32⟩
  | 38 => ⟨S254, .i32⟩
  | 39 => ⟨S_, .i32⟩
  | 40 => ⟨S254, .i32⟩
  | 41 => ⟨S254, .i32⟩
  | 42 => ⟨S254, .f32⟩
  | 43 => ⟨S36x1x40x1, .f32⟩
  | 44 => ⟨S1x1x1x254, .f32⟩
  | 45 => ⟨S36x1x40x254, .f32⟩
  | 46 => ⟨S36x1x40x254, .f32⟩
  | 47 => ⟨S36x1x40x254, .i1⟩
  | 48 => ⟨S_, .f32⟩
  | 49 => ⟨S_, .f32⟩
  | 50 => ⟨S36x1x40x254, .f32⟩
  | 51 => ⟨S36x1x40x254, .f32⟩
  | 52 => ⟨S36x1x40x254, .f32⟩
  | 53 => ⟨S_, .f32⟩
  | 54 => ⟨S36x1x40, .f32⟩
  | 55 => ⟨S_, .f32⟩
  | 56 => ⟨S36x1x40, .f32⟩
  | 57 => ⟨S36x1x40, .i1⟩
  | 58 => ⟨S_, .f32⟩
  | 59 => ⟨S36x1x40, .f32⟩
  | 60 => ⟨S36x1x40, .f32⟩
  | 61 => ⟨S_, .f32⟩
  | 62 => ⟨S_, .f32⟩
  | 63 => ⟨S36x1x40, .f32⟩
  | 64 => ⟨S36x1x40, .f32⟩
  | 65 => ⟨S36x1x40x128, .f32⟩
  | 66 => ⟨S36x1x5120, .f32⟩
  | 67 => ⟨S36x1x5120, .fp8e4m3⟩
  | _ => ⟨S36x1x5120, .bf16⟩

abbrev hbmTy (i : Nat) : BufTy := match i / 128 with
  | 0 => hbmTy0_0 i
  | 1 => hbmTy0_1 i
  | _ => ⟨S36x1x5120, .bf16⟩

abbrev bufTy : (tb : Table) → Fin (tcTables nBuf tb) → BufTy
  | .hbm, ⟨i, _⟩ => hbmTy i
  | .local _ .vmem, ⟨0, _⟩ => ⟨S36x1x5120, .f32⟩
  | .local _ .vmem, ⟨1, _⟩ => ⟨S36x1x5120, .f32⟩
  | .local _ .vmem, ⟨2, _⟩ => ⟨S36x1x5120, .fp8e4m3⟩
  | _, _ => ⟨S36x1x5120, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_c_6 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst : Ref sig .tc := ⟨.hbm, 89, rfl⟩
abbrev main_v65 : Ref sig .tc := ⟨.hbm, 90, rfl⟩
abbrev main_v66 : Ref sig .tc := ⟨.hbm, 91, rfl⟩
abbrev main_cst_7 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_8 : Ref sig .tc := ⟨.hbm, 99, rfl⟩
abbrev main_v73 : Ref sig .tc := ⟨.hbm, 100, rfl⟩
abbrev main_v74 : Ref sig .tc := ⟨.hbm, 101, rfl⟩
abbrev main_c_9 : Ref sig .tc := ⟨.hbm, 102, rfl⟩
abbrev main_v75 : Ref sig .tc := ⟨.hbm, 103, rfl⟩
abbrev main_v76 : Ref sig .tc := ⟨.hbm, 104, rfl⟩
abbrev main_c_10 : Ref sig .tc := ⟨.hbm, 105, rfl⟩
abbrev main_v77 : Ref sig .tc := ⟨.hbm, 106, rfl⟩
abbrev main_v78 : Ref sig .tc := ⟨.hbm, 107, rfl⟩
abbrev main_c_11 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_12 : Ref sig .tc := ⟨.hbm, 113, rfl⟩
abbrev main_v83 : Ref sig .tc := ⟨.hbm, 114, rfl⟩
abbrev main_v84 : Ref sig .tc := ⟨.hbm, 115, rfl⟩
abbrev main_c_13 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_14 : Ref sig .tc := ⟨.hbm, 157, rfl⟩
abbrev main_v125 : Ref sig .tc := ⟨.hbm, 158, rfl⟩
abbrev main_v126 : Ref sig .tc := ⟨.hbm, 159, rfl⟩
abbrev main_cst_15 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_c_16 : Ref sig .tc := ⟨.hbm, 164, rfl⟩
abbrev main_v130 : Ref sig .tc := ⟨.hbm, 165, rfl⟩
abbrev main_v131 : Ref sig .tc := ⟨.hbm, 166, rfl⟩
abbrev main_c_17 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_18 : Ref sig .tc := ⟨.hbm, 176, rfl⟩
abbrev main_call5_v0 : Ref sig .tc := ⟨.hbm, 177, rfl⟩
abbrev main_call5_v1 : Ref sig .tc := ⟨.hbm, 178, rfl⟩
abbrev main_call5_v2 : Ref sig .tc := ⟨.hbm, 179, rfl⟩
abbrev main_v140 : Ref sig .tc := ⟨.hbm, 180, rfl⟩
abbrev main_cst_19 : Ref sig .tc := ⟨.hbm, 181, rfl⟩
abbrev main_v141 : Ref sig .tc := ⟨.hbm, 182, rfl⟩
abbrev main_cst_20 : Ref sig .tc := ⟨.hbm, 183, rfl⟩
abbrev main_v142 : Ref sig .tc := ⟨.hbm, 184, rfl⟩
abbrev main_v143 : Ref sig .tc := ⟨.hbm, 185, rfl⟩
abbrev main_cst_21 : Ref sig .tc := ⟨.hbm, 186, rfl⟩
abbrev main_v144 : Ref sig .tc := ⟨.hbm, 187, rfl⟩
abbrev main_v145 : Ref sig .tc := ⟨.hbm, 188, rfl⟩
abbrev main_cst_22 : Ref sig .tc := ⟨.hbm, 189, rfl⟩
abbrev main_call6_v0 : Ref sig .tc := ⟨.hbm, 190, rfl⟩
abbrev main_call6_v1 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S36x1x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36x1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x1x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== HostIdeal.lean ====
abbrev S36x1x5120 : Shape := ⟨3, ![36, 1, 5120]⟩
abbrev S36 : Shape := ⟨1, ![36]⟩
abbrev S2560x35840 : Shape := ⟨2, ![2560, 35840]⟩
abbrev S40x35840 : Shape := ⟨2, ![40, 35840]⟩
abbrev S8960x5120 : Shape := ⟨2, ![8960, 5120]⟩
abbrev S140x5120 : Shape := ⟨2, ![140, 5120]⟩
abbrev S7x5120x32 : Shape := ⟨3, ![7, 5120, 32]⟩
abbrev S7x2x16x17920 : Shape := ⟨4, ![7, 2, 16, 17920]⟩
abbrev S7x17920x16 : Shape := ⟨3, ![7, 17920, 16]⟩
abbrev S7x16x5120 : Shape := ⟨3, ![7, 16, 5120]⟩
abbrev S7 : Shape := ⟨1, ![7]⟩
abbrev S36x5120 : Shape := ⟨2, ![36, 5120]⟩
abbrev S36x1 : Shape := ⟨2, ![36, 1]⟩
abbrev S1x7 : Shape := ⟨2, ![1, 7]⟩
abbrev S36x7 : Shape := ⟨2, ![36, 7]⟩
abbrev S_ : Shape := ⟨0, ![]⟩
abbrev S20x35840 : Shape := ⟨2, ![20, 35840]⟩
abbrev S20x128x35840 : Shape := ⟨3, ![20, 128, 35840]⟩
abbrev S20x1x35840 : Shape := ⟨3, ![20, 1, 35840]⟩
abbrev S36x2560 : Shape := ⟨2, ![36, 2560]⟩
abbrev S36x35840 : Shape := ⟨2, ![36, 35840]⟩
abbrev S36x7x32 : Shape := ⟨3, ![36, 7, 32]⟩
abbrev S36x32 : Shape := ⟨2, ![36, 32]⟩
abbrev S36x7x1x1 : Shape := ⟨4, ![36, 7, 1, 1]⟩
abbrev S36x1x2x16 : Shape := ⟨4, ![36, 1, 2, 16]⟩
abbrev S36x7x2x16 : Shape := ⟨4, ![36, 7, 2, 16]⟩
abbrev S2x17920x36 : Shape := ⟨3, ![2, 17920, 36]⟩
abbrev S36x2x17920 : Shape := ⟨3, ![36, 2, 17920]⟩
abbrev S36x1x17920 : Shape := ⟨3, ![36, 1, 17920]⟩
abbrev S36x17920 : Shape := ⟨2, ![36, 17920]⟩
abbrev S70x5120 : Shape := ⟨2, ![70, 5120]⟩
abbrev S70x128x5120 : Shape := ⟨3, ![70, 128, 5120]⟩
abbrev S70x1x5120 : Shape := ⟨3, ![70, 1, 5120]⟩
abbrev S36x8960 : Shape := ⟨2, ![36, 8960]⟩
abbrev S36x7x16 : Shape := ⟨3, ![36, 7, 16]⟩
abbrev S36x16 : Shape := ⟨2, ![36, 16]⟩
abbrev S36x7x1 : Shape := ⟨3, ![36, 7, 1]⟩
abbrev S36x1x16 : Shape := ⟨3, ![36, 1, 16]⟩
abbrev S36x1x40x128 : Shape := ⟨4, ![36, 1, 40, 128]⟩
abbrev S36x1x40 : Shape := ⟨3, ![36, 1, 40]⟩
abbrev S254 : Shape := ⟨1, ![254]⟩
abbrev S36x1x40x1 : Shape := ⟨4, ![36, 1, 40, 1]⟩
abbrev S1x1x1x254 : Shape := ⟨4, ![1, 1, 1, 254]⟩
abbrev S36x1x40x254 : Shape := ⟨4, ![36, 1, 40, 254]⟩

abbrev nBuf : Space → Nat
  | .hbm => 195
  | .vmem => 0
  | .smem => 0
  | _ => 0

abbrev hbmTy0_0 (i : Nat) : BufTy := match i % 128 with
  | 0 => ⟨S36x1x5120, .bf16⟩
  | 1 => ⟨S36, .i32⟩
  | 2 => ⟨S2560x35840, .i8⟩
  | 3 => ⟨S40x35840, .bf16⟩
  | 4 => ⟨S8960x5120, .i8⟩
  | 5 => ⟨S140x5120, .bf16⟩
  | 6 => ⟨S7x5120x32, .bf16⟩
  | 7 => ⟨S7x2x16x17920, .bf16⟩
  | 8 => ⟨S7x17920x16, .bf16⟩
  | 9 => ⟨S7x16x5120, .bf16⟩
  | 10 => ⟨S7, .f32⟩
  | 11 => ⟨S36x5120, .bf16⟩
  | 12 => ⟨S36x1, .i32⟩
  | 13 => ⟨S1x7, .i32⟩
  | 14 => ⟨S36x7, .i32⟩
  | 15 => ⟨S36x7, .i32⟩
  | 16 => ⟨S36x7, .i1⟩
  | 17 => ⟨S36x7, .f32⟩
  | 18 => ⟨S_, .i32⟩
  | 19 => ⟨S36, .i32⟩
  | 20 => ⟨S36, .i1⟩
  | 21 => ⟨S_, .i32⟩
  | 22 => ⟨S36, .i32⟩
  | 23 => ⟨S36, .i32⟩
  | 24 => ⟨S36, .i32⟩
  | 25 => ⟨S36x1, .i32⟩
  | 26 => ⟨S36, .f32⟩
  | 27 => ⟨S2560x35840, .i32⟩
  | 28 => ⟨S_, .i32⟩
  | 29 => ⟨S2560x35840, .i32⟩
  | 30 => ⟨S2560x35840, .i32⟩
  | 31 => ⟨S_, .i32⟩
  | 32 => ⟨S2560x35840, .i32⟩
  | 33 => ⟨S2560x35840, .i32⟩
  | 34 => ⟨S_, .i32⟩
  | 35 => ⟨S2560x35840, .i32⟩
  | 36 => ⟨S2560x35840, .i1⟩
  | 37 => ⟨S_, .i32⟩
  | 38 => ⟨S2560x35840, .i32⟩
  | 39 => ⟨S2560x35840, .i32⟩
  | 40 => ⟨S2560x35840, .i32⟩
  | 41 => ⟨S2560x35840, .bf16⟩
  | 42 => ⟨S_, .i32⟩
  | 43 => ⟨S2560x35840, .i32⟩
  | 44 => ⟨S2560x35840, .i1⟩
  | 45 => ⟨S_, .i32⟩
  | 46 => ⟨S2560x35840, .i32⟩
  | 47 => ⟨S2560x35840, .i32⟩
  | 48 => ⟨S2560x35840, .i32⟩
  | 49 => ⟨S2560x35840, .bf16⟩
  | 50 => ⟨S20x35840, .bf16⟩
  | 51 => ⟨S20x128x35840, .bf16⟩
  | 52 => ⟨S20x1x35840, .bf16⟩
  | 53 => ⟨S20x128x35840, .bf16⟩
  | 54 => ⟨S20x128x35840, .bf16⟩
  | 55 => ⟨S2560x35840, .bf16⟩
  | 56 => ⟨S20x35840, .bf16⟩
  | 57 => ⟨S20x128x35840, .bf16⟩
  | 58 => ⟨S20x1x35840, .bf16⟩
  | 59 => ⟨S20x128x35840, .bf16⟩
  | 60 => ⟨S20x128x35840, .bf16⟩
  | 61 => ⟨S2560x35840, .bf16⟩
  | 62 => ⟨S36x2560, .bf16⟩
  | 63 => ⟨S36x35840, .f32⟩
  | 64 => ⟨S36x2560, .bf16⟩
  | 65 => ⟨S36x35840, .f32⟩
  | 66 => ⟨S36x35840, .f32⟩
  | 67 => ⟨S36x7x32, .f32⟩
  | 68 => ⟨S36x32, .f32⟩
  | 69 => ⟨S36x1, .f32⟩
  | 70 => ⟨S36x32, .f32⟩
  | 71 => ⟨S36x32, .f32⟩
  | 72 => ⟨S36x32, .bf16⟩
  | 73 => ⟨S36x7, .bf16⟩
  | 74 => ⟨S36x7x1x1, .bf16⟩
  | 75 => ⟨S36x1x2x16, .bf16⟩
  | 76 => ⟨S36x7x2x16, .bf16⟩
  | 77 => ⟨S36x7x2x16, .bf16⟩
  | 78 => ⟨S36x7x2x16, .bf16⟩
  | 79 => ⟨S2x17920x36, .f32⟩
  | 80 => ⟨S36x2x17920, .f32⟩
  | 81 => ⟨S36x2x17920, .f32⟩
  | 82 => ⟨S36x2x17920, .f32⟩
  | 83 => ⟨S36x1x17920, .f32⟩
  | 84 => ⟨S36x17920, .f32⟩
  | 85 => ⟨S36x1x17920, .f32⟩
  | 86 => ⟨S36x17920, .f32⟩
  | 87 => ⟨S36x17920, .f32⟩
  | 88 => ⟨S36x17920, .f32⟩
  | 89 => ⟨S_, .f32⟩
  | 90 => ⟨S36x17920, .f32⟩
  | 91 => ⟨S36x17920, .f32⟩
  | 92 => ⟨S_, .f32⟩
  | 93 => ⟨S36x17920, .f32⟩
  | 94 => ⟨S36x17920, .f32⟩
  | 95 => ⟨S36x17920, .f32⟩
  | 96 => ⟨S36x17920, .f32⟩
  | 97 => ⟨S36x17920, .bf16⟩
  | 98 => ⟨S8960x5120, .i32⟩
  | 99 => ⟨S_, .i32⟩
  | 100 => ⟨S8960x5120, .i32⟩
  | 101 => ⟨S8960x5120, .i32⟩
  | 102 => ⟨S_, .i32⟩
  | 103 => ⟨S8960x5120, .i32⟩
  | 104 => ⟨S8960x5120, .i32⟩
  | 105 => ⟨S_, .i32⟩
  | 106 => ⟨S8960x5120, .i32⟩
  | 107 => ⟨S8960x5120, .i1⟩
  | 108 => ⟨S_, .i32⟩
  | 109 => ⟨S8960x5120, .i32⟩
  | 110 => ⟨S8960x5120, .i32⟩
  | 111 => ⟨S8960x5120, .i32⟩
  | 112 => ⟨S8960x5120, .bf16⟩
  | 113 => ⟨S_, .i32⟩
  | 114 => ⟨S8960x5120, .i32⟩
  | 115 => ⟨S8960x5120, .i1⟩
  | 116 => ⟨S_, .i32⟩
  | 117 => ⟨S8960x5120, .i32⟩
  | 118 => ⟨S8960x5120, .i32⟩
  | 119 => ⟨S8960x5120, .i32⟩
  | 120 => ⟨S8960x5120, .bf16⟩
  | 121 => ⟨S70x5120, .bf16⟩
  | 122 => ⟨S70x128x5120, .bf16⟩
  | 123 => ⟨S70x1x5120, .bf16⟩
  | 124 => ⟨S70x128x5120, .bf16⟩
  | 125 => ⟨S70x128x5120, .bf16⟩
  | 126 => ⟨S8960x5120, .bf16⟩
  | 127 => ⟨S70x5120, .bf16⟩
  | _ => ⟨S36x1x5120, .bf16⟩

abbrev hbmTy0_1 (i : Nat) : BufTy := match i % 128 with
  | 0 => ⟨S70x128x5120, .bf16⟩
  | 1 => ⟨S70x1x5120, .bf16⟩
  | 2 => ⟨S70x128x5120, .bf16⟩
  | 3 => ⟨S70x128x5120, .bf16⟩
  | 4 => ⟨S8960x5120, .bf16⟩
  | 5 => ⟨S36x8960, .bf16⟩
  | 6 => ⟨S36x5120, .f32⟩
  | 7 => ⟨S36x8960, .bf16⟩
  | 8 => ⟨S36x5120, .f32⟩
  | 9 => ⟨S36x5120, .f32⟩
  | 10 => ⟨S36x7x16, .f32⟩
  | 11 => ⟨S36x16, .f32⟩
  | 12 => ⟨S36x1, .f32⟩
  | 13 => ⟨S36x16, .f32⟩
  | 14 => ⟨S36x16, .f32⟩
  | 15 => ⟨S36x16, .bf16⟩
  | 16 => ⟨S36x7, .bf16⟩
  | 17 => ⟨S36x7x1, .bf16⟩
  | 18 => ⟨S36x1x16, .bf16⟩
  | 19 => ⟨S36x7x16, .bf16⟩
  | 20 => ⟨S36x7x16, .bf16⟩
  | 21 => ⟨S36x7x16, .bf16⟩
  | 22 => ⟨S36x5120, .f32⟩
  | 23 => ⟨S36x5120, .f32⟩
  | 24 => ⟨S36x5120, .bf16⟩
  | 25 => ⟨S36x1x5120, .bf16⟩
  | 26 => ⟨S36x1x5120, .f32⟩
  | 27 => ⟨S36x1x40x128, .f32⟩
  | 28 => ⟨S36x1x40x128, .f32⟩
  | 29 => ⟨S_, .f32⟩
  | 30 => ⟨S36x1x40, .f32⟩
  | 31 => ⟨S36x1x17920, .bf16⟩
  | 32 => ⟨S_, .f32⟩
  | 33 => ⟨S36x1x40, .f32⟩
  | 34 => ⟨S36x1x40, .f32⟩
  | 35 => ⟨S254, .i32⟩
  | 36 => ⟨S_, .i32⟩
  | 37 => ⟨S254, .i32⟩
  | 38 => ⟨S254, .i32⟩
  | 39 => ⟨S_, .i32⟩
  | 40 => ⟨S254, .i32⟩
  | 41 => ⟨S254, .i32⟩
  | 42 => ⟨S254, .f32⟩
  | 43 => ⟨S36x1x40x1, .f32⟩
  | 44 => ⟨S1x1x1x254, .f32⟩
  | 45 => ⟨S36x1x40x254, .f32⟩
  | 46 => ⟨S36x1x40x254, .f32⟩
  | 47 => ⟨S36x1x40x254, .i1⟩
  | 48 => ⟨S_, .f32⟩
  | 49 => ⟨S_, .f32⟩
  | 50 => ⟨S36x1x40x254, .f32⟩
  | 51 => ⟨S36x1x40x254, .f32⟩
  | 52 => ⟨S36x1x40x254, .f32⟩
  | 53 => ⟨S_, .f32⟩
  | 54 => ⟨S36x1x40, .f32⟩
  | 55 => ⟨S_, .f32⟩
  | 56 => ⟨S36x1x40, .f32⟩
  | 57 => ⟨S36x1x40, .i1⟩
  | 58 => ⟨S_, .f32⟩
  | 59 => ⟨S36x1x40, .f32⟩
  | 60 => ⟨S36x1x40, .f32⟩
  | 61 => ⟨S_, .f32⟩
  | 62 => ⟨S_, .f32⟩
  | 63 => ⟨S36x1x40, .f32⟩
  | 64 => ⟨S36x1x40, .f32⟩
  | 65 => ⟨S36x1x40x128, .f32⟩
  | 66 => ⟨S36x1x5120, .f32⟩
  | _ => ⟨S36x1x5120, .bf16⟩

abbrev hbmTy (i : Nat) : BufTy := match i / 128 with
  | 0 => hbmTy0_0 i
  | 1 => hbmTy0_1 i
  | _ => ⟨S36x1x5120, .bf16⟩

abbrev bufTy : (tb : Table) → Fin (tcTables nBuf tb) → BufTy
  | .hbm, ⟨i, _⟩ => hbmTy i
  | _, _ => ⟨S36x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_c_6 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst : Ref sig .tc := ⟨.hbm, 89, rfl⟩
abbrev main_v65 : Ref sig .tc := ⟨.hbm, 90, rfl⟩
abbrev main_v66 : Ref sig .tc := ⟨.hbm, 91, rfl⟩
abbrev main_cst_7 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_8 : Ref sig .tc := ⟨.hbm, 99, rfl⟩
abbrev main_v73 : Ref sig .tc := ⟨.hbm, 100, rfl⟩
abbrev main_v74 : Ref sig .tc := ⟨.hbm, 101, rfl⟩
abbrev main_c_9 : Ref sig .tc := ⟨.hbm, 102, rfl⟩
abbrev main_v75 : Ref sig .tc := ⟨.hbm, 103, rfl⟩
abbrev main_v76 : Ref sig .tc := ⟨.hbm, 104, rfl⟩
abbrev main_c_10 : Ref sig .tc := ⟨.hbm, 105, rfl⟩
abbrev main_v77 : Ref sig .tc := ⟨.hbm, 106, rfl⟩
abbrev main_v78 : Ref sig .tc := ⟨.hbm, 107, rfl⟩
abbrev main_c_11 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_12 : Ref sig .tc := ⟨.hbm, 113, rfl⟩
abbrev main_v83 : Ref sig .tc := ⟨.hbm, 114, rfl⟩
abbrev main_v84 : Ref sig .tc := ⟨.hbm, 115, rfl⟩
abbrev main_c_13 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_14 : Ref sig .tc := ⟨.hbm, 157, rfl⟩
abbrev main_v125 : Ref sig .tc := ⟨.hbm, 158, rfl⟩
abbrev main_v126 : Ref sig .tc := ⟨.hbm, 159, rfl⟩
abbrev main_cst_15 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_c_16 : Ref sig .tc := ⟨.hbm, 164, rfl⟩
abbrev main_v130 : Ref sig .tc := ⟨.hbm, 165, rfl⟩
abbrev main_v131 : Ref sig .tc := ⟨.hbm, 166, rfl⟩
abbrev main_c_17 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_18 : Ref sig .tc := ⟨.hbm, 176, rfl⟩
abbrev main_call5_v0 : Ref sig .tc := ⟨.hbm, 177, rfl⟩
abbrev main_call5_v1 : Ref sig .tc := ⟨.hbm, 178, rfl⟩
abbrev main_call5_v2 : Ref sig .tc := ⟨.hbm, 179, rfl⟩
abbrev main_v140 : Ref sig .tc := ⟨.hbm, 180, rfl⟩
abbrev main_cst_19 : Ref sig .tc := ⟨.hbm, 181, rfl⟩
abbrev main_v141 : Ref sig .tc := ⟨.hbm, 182, rfl⟩
abbrev main_cst_20 : Ref sig .tc := ⟨.hbm, 183, rfl⟩
abbrev main_v142 : Ref sig .tc := ⟨.hbm, 184, rfl⟩
abbrev main_v143 : Ref sig .tc := ⟨.hbm, 185, rfl⟩
abbrev main_cst_21 : Ref sig .tc := ⟨.hbm, 186, rfl⟩
abbrev main_v144 : Ref sig .tc := ⟨.hbm, 187, rfl⟩
abbrev main_v145 : Ref sig .tc := ⟨.hbm, 188, rfl⟩
abbrev main_cst_22 : Ref sig .tc := ⟨.hbm, 189, rfl⟩
abbrev main_call6_v0 : Ref sig .tc := ⟨.hbm, 190, rfl⟩
abbrev main_call6_v1 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩

abbrev nD : Nat := 1
abbrev τ : Topo := Topo.v7x

variable {F : FTy → Type} [FloatOps F]
-- ==== Proof.KP.R0Runs.lean ====
/- The `gate_up` call of `Kernel`: the windows' blocks at each grid point, the branch condition in closed form, the staging and scratch memrefs. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data whose array is `V`'s. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof data whose array is `V`'s. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof data whose array is `V`'s. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof data whose array is `V`'s. -/
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof data whose array is `V`'s. -/
theorem before0_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof data whose array is `V`'s. -/
theorem before0_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0. -/
abbrev cond0_0 (i : grid0.Coords) : Prop := k0_cond1 i = 1#1
/-- It holds at the first point only. -/
theorem hcond0_0 : ∀ t : Fin cfg0.N, cond0_0 (grid0.coords t) ↔ t.val % 70 = 0 :=
  (fun t => by
    have ht : t.val < 70 := Nat.lt_of_lt_of_eq t.isLt N_0
    have e0 : (grid0.coords t 0).val = t.val / 1 % 70 := Pipeline.Grid.coords_val t 0 (by decide) rfl
    simp only [cond0_0, k0_cond1, e0]
    word_cmp
   : ∀ t : Fin grid0.N, cond0_0 (grid0.coords t) ↔ t.val % 70 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-- Whether output 10's buffer is FRESH at each position `1 ‥ N`. -/
def freshTab0_10 : ℕ → Bool
  | 0 => true
  | n + 1 => (0x200000000000000000 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At the points of case A the printed configuration. -/
theorem liveAt0_10_A : ∀ t : Fin cfg0.N, cond0_0 (grid0.coords t) → cfg0.idle 10 (grid0.coords t) = false := by decide +kernel
/-- At the points of case B the printed configuration. -/
theorem idleAt0_10_B : ∀ t : Fin cfg0.N, ¬cond0_0 (grid0.coords t) → cfg0.idle 10 (grid0.coords t) = true := by decide +kernel
/-- At the points of case B, which keeps output 10's prior contents (reads it before covering, or covers it in part), the window's buffer is not FRESH: something was stored into it since the region's entry or its last write-back, idle points between or not. -/
theorem notFresh0_10_B : ∀ t : Fin cfg0.N, ¬cond0_0 (grid0.coords t) → cfg0.fresh 10 t.val = false := by
  intro t; rw [fresh0_10_eq t]; revert t; decide +kernel

/-! ## The kernel body on any staging memrefs: a subtype the run finds -/

/-- One staging buffer of output window 9, through which its contents are stated. -/
abbrev VO0_9 : View sig .tc .vmem S48x256 .bf16 := (Memref.whole cc0_stg9_0 : Memref sig .tc .vmem S48x256 .bf16).view
/-- One staging buffer of output window 10, through which its contents are stated. -/
abbrev VO0_10 : View sig .tc .vmem S48x32 .bf16 := (Memref.whole cc0_stg10_0 : Memref sig .tc .vmem S48x32 .bf16).view
/-- Each window's current staging memref at point `t`, spelled as the pipeline passes it. -/
abbrev ms0_0 (t : Fin cfg0.N) : Memref sig .tc .vmem S48x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S48x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S48x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2560x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2560x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S40x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S40x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S7x5120x32 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S7x2x16x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S48x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S48x32 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2x48x112 .bf16 := Memref.whole cc0_scratch0
/-- The scratch `arg12` the kernel carries between points, as a view: what it holds is stated through it. -/
abbrev VS0_0 : View sig .tc .vmem S2x48x112 .bf16 := scM0_0.view

/-- Separating conjunction re-associated, as an equality. -/
theorem sep_assoc_eq (P Q R : sProp 𝕄) : iprop((P ∗ Q) ∗ R) = iprop(P ∗ (Q ∗ R)) := by
  exact Idealize.SL.BI.Entails.antisymm Idealize.SL.BI.sep_assoc Idealize.SL.BI.sep_assoc'

/-- What the scoped buffers other than the kernel's own scratch hold, and the generator register: carried unopened. -/
def RG (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The region's entry invariant with the scratch as a memref owned at some contents. -/
theorem PhiA0_eq (c : Dev nD) :
    (Pipeline.ΦA spec0 c : sProp 𝕄)
      = iprop(iprop((∃ d, owns (c : Thread nD τ) scM0_0 fullShare d)) ∗ RG c) := by
  unfold Pipeline.ΦA RG
  rw [Pipeline.scopedRest_split_of_list spec0 c [cc0_scratch0] (by decide) (by decide)]
  refine (sep_assoc_eq _ _ _).trans ?_
  simp only [scM0_0, owns_whole]; try rfl

end Cert.Kernel.R0

end
-- ==== Proof.KP.R0RunA.lean ====
/- The body of the `gate_up` call of `Kernel` run in case A: the pieces its stores leave, found by running it. -/
module

public import proofs.«01_k».proof.Proof.KP.R0Runs

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A. -/
noncomputable def kernelRun0_A (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) :
    Σ' (L9 : List (View.Piece (Elt F) S48x256 .bf16)), Σ' (L10 : List (View.Piece (Elt F) S48x32 .bf16)), { LS0 : List (View.Piece (Elt F) S2x48x112 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_gate_up_eq_skeleton]; unfold cc0_gate_up_skel
    simp only [k0_part6_eq_skeleton, k0_part1_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.Kernel.R0

end
-- ==== Proof.KP.R0RunB.lean ====
/- The body of the `gate_up` call of `Kernel` run in case B: the pieces its stores leave, found by running it. -/
module

public import proofs.«01_k».proof.Proof.KP.R0Runs

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B. -/
noncomputable def kernelRun0_B (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : ¬cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (xo10 : Vec F S48x32 .bf16) (xs0 : Vec F S2x48x112 .bf16) :
    Σ' (L9 : List (View.Piece (Elt F) S48x256 .bf16)), Σ' (L10 : List (View.Piece (Elt F) S48x32 .bf16)), { LS0 : List (View.Piece (Elt F) S2x48x112 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xo10 ∗ owns (c : Thread nD τ) arg12 fullShare xs0) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12) K } := by
  refine ⟨?_, [], [], fun E K => ?run⟩
  case run =>
    simp only [cc0_gate_up_eq_skeleton]; unfold cc0_gate_up_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; isplitr; · ipureintro; exact harg12.read_unread _
    iexact HS0

end Cert.Kernel.R0

end
-- ==== Proof.KP.R0Body.lean ====
/- The `gate_up` call of `Kernel`: what its outputs hold after each point, the proof data of its pipeline and the body obligation. -/
module

public import proofs.«01_k».proof.Proof.KP.R0RunA
public import proofs.«01_k».proof.Proof.KP.R0RunB

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 9 tile its block (1 store of `S48x256`, checked by the kernel's evaluation. -/
theorem cover0_A_9 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (y : S48x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1 S48x256.size (by sl_kernel_rfl) y

/-- What case A leaves in output 9's staging buffer: its pieces read back over junk. -/
def out0_A_9 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) : Vec F S48x256 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1)

/-- Case A's pieces for output 10 tile its block (1 store of `S48x32`, checked by the kernel's evaluation. -/
theorem cover0_A_10 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (y : S48x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1 S48x32.size (by sl_kernel_rfl) y

/-- What case A leaves in output 10's staging buffer: its pieces read back over junk. -/
def out0_A_10 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) : Vec F S48x32 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1)

/-- Case A's pieces for scratch `arg12`, which the kernel carries between points, cover it: 14 pieces of `S1x48x16` tiling it. -/
theorem scover0_A_0 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (y : S2x48x112.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1 S1x48x16.size (by sl_kernel_rfl) y

/-- What case A leaves in scratch `arg12`: its pieces read back over junk. -/
def sout0_A_0 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) : Vec F S2x48x112 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1)

/-- Case B's pieces for output 9 tile its block (1 store of `S48x256`, checked by the kernel's evaluation. -/
theorem cover0_B_9 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : ¬cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (xo10 : Vec F S48x32 .bf16) (xs0 : Vec F S2x48x112 .bf16) (y : S48x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xs0).1 S48x256.size (by sl_kernel_rfl) y

/-- What case B leaves in output 9's staging buffer: its pieces read back over junk. -/
def out0_B_9 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : ¬cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (xo10 : Vec F S48x32 .bf16) (xs0 : Vec F S2x48x112 .bf16) : Vec F S48x256 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xs0).1)

/-- Case B stores nothing into output 10, a live window: its staging buffer holds what the point before left. -/
def out0_B_10 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : ¬cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (xo10 : Vec F S48x32 .bf16) (xs0 : Vec F S2x48x112 .bf16) : Vec F S48x32 .bf16 := xo10

/-- Case B stores nothing into scratch `arg12`: it holds what the point before left. -/
def sout0_B_0 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : ¬cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (xo10 : Vec F S48x32 .bf16) (xs0 : Vec F S2x48x112 .bf16) : Vec F S2x48x112 .bf16 := xs0

/-! ## What the outputs hold after each point -/

/-- THE ACCUMULATION. -/
def outsAt0 (c : Dev nD) : (n : ℕ) → n < cfg0.N → Vec F S48x256 .bf16 × Vec F S48x32 .bf16 × Vec F S2x48x112 .bf16
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩))
  | n + 1, hn =>
    if h0 : (n + 1) % 70 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt0 c n (Nat.lt_of_succ_lt hn)).2.1 (outsAt0 c n (Nat.lt_of_succ_lt hn)).2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 70 = 0) :
    outsAt0 V c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t) (iblk V c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t) (iblk V c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t) (iblk V c 8 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 70 = 0) :
    outsAt0 V c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (iblk V c 8 t) (outsAt0 V c (t.val - 1) (Nat.lt_of_le_of_lt (Nat.sub_le _ _) t.isLt)).2.1 (outsAt0 V c (t.val - 1) (Nat.lt_of_le_of_lt (Nat.sub_le _ _) t.isLt)).2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (iblk V c 8 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (iblk V c 8 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the class's. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ RG c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2)) ∗ RG c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ RG c) := by
  cases n with
  | zero => exact absurd rfl hz
  | succ n => rfl

/-! ## The pipeline's proof data -/

/-- The proof data of the one pipeline on core `c`: the arrays as the region finds them. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt0 V c t.val t.isLt).1
    | ⟨10, _⟩ => (outsAt0 V c t.val t.isLt).2.1
  Φ t := PhiS V c t.val (Nat.le_of_lt_succ t.isLt)
  q w := Pipeline.shareOf spec0 w
  owed _ := 0

/-- The proof data's arrays are the region-entry contents: the proof data's definition projected. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = iblk V c 6 t := by dsimp only [dat]
theorem after0_7 (c : Dev nD) (t : Fin cfg0.N) : (dat V c).after 7 t = iblk V c 7 t := by dsimp only [dat]
theorem after0_8 (c : Dev nD) (t : Fin cfg0.N) : (dat V c).after 8 t = iblk V c 8 t := by dsimp only [dat]
theorem after0_9 (c : Dev nD) (t : Fin cfg0.N) : (dat V c).after 9 t = (outsAt0 V c t.val t.isLt).1 := by dsimp only [dat]
theorem after0_10 (c : Dev nD) (t : Fin cfg0.N) : (dat V c).after 10 t = (outsAt0 V c t.val t.isLt).2.1 := by dsimp only [dat]

/-- Each input's current staging buffer holds its block at every point, fetched there or not. -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d
theorem before0_6 (c : Dev nD) (t : Fin cfg0.N) (d) : (dat V c).before 6 t d = iblk V c 6 t :=
  before0_6_of V (dat V c) (A_eq V c 6) (after0_6 V c) t d
theorem before0_7 (c : Dev nD) (t : Fin cfg0.N) (d) : (dat V c).before 7 t d = iblk V c 7 t :=
  before0_7_of V (dat V c) (A_eq V c 7) (after0_7 V c) t d
theorem before0_8 (c : Dev nD) (t : Fin cfg0.N) (d) : (dat V c).before 8 t d = iblk V c 8 t :=
  before0_8_of V (dat V c) (A_eq V c 8) (after0_8 V c) t d

/-- Output 10's contents CARRY through the points that leave it idle: at such a point, its buffer not fresh, the proof data's `after` is the point before's (the case there stores nothing into the window and its term says so; a case that stores into it is not idle there by `liveAt0_10_κ`). -/
theorem hcarry0_10 (c : Dev nD) : ∀ (t : Fin cfg0.N) (_ : t.val ≠ 0), cfg0.idle 10 (grid0.coords t) = true → cfg0.fresh 10 t.val = false →
    (dat V c).after 10 t = (dat V c).after 10 ⟨t.val - 1, by omega⟩ := by
  intro t _ hi _
  have hN : t.val < 70 := lt_of_lt_of_eq t.isLt (show cfg0.N = 70 from N_0)
  rw [after0_10, after0_10]
  by_cases h0 : t.val % 70 = 0
  · rw [liveAt0_10_A t ((hcond0_0 t).mpr h0)] at hi
    exact absurd hi Bool.false_ne_true
  · rw [outsAt0_B V c t h0]; rfl
/-- At a point of case B output 10's current staging buffer holds what the point before left: the buffer is not fresh there. -/
theorem before0_10_B (c : Dev nD) (t : Fin cfg0.N) (h0 : ¬t.val % 70 = 0) (d) :
    (dat V c).before 10 t d = (outsAt0 V c (t.val - 1) (Nat.lt_of_le_of_lt (Nat.sub_le _ _) t.isLt)).2.1 := by
  rw [Dat.before_out_traj _ 10 rfl (fun _ _ => rfl) (hcarry0_10 V c) t.val t rfl d,
    if_neg (by rw [notFresh0_10_B t (fun h => h0 ((hcond0_0 t).mp h))]; exact Bool.false_ne_true)]
  dsimp only [dat]

/-- At a point of case B output 10's buffer, holding what the point before left, is what the obligation asks for, at a write-back or not. -/
theorem leaves10_B (c : Dev nD) (t : Fin cfg0.N) (h0 : ¬t.val % 70 = 0) :
    owns (c : Thread nD τ) (ms0_10 t) fullShare (outsAt0 V c (t.val - 1) (Nat.lt_of_le_of_lt (Nat.sub_le _ _) t.isLt)).2.1
      ⊢ ((dat V c).leavesExact 10 t : sProp 𝕄) := by
  unfold Dat.leavesExact
  rw [idleAt0_10_B t (fun h => h0 ((hcond0_0 t).mp h))]
  cases hf : (cfg0.win 10).flush t with
  | false =>
    dsimp only
    simp only [before0_10_B V c t h0]
    iintro H
    iexists (outsAt0 V c (t.val - 1) (Nat.lt_of_le_of_lt (Nat.sub_le _ _) t.isLt)).2.1
    iexact H
  | true =>
    dsimp only
    rw [after0_10, outsAt0_B V c t h0]
    exact .rfl

/-! ## The body obligation, at a generic point -/

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d))
    ∗ (∃ d, owns (c : Thread nD τ) (ms0_9 t) fullShare ((dat V c).before 9 t d))
    ∗ (∃ d, owns (c : Thread nD τ) (ms0_10 t) fullShare ((dat V c).before 10 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 9600000 in
/-- The body at any point: the inputs' memrefs hold their blocks. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7, before0_8]
  rw [show (dat V c).owesAt () t.succ = (dat V c).owesAt () t.castSucc from rfl]
  rw [show (dat V c).Φ t.succ = PhiS V c (t.val + 1) t.isLt from rfl, PhiS_succ]
  have hN : t.val < 70 := lt_of_lt_of_eq t.isLt (show cfg0.N = 70 from N_0)
  by_cases h0 : t.val % 70 = 0
  · rw [show (dat V c).leavesExact 0 t = owns (c : Thread nD τ) (ms0_0 t) fullShare ((dat V c).after 0 t) from by
      unfold Dat.leavesExact; rw [liveAt0_0 t], after0_0]
    rw [show (dat V c).leavesExact 1 t = owns (c : Thread nD τ) (ms0_1 t) fullShare ((dat V c).after 1 t) from by
      unfold Dat.leavesExact; rw [liveAt0_1 t], after0_1]
    rw [show (dat V c).leavesExact 2 t = owns (c : Thread nD τ) (ms0_2 t) fullShare ((dat V c).after 2 t) from by
      unfold Dat.leavesExact; rw [liveAt0_2 t], after0_2]
    rw [show (dat V c).leavesExact 3 t = owns (c : Thread nD τ) (ms0_3 t) fullShare ((dat V c).after 3 t) from by
      unfold Dat.leavesExact; rw [liveAt0_3 t], after0_3]
    rw [show (dat V c).leavesExact 4 t = owns (c : Thread nD τ) (ms0_4 t) fullShare ((dat V c).after 4 t) from by
      unfold Dat.leavesExact; rw [liveAt0_4 t], after0_4]
    rw [show (dat V c).leavesExact 5 t = owns (c : Thread nD τ) (ms0_5 t) fullShare ((dat V c).after 5 t) from by
      unfold Dat.leavesExact; rw [liveAt0_5 t], after0_5]
    rw [show (dat V c).leavesExact 6 t = owns (c : Thread nD τ) (ms0_6 t) fullShare ((dat V c).after 6 t) from by
      unfold Dat.leavesExact; rw [liveAt0_6 t], after0_6]
    rw [show (dat V c).leavesExact 7 t = owns (c : Thread nD τ) (ms0_7 t) fullShare ((dat V c).after 7 t) from by
      unfold Dat.leavesExact; rw [liveAt0_7 t], after0_7]
    rw [show (dat V c).leavesExact 8 t = owns (c : Thread nD τ) (ms0_8 t) fullShare ((dat V c).after 8 t) from by
      unfold Dat.leavesExact; rw [liveAt0_8 t], after0_8]
    rw [show (dat V c).leavesExact 9 t = owns (c : Thread nD τ) (ms0_9 t) fullShare ((dat V c).after 9 t) from by
      unfold Dat.leavesExact; rw [liveAt0_9 t], after0_9]
    rw [show (dat V c).leavesExact 10 t = owns (c : Thread nD τ) (ms0_10 t) fullShare ((dat V c).after 10 t) from by
      unfold Dat.leavesExact; rw [liveAt0_10_A t ((hcond0_0 t).mpr h0)], after0_10]
    by_cases hz : t.val = 0
    · rw [PhiS_castSucc V c t, PhiS_zero V c _ _ hz, PhiA0_eq]
      rw [outsAt0_A V c t h0]
      unfold out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (iblk V c 0 t) (iblk V c 1 t) (iblk V c 2 t) (iblk V c 3 t) (iblk V c 4 t) (iblk V c 5 t) (iblk V c 6 t) (iblk V c 7 t) (iblk V c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      iintro ⟨H0, H1, H2, H3, H4, H5, H6, H7, H8, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _)
    · exfalso; have hN : t.val < 70 := lt_of_lt_of_eq t.isLt (show cfg0.N = 70 from N_0); omega
  · rw [show (dat V c).leavesExact 0 t = owns (c : Thread nD τ) (ms0_0 t) fullShare ((dat V c).after 0 t) from by
      unfold Dat.leavesExact; rw [liveAt0_0 t], after0_0]
    rw [show (dat V c).leavesExact 1 t = owns (c : Thread nD τ) (ms0_1 t) fullShare ((dat V c).after 1 t) from by
      unfold Dat.leavesExact; rw [liveAt0_1 t], after0_1]
    rw [show (dat V c).leavesExact 2 t = owns (c : Thread nD τ) (ms0_2 t) fullShare ((dat V c).after 2 t) from by
      unfold Dat.leavesExact; rw [liveAt0_2 t], after0_2]
    rw [show (dat V c).leavesExact 3 t = owns (c : Thread nD τ) (ms0_3 t) fullShare ((dat V c).after 3 t) from by
      unfold Dat.leavesExact; rw [liveAt0_3 t], after0_3]
    rw [show (dat V c).leavesExact 4 t = owns (c : Thread nD τ) (ms0_4 t) fullShare ((dat V c).after 4 t) from by
      unfold Dat.leavesExact; rw [liveAt0_4 t], after0_4]
    rw [show (dat V c).leavesExact 5 t = owns (c : Thread nD τ) (ms0_5 t) fullShare ((dat V c).after 5 t) from by
      unfold Dat.leavesExact; rw [liveAt0_5 t], after0_5]
    rw [show (dat V c).leavesExact 6 t = owns (c : Thread nD τ) (ms0_6 t) fullShare ((dat V c).after 6 t) from by
      unfold Dat.leavesExact; rw [liveAt0_6 t], after0_6]
    rw [show (dat V c).leavesExact 7 t = owns (c : Thread nD τ) (ms0_7 t) fullShare ((dat V c).after 7 t) from by
      unfold Dat.leavesExact; rw [liveAt0_7 t], after0_7]
    rw [show (dat V c).leavesExact 8 t = owns (c : Thread nD τ) (ms0_8 t) fullShare ((dat V c).after 8 t) from by
      unfold Dat.leavesExact; rw [liveAt0_8 t], after0_8]
    rw [show (dat V c).leavesExact 9 t = owns (c : Thread nD τ) (ms0_9 t) fullShare ((dat V c).after 9 t) from by
      unfold Dat.leavesExact; rw [liveAt0_9 t], after0_9]
    by_cases hz : t.val = 0
    · exfalso; have hN : t.val < 70 := lt_of_lt_of_eq t.isLt (show cfg0.N = 70 from N_0); omega
    · rw [PhiS_castSucc V c t, PhiS_pos V c _ _ hz]
      rw [outsAt0_B V c t h0]
      simp only [before0_10_B V c t h0]
      unfold out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) (iblk V c 6 t) (iblk V c 7 t) (iblk V c 8 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS0]; · iexact HS0
      iintro ⟨H0, H1, H2, H3, H4, H5, H6, H7, H8, ⟨%e9, H9⟩, H10, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _)
      iapply (leaves10_B V c t h0); iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg0.N) ⊢ Pipeline.ΦA spec0 c :=
  Phi_out V c _ (by rw [Fin.val_last]; have : cfg0.N = 70 := N_0; omega)

end Cert.Kernel.R0

end
-- ==== Proof.KP.R1Runs.lean ====
/- The `down` call of `Kernel`: the windows' blocks at each grid point, the branch condition in closed form, the staging and scratch memrefs. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s. -/
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s. -/
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof data whose array is `V`'s. -/
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof data whose array is `V`'s. -/
theorem before0_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof data whose array is `V`'s. -/
theorem before0_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0. -/
abbrev cond0_0 (i : grid1.Coords) : Prop := k1_cond1 i = 1#1
/-- It holds at the first point only. -/
theorem hcond0_0 : ∀ t : Fin cfg1.N, cond0_0 (grid1.coords t) ↔ t.val % 20 = 0 :=
  (fun t => by
    have ht : t.val < 20 := Nat.lt_of_lt_of_eq t.isLt N_1
    have e0 : (grid1.coords t 0).val = t.val / 1 % 20 := Pipeline.Grid.coords_val t 0 (by decide) rfl
    simp only [cond0_0, k1_cond1, e0]
    word_cmp
   : ∀ t : Fin grid1.N, cond0_0 (grid1.coords t) ↔ t.val % 20 = 0)

/-! ## Where the windows are idle (the printed configuration's table `Cfg.idle`) -/

/-- Window 0 is never idle (an input). -/
theorem liveAt0_0 : ∀ t : Fin cfg1.N, cfg1.idle 0 (grid1.coords t) = false := fun _ => rfl
/-- Window 1 is never idle (an input). -/
theorem liveAt0_1 : ∀ t : Fin cfg1.N, cfg1.idle 1 (grid1.coords t) = false := fun _ => rfl
/-- Window 2 is never idle (an input). -/
theorem liveAt0_2 : ∀ t : Fin cfg1.N, cfg1.idle 2 (grid1.coords t) = false := fun _ => rfl
/-- Window 3 is never idle (an input). -/
theorem liveAt0_3 : ∀ t : Fin cfg1.N, cfg1.idle 3 (grid1.coords t) = false := fun _ => rfl
/-- Window 4 is never idle (an input). -/
theorem liveAt0_4 : ∀ t : Fin cfg1.N, cfg1.idle 4 (grid1.coords t) = false := fun _ => rfl
/-- Window 5 is never idle (an input). -/
theorem liveAt0_5 : ∀ t : Fin cfg1.N, cfg1.idle 5 (grid1.coords t) = false := fun _ => rfl
/-- Window 6 is never idle (an input). -/
theorem liveAt0_6 : ∀ t : Fin cfg1.N, cfg1.idle 6 (grid1.coords t) = false := fun _ => rfl
/-- Window 7 is never idle (an output stored at every point, under no condition). -/
theorem liveAt0_7 : ∀ t : Fin cfg1.N, cfg1.idle 7 (grid1.coords t) = false := fun _ => rfl
/-- Window 8 is never idle (an output stored at every point, under no condition). -/
theorem liveAt0_8 : ∀ t : Fin cfg1.N, cfg1.idle 8 (grid1.coords t) = false := fun _ => rfl
/-- Window 9 is never idle (an output stored at every point, under no condition). -/
theorem liveAt0_9 : ∀ t : Fin cfg1.N, cfg1.idle 9 (grid1.coords t) = false := fun _ => rfl
/-- Whether output 10's buffer is FRESH at each position `1 ‥ N`. -/
def freshTab0_10 : ℕ → Bool
  | 0 => true
  | n + 1 => (0x80000 : ℕ).testBit n
theorem freshTab0_10_step : ∀ t : Fin cfg1.N,
    freshTab0_10 (t.val + 1) = ((cfg1.win 10).flush t || (cfg1.idle 10 (cfg1.grid.coords t) && freshTab0_10 t.val)) := by decide +kernel
theorem fresh0_10_eq (t : Fin cfg1.N) : cfg1.fresh 10 t.val = freshTab0_10 t.val :=
  Pipeline.Cfg.fresh_tab cfg1 10 freshTab0_10 rfl freshTab0_10_step t.val (Nat.le_of_lt t.isLt)
/-- At the points of case A the printed configuration. -/
theorem liveAt0_10_A : ∀ t : Fin cfg1.N, cond0_0 (grid1.coords t) → cfg1.idle 10 (grid1.coords t) = false := by decide +kernel
/-- At the points of case B the printed configuration. -/
theorem idleAt0_10_B : ∀ t : Fin cfg1.N, ¬cond0_0 (grid1.coords t) → cfg1.idle 10 (grid1.coords t) = true := by decide +kernel
/-- At the points of case B, which keeps output 10's prior contents (reads it before covering, or covers it in part), the window's buffer is not FRESH: something was stored into it since the region's entry or its last write-back, idle points between or not. -/
theorem notFresh0_10_B : ∀ t : Fin cfg1.N, ¬cond0_0 (grid1.coords t) → cfg1.fresh 10 t.val = false := by
  intro t; rw [fresh0_10_eq t]; revert t; decide +kernel

/-! ## The kernel body on any staging memrefs: a subtype the run finds -/

/-- One staging buffer of output window 7, through which its contents are stated. -/
abbrev VO0_7 : View sig .tc .vmem S48x256 .bf16 := (Memref.whole cc1_stg7_0 : Memref sig .tc .vmem S48x256 .bf16).view
/-- One staging buffer of output window 8, through which its contents are stated. -/
abbrev VO0_8 : View sig .tc .vmem S48x256 .fp8e4m3 := (Memref.whole cc1_stg8_0 : Memref sig .tc .vmem S48x256 .fp8e4m3).view
/-- One staging buffer of output window 9, through which its contents are stated. -/
abbrev VO0_9 : View sig .tc .vmem S1x48x2 .f32 := (Memref.whole cc1_stg9_0 : Memref sig .tc .vmem S1x48x2 .f32).view
/-- One staging buffer of output window 10, through which its contents are stated. -/
abbrev VO0_10 : View sig .tc .vmem S48x16 .bf16 := (Memref.whole cc1_stg10_0 : Memref sig .tc .vmem S48x16 .bf16).view
/-- Each window's current staging memref at point `t`, spelled as the pipeline passes it. -/
abbrev ms0_0 (t : Fin cfg1.N) : Memref sig .tc .vmem S48x1 .i32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S48x1 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S48x17920 .bf16 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S8960x256 .i8 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S140x256 .bf16 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S7x17920x16 .bf16 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S7x16x256 .bf16 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S48x256 .bf16 := win1_7.stage (cfg1.slots t 7)
abbrev hs0_7 (t : Fin cfg1.N) : (ms0_7 t).IsWhole := hstage1_7 ((cfg1.slots t 7).cast nbuf1_7)
abbrev ms0_8 (t : Fin cfg1.N) : Memref sig .tc .vmem S48x256 .fp8e4m3 := win1_8.stage (cfg1.slots t 8)
abbrev hs0_8 (t : Fin cfg1.N) : (ms0_8 t).IsWhole := hstage1_8 ((cfg1.slots t 8).cast nbuf1_8)
abbrev ms0_9 (t : Fin cfg1.N) : Memref sig .tc .vmem S1x48x2 .f32 := win1_9.stage (cfg1.slots t 9)
abbrev hs0_9 (t : Fin cfg1.N) : (ms0_9 t).IsWhole := hstage1_9 ((cfg1.slots t 9).cast nbuf1_9)
abbrev ms0_10 (t : Fin cfg1.N) : Memref sig .tc .vmem S48x16 .bf16 := win1_10.stage (cfg1.slots t 10)
abbrev hs0_10 (t : Fin cfg1.N) : (ms0_10 t).IsWhole := hstage1_10 ((cfg1.slots t 10).cast nbuf1_10)
/-- The scratch operands: whole scoped buffers of the kernel's own, passed beside the windows. -/
abbrev scM0_0 : Memref sig .tc .vmem S48x112 .bf16 := Memref.whole cc1_scratch0
/-- The scratch `arg12` the kernel carries between points, as a view: what it holds is stated through it. -/
abbrev VS0_0 : View sig .tc .vmem S48x112 .bf16 := scM0_0.view

/-- Separating conjunction re-associated, as an equality. -/
theorem sep_assoc_eq (P Q R : sProp 𝕄) : iprop((P ∗ Q) ∗ R) = iprop(P ∗ (Q ∗ R)) := by
  exact Idealize.SL.BI.Entails.antisymm Idealize.SL.BI.sep_assoc Idealize.SL.BI.sep_assoc'

/-- What the scoped buffers other than the kernel's own scratch hold, and the generator register: carried unopened. -/
def RG (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The region's entry invariant with the scratch as a memref owned at some contents. -/
theorem PhiA0_eq (c : Dev nD) :
    (Pipeline.ΦA spec1 c : sProp 𝕄)
      = iprop(iprop((∃ d, owns (c : Thread nD τ) scM0_0 fullShare d)) ∗ RG c) := by
  unfold Pipeline.ΦA RG
  rw [Pipeline.scopedRest_split_of_list spec1 c [cc1_scratch0] (by decide) (by decide)]
  refine (sep_assoc_eq _ _ _).trans ?_
  simp only [scM0_0, owns_whole]; try rfl

end Cert.Kernel.R1

end
-- ==== Proof.KP.R1RunA.lean ====
/- The body of the `down` call of `Kernel` run in case A: the pieces its stores leave, found by running it. -/
module

public import proofs.«01_k».proof.Proof.KP.R1Runs

@[expose] public section

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1008000 in
/-- What the body's stores leave in each output's staging memref, as pieces (last first) IN CASE A. -/
noncomputable def kernelRun0_A (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) :
    Σ' (L7 : List (View.Piece (Elt F) S48x256 .bf16)), Σ' (L8 : List (View.Piece (Elt F) S48x256 .fp8e4m3)), Σ' (L9 : List (View.Piece (Elt F) S1x48x2 .f32)), Σ' (L10 : List (View.Piece (Elt F) S48x16 .bf16)), { LS0 : List (View.Piece (Elt F) S48x112 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc1_down i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_down_eq_skeleton]; unfold cc1_down_skel
    simp only [k1_part39_eq_skeleton, k1_part5_eq_skeleton, k1_part1_eq_skeleton, k1_part2_eq_skeleton, k1_part3_eq_skeleton, k1_part4_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    iexists _; iexact HS0

end Cert.Kernel.R1

end
-- ==== Proof.KP.R1RunB.lean ====
/- The body of the `down` call of `Kernel` run in case B: the pieces its stores leave, found by running it. -/
module

public import proofs.«01_k».proof.Proof.KP.R1Runs

@[expose] public section

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B. -/
noncomputable def kernelRun0_B (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) :
    Σ' (L7 : List (View.Piece (Elt F) S48x256 .bf16)), Σ' (L8 : List (View.Piece (Elt F) S48x256 .fp8e4m3)), Σ' (L9 : List (View.Piece (Elt F) S1x48x2 .f32)), Σ' (L10 : List (View.Piece (Elt F) S48x16 .bf16)), { LS0 : List (View.Piece (Elt F) S48x112 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xo10 ∗ owns (c : Thread nD τ) arg12 fullShare xs0) -∗ K ⟨⟩))
          ⊢ wp frame (wpE (defs₀ (F := F)) Variants.none c none) E (cc1_down i arg1 harg1 arg2 harg2 arg3 harg3 arg4 harg4 arg5 harg5 arg6 harg6 arg7 harg7 arg8 harg8 arg9 harg9 arg10 harg10 arg11 harg11 arg12 harg12) K } := by
  refine ⟨?_, ?_, ?_, [], [], fun E K => ?run⟩
  case run =>
    simp only [cc1_down_eq_skeleton]; unfold cc1_down_skel
    simp only [k1_part39_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hf10; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]
    · iexists _; isplitr; · ipureintro; exact harg11.read_unread _
      iexact H10
    iexists _; isplitr; · ipureintro; exact harg12.read_unread _
    iexact HS0

end Cert.Kernel.R1

end
-- ==== Proof.KP.R1Body.lean ====
/- The `down` call of `Kernel`: what its outputs hold after each point, the proof data of its pipeline and the body obligation. -/
module

public import proofs.«01_k».proof.Proof.KP.R1RunA
public import proofs.«01_k».proof.Proof.KP.R1RunB

@[expose] public section

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 7 tile its block (1 store of `S48x256`, checked by the kernel's evaluation. -/
theorem cover0_A_7 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (y : S48x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 S48x256.size (by sl_kernel_rfl) y

/-- What case A leaves in output 7's staging buffer: its pieces read back over junk. -/
def out0_A_7 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) : Vec F S48x256 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1)

/-- Case A's pieces for output 8 tile its block (2 stores of `S48x128`, checked by the kernel's evaluation. -/
theorem cover0_A_8 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (y : S48x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1 S48x128.size (by sl_kernel_rfl) y

/-- What case A leaves in output 8's staging buffer: its pieces read back over junk. -/
def out0_A_8 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) : Vec F S48x256 .fp8e4m3 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1)

/-- Case A's pieces for output 9 tile its block (2 stores of `S1x48x1`, checked by the kernel's evaluation. -/
theorem cover0_A_9 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (y : S1x48x2.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1 S1x48x1.size (by sl_kernel_rfl) y

/-- What case A leaves in output 9's staging buffer: its pieces read back over junk. -/
def out0_A_9 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) : Vec F S1x48x2 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1)

/-- Case A's pieces for output 10 tile its block (1 store of `S48x16`, checked by the kernel's evaluation. -/
theorem cover0_A_10 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (y : S48x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1 S48x16.size (by sl_kernel_rfl) y

/-- What case A leaves in output 10's staging buffer: its pieces read back over junk. -/
def out0_A_10 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) : Vec F S48x16 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1)

/-- Case A's pieces for scratch `arg12`, which the kernel carries between points, cover it: 7 pieces of `S48x16` tiling it. -/
theorem scover0_A_0 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (y : S48x112.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1 S48x16.size (by sl_kernel_rfl) y

/-- What case A leaves in scratch `arg12`: its pieces read back over junk. -/
def sout0_A_0 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) : Vec F S48x112 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1)

/-- Case B's pieces for output 7 tile its block (1 store of `S48x256`, checked by the kernel's evaluation. -/
theorem cover0_B_7 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) (y : S48x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).1 S48x256.size (by sl_kernel_rfl) y

/-- What case B leaves in output 7's staging buffer: its pieces read back over junk. -/
def out0_B_7 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) : Vec F S48x256 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).1)

/-- Case B's pieces for output 8 tile its block (2 stores of `S48x128`, checked by the kernel's evaluation. -/
theorem cover0_B_8 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) (y : S48x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).2.1 S48x128.size (by sl_kernel_rfl) y

/-- What case B leaves in output 8's staging buffer: its pieces read back over junk. -/
def out0_B_8 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) : Vec F S48x256 .fp8e4m3 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).2.1)

/-- Case B's pieces for output 9 tile its block (2 stores of `S1x48x1`, checked by the kernel's evaluation. -/
theorem cover0_B_9 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) (y : S1x48x2.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).2.2.1 S1x48x1.size (by sl_kernel_rfl) y

/-- What case B leaves in output 9's staging buffer: its pieces read back over junk. -/
def out0_B_9 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) : Vec F S1x48x2 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).2.2.1)

/-- Case B stores nothing into output 10, a live window: its staging buffer holds what the point before left. -/
def out0_B_10 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) : Vec F S48x16 .bf16 := xo10

/-- Case B stores nothing into scratch `arg12`: it holds what the point before left. -/
def sout0_B_0 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) : Vec F S48x112 .bf16 := xs0

/-! ## What the outputs hold after each point -/

/-- THE ACCUMULATION. -/
def outsAt0 (c : Dev nD) : (n : ℕ) → n < cfg1.N → Vec F S48x256 .bf16 × Vec F S48x256 .fp8e4m3 × Vec F S1x48x2 .f32 × Vec F S48x16 .bf16 × Vec F S48x112 .bf16
  | 0, hn => (out0_A_7 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), out0_A_8 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), out0_A_9 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), out0_A_10 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩))
  | n + 1, hn =>
    if h0 : (n + 1) % 20 = 0 then
      (out0_A_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), out0_A_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), out0_A_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), out0_A_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩))
    else
      (out0_B_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.1 (outsAt0 c n (Nat.lt_of_succ_lt hn)).2.2.2.2, out0_B_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.1 (outsAt0 c n (Nat.lt_of_succ_lt hn)).2.2.2.2, out0_B_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.1 (outsAt0 c n (Nat.lt_of_succ_lt hn)).2.2.2.2, out0_B_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.1 (outsAt0 c n (Nat.lt_of_succ_lt hn)).2.2.2.2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg1.N) (h0 : t.val % 20 = 0) :
    outsAt0 V c t.val t.isLt = (out0_A_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t), out0_A_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t), out0_A_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t), out0_A_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg1.N) (h0 : ¬t.val % 20 = 0) :
    outsAt0 V c t.val t.isLt = (out0_B_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the class's. -/
def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2.2.2.2)) ∗ RG c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM0_0 fullShare ((outsAt0 V c n hn).2.2.2.2)) ∗ RG c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM0_0 fullShare ((outsAt0 V c (n - 1) (by omega)).2.2.2.2)) ∗ RG c) := by
  cases n with
  | zero => exact absurd rfl hz
  | succ n => rfl

/-! ## The pipeline's proof data -/

/-- The proof data of the one pipeline on core `c`: the arrays as the region finds them. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt0 V c t.val t.isLt).1
    | ⟨8, _⟩ => (outsAt0 V c t.val t.isLt).2.1
    | ⟨9, _⟩ => (outsAt0 V c t.val t.isLt).2.2.1
    | ⟨10, _⟩ => (outsAt0 V c t.val t.isLt).2.2.2.1
  Φ t := PhiS V c t.val (Nat.le_of_lt_succ t.isLt)
  q _ := fullShare
  owed _ := 0

/-- The proof data's arrays are the region-entry contents: the proof data's definition projected. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = iblk V c 2 t := by dsimp only [dat]
theorem after0_3 (c : Dev nD) (t : Fin cfg1.N) : (dat V c).after 3 t = iblk V c 3 t := by dsimp only [dat]
theorem after0_4 (c : Dev nD) (t : Fin cfg1.N) : (dat V c).after 4 t = iblk V c 4 t := by dsimp only [dat]
theorem after0_5 (c : Dev nD) (t : Fin cfg1.N) : (dat V c).after 5 t = iblk V c 5 t := by dsimp only [dat]
theorem after0_6 (c : Dev nD) (t : Fin cfg1.N) : (dat V c).after 6 t = iblk V c 6 t := by dsimp only [dat]
theorem after0_7 (c : Dev nD) (t : Fin cfg1.N) : (dat V c).after 7 t = (outsAt0 V c t.val t.isLt).1 := by dsimp only [dat]
theorem after0_8 (c : Dev nD) (t : Fin cfg1.N) : (dat V c).after 8 t = (outsAt0 V c t.val t.isLt).2.1 := by dsimp only [dat]
theorem after0_9 (c : Dev nD) (t : Fin cfg1.N) : (dat V c).after 9 t = (outsAt0 V c t.val t.isLt).2.2.1 := by dsimp only [dat]
theorem after0_10 (c : Dev nD) (t : Fin cfg1.N) : (dat V c).after 10 t = (outsAt0 V c t.val t.isLt).2.2.2.1 := by dsimp only [dat]

/-- Each input's current staging buffer holds its block at every point, fetched there or not. -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d
theorem before0_2 (c : Dev nD) (t : Fin cfg1.N) (d) : (dat V c).before 2 t d = iblk V c 2 t :=
  before0_2_of V (dat V c) (A_eq V c 2) (after0_2 V c) t d
theorem before0_3 (c : Dev nD) (t : Fin cfg1.N) (d) : (dat V c).before 3 t d = iblk V c 3 t :=
  before0_3_of V (dat V c) (A_eq V c 3) (after0_3 V c) t d
theorem before0_4 (c : Dev nD) (t : Fin cfg1.N) (d) : (dat V c).before 4 t d = iblk V c 4 t :=
  before0_4_of V (dat V c) (A_eq V c 4) (after0_4 V c) t d
theorem before0_5 (c : Dev nD) (t : Fin cfg1.N) (d) : (dat V c).before 5 t d = iblk V c 5 t :=
  before0_5_of V (dat V c) (A_eq V c 5) (after0_5 V c) t d
theorem before0_6 (c : Dev nD) (t : Fin cfg1.N) (d) : (dat V c).before 6 t d = iblk V c 6 t :=
  before0_6_of V (dat V c) (A_eq V c 6) (after0_6 V c) t d

/-- Output 10's contents CARRY through the points that leave it idle: at such a point, its buffer not fresh, the proof data's `after` is the point before's (the case there stores nothing into the window and its term says so; a case that stores into it is not idle there by `liveAt0_10_κ`). -/
theorem hcarry0_10 (c : Dev nD) : ∀ (t : Fin cfg1.N) (_ : t.val ≠ 0), cfg1.idle 10 (grid1.coords t) = true → cfg1.fresh 10 t.val = false →
    (dat V c).after 10 t = (dat V c).after 10 ⟨t.val - 1, by omega⟩ := by
  intro t _ hi _
  have hN : t.val < 20 := lt_of_lt_of_eq t.isLt (show cfg1.N = 20 from N_1)
  rw [after0_10, after0_10]
  by_cases h0 : t.val % 20 = 0
  · rw [liveAt0_10_A t ((hcond0_0 t).mpr h0)] at hi
    exact absurd hi Bool.false_ne_true
  · rw [outsAt0_B V c t h0]; rfl
/-- At a point of case B output 10's current staging buffer holds what the point before left: the buffer is not fresh there. -/
theorem before0_10_B (c : Dev nD) (t : Fin cfg1.N) (h0 : ¬t.val % 20 = 0) (d) :
    (dat V c).before 10 t d = (outsAt0 V c (t.val - 1) (Nat.lt_of_le_of_lt (Nat.sub_le _ _) t.isLt)).2.2.2.1 := by
  rw [Dat.before_out_traj _ 10 rfl (fun _ _ => rfl) (hcarry0_10 V c) t.val t rfl d,
    if_neg (by rw [notFresh0_10_B t (fun h => h0 ((hcond0_0 t).mp h))]; exact Bool.false_ne_true)]
  dsimp only [dat]

/-- At a point of case B output 10's buffer, holding what the point before left, is what the obligation asks for, at a write-back or not. -/
theorem leaves10_B (c : Dev nD) (t : Fin cfg1.N) (h0 : ¬t.val % 20 = 0) :
    owns (c : Thread nD τ) (ms0_10 t) fullShare (outsAt0 V c (t.val - 1) (Nat.lt_of_le_of_lt (Nat.sub_le _ _) t.isLt)).2.2.2.1
      ⊢ ((dat V c).leavesExact 10 t : sProp 𝕄) := by
  unfold Dat.leavesExact
  rw [idleAt0_10_B t (fun h => h0 ((hcond0_0 t).mp h))]
  cases hf : (cfg1.win 10).flush t with
  | false =>
    dsimp only
    simp only [before0_10_B V c t h0]
    iintro H
    iexists (outsAt0 V c (t.val - 1) (Nat.lt_of_le_of_lt (Nat.sub_le _ _) t.isLt)).2.2.2.1
    iexact H
  | true =>
    dsimp only
    rw [after0_10, outsAt0_B V c t h0]
    exact .rfl

/-! ## The body obligation, at a generic point -/

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d))
    ∗ (∃ d, owns (c : Thread nD τ) (ms0_9 t) fullShare ((dat V c).before 9 t d))
    ∗ (∃ d, owns (c : Thread nD τ) (ms0_10 t) fullShare ((dat V c).before 10 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 9600000 in
/-- The body at any point: the inputs' memrefs hold their blocks. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4, before0_5, before0_6]
  rw [show (dat V c).owesAt () t.succ = (dat V c).owesAt () t.castSucc from rfl]
  rw [show (dat V c).Φ t.succ = PhiS V c (t.val + 1) t.isLt from rfl, PhiS_succ]
  have hN : t.val < 20 := lt_of_lt_of_eq t.isLt (show cfg1.N = 20 from N_1)
  by_cases h0 : t.val % 20 = 0
  · rw [show (dat V c).leavesExact 0 t = owns (c : Thread nD τ) (ms0_0 t) fullShare ((dat V c).after 0 t) from by
      unfold Dat.leavesExact; rw [liveAt0_0 t], after0_0]
    rw [show (dat V c).leavesExact 1 t = owns (c : Thread nD τ) (ms0_1 t) fullShare ((dat V c).after 1 t) from by
      unfold Dat.leavesExact; rw [liveAt0_1 t], after0_1]
    rw [show (dat V c).leavesExact 2 t = owns (c : Thread nD τ) (ms0_2 t) fullShare ((dat V c).after 2 t) from by
      unfold Dat.leavesExact; rw [liveAt0_2 t], after0_2]
    rw [show (dat V c).leavesExact 3 t = owns (c : Thread nD τ) (ms0_3 t) fullShare ((dat V c).after 3 t) from by
      unfold Dat.leavesExact; rw [liveAt0_3 t], after0_3]
    rw [show (dat V c).leavesExact 4 t = owns (c : Thread nD τ) (ms0_4 t) fullShare ((dat V c).after 4 t) from by
      unfold Dat.leavesExact; rw [liveAt0_4 t], after0_4]
    rw [show (dat V c).leavesExact 5 t = owns (c : Thread nD τ) (ms0_5 t) fullShare ((dat V c).after 5 t) from by
      unfold Dat.leavesExact; rw [liveAt0_5 t], after0_5]
    rw [show (dat V c).leavesExact 6 t = owns (c : Thread nD τ) (ms0_6 t) fullShare ((dat V c).after 6 t) from by
      unfold Dat.leavesExact; rw [liveAt0_6 t], after0_6]
    rw [show (dat V c).leavesExact 7 t = owns (c : Thread nD τ) (ms0_7 t) fullShare ((dat V c).after 7 t) from by
      unfold Dat.leavesExact; rw [liveAt0_7 t], after0_7]
    rw [show (dat V c).leavesExact 8 t = owns (c : Thread nD τ) (ms0_8 t) fullShare ((dat V c).after 8 t) from by
      unfold Dat.leavesExact; rw [liveAt0_8 t], after0_8]
    rw [show (dat V c).leavesExact 9 t = owns (c : Thread nD τ) (ms0_9 t) fullShare ((dat V c).after 9 t) from by
      unfold Dat.leavesExact; rw [liveAt0_9 t], after0_9]
    rw [show (dat V c).leavesExact 10 t = owns (c : Thread nD τ) (ms0_10 t) fullShare ((dat V c).after 10 t) from by
      unfold Dat.leavesExact; rw [liveAt0_10_A t ((hcond0_0 t).mpr h0)], after0_10]
    by_cases hz : t.val = 0
    · rw [PhiS_castSucc V c t, PhiS_zero V c _ _ hz, PhiA0_eq]
      rw [outsAt0_A V c t h0]
      unfold out0_A_7 out0_A_8 out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid1.coords t) _ _ _ _ _ _ _ _ _ _ _ _ _ _ _ _ _ _ _ _ _ _ _ _ ((hcond0_0 t).mpr h0) (iblk V c 0 t) (iblk V c 1 t) (iblk V c 2 t) (iblk V c 3 t) (iblk V c 4 t) (iblk V c 5 t) (iblk V c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _)
    · exfalso; have hN : t.val < 20 := lt_of_lt_of_eq t.isLt (show cfg1.N = 20 from N_1); omega
  · rw [show (dat V c).leavesExact 0 t = owns (c : Thread nD τ) (ms0_0 t) fullShare ((dat V c).after 0 t) from by
      unfold Dat.leavesExact; rw [liveAt0_0 t], after0_0]
    rw [show (dat V c).leavesExact 1 t = owns (c : Thread nD τ) (ms0_1 t) fullShare ((dat V c).after 1 t) from by
      unfold Dat.leavesExact; rw [liveAt0_1 t], after0_1]
    rw [show (dat V c).leavesExact 2 t = owns (c : Thread nD τ) (ms0_2 t) fullShare ((dat V c).after 2 t) from by
      unfold Dat.leavesExact; rw [liveAt0_2 t], after0_2]
    rw [show (dat V c).leavesExact 3 t = owns (c : Thread nD τ) (ms0_3 t) fullShare ((dat V c).after 3 t) from by
      unfold Dat.leavesExact; rw [liveAt0_3 t], after0_3]
    rw [show (dat V c).leavesExact 4 t = owns (c : Thread nD τ) (ms0_4 t) fullShare ((dat V c).after 4 t) from by
      unfold Dat.leavesExact; rw [liveAt0_4 t], after0_4]
    rw [show (dat V c).leavesExact 5 t = owns (c : Thread nD τ) (ms0_5 t) fullShare ((dat V c).after 5 t) from by
      unfold Dat.leavesExact; rw [liveAt0_5 t], after0_5]
    rw [show (dat V c).leavesExact 6 t = owns (c : Thread nD τ) (ms0_6 t) fullShare ((dat V c).after 6 t) from by
      unfold Dat.leavesExact; rw [liveAt0_6 t], after0_6]
    rw [show (dat V c).leavesExact 7 t = owns (c : Thread nD τ) (ms0_7 t) fullShare ((dat V c).after 7 t) from by
      unfold Dat.leavesExact; rw [liveAt0_7 t], after0_7]
    rw [show (dat V c).leavesExact 8 t = owns (c : Thread nD τ) (ms0_8 t) fullShare ((dat V c).after 8 t) from by
      unfold Dat.leavesExact; rw [liveAt0_8 t], after0_8]
    rw [show (dat V c).leavesExact 9 t = owns (c : Thread nD τ) (ms0_9 t) fullShare ((dat V c).after 9 t) from by
      unfold Dat.leavesExact; rw [liveAt0_9 t], after0_9]
    by_cases hz : t.val = 0
    · exfalso; have hN : t.val < 20 := lt_of_lt_of_eq t.isLt (show cfg1.N = 20 from N_1); omega
    · rw [PhiS_castSucc V c t, PhiS_pos V c _ _ hz]
      rw [outsAt0_B V c t h0]
      simp only [before0_10_B V c t h0]
      unfold out0_B_7 out0_B_8 out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid1.coords t) _ _ _ _ _ _ _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) (iblk V c 6 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [HS0]; · iexact HS0
      iintro ⟨H0, H1, H2, H3, H4, H5, H6, ⟨%e7, H7⟩, ⟨%e8, H8⟩, ⟨%e9, H9⟩, H10, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _)
      iapply (leaves10_B V c t h0); iexact H10

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 20 := N_1; omega)

end Cert.Kernel.R1

end
-- ==== Proof.KP.Run.lean ====
/- The two calls of `Kernel` as segments of @main, and its run: what every unscoped buffer holds at the end. -/
module

public import proofs.«01_k».proof.Proof.KP.R0Body
public import proofs.«01_k».proof.Proof.KP.R1Body
public import proofs.«01_k».proof.Proof.Gen.Kernel.Regions
public import Idealize.ShloMosaic.Lib.Pipeline.RegionArrays

@[expose] public section

set_option maxRecDepth 16384

noncomputable section

namespace Cert.Kernel.Whole

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

/-- What rides beside the buffers between items: the core's `owes` at nothing, and the generator register. -/
def Rest (c : Dev nD) : sProp 𝕄 :=
  iprop((∃ W, owes (c : Thread nD τ) (0 : CellTallies nD τ sig Unit) W) ∗ (∃ r, prngReg c r))

/-- The rest ends owing nothing. -/
theorem rest_owes (c : Dev nD) : Rest (F := F) c ⊢ iprop(∃ W, owes (c : Thread nD τ) (0 : CellTallies nD τ sig Unit) W) := by
  unfold Rest
  iintro ⟨H, -⟩
  iexact H

section Seg

variable (pdats : (p : Fin 2) → (c : Dev nD) → Dat τ (Elt F) Unit ℕ (UR sig nD τ) ℕ (cfgs p) c)

/-- The buffers after region `p` entered at `V`: its windows' arrays at their final contents, the rest as entered. -/
def afterReg (p : Fin 2) (V : Dev nD → Valuation τ sig (Elt F)) (c : Dev nD) : Valuation τ sig (Elt F) :=
  Pipeline.withArrays (cfgs p).spec c (V c) (fun w => (pdats p c).arrAt w (cfgs p).N)

set_option backward.isDefEq.respectTransparency.types false in
/-- A call of this program as a segment: from every unscoped buffer held at `V`, to every one held at `afterReg`. -/
def regSeg (p : Fin 2) (kit : Pipeline.LaunchFacts₀ (nD := nD) (τ := τ) cfgs p) (V : Dev nD → Valuation τ sig (Elt F))
    (hA : ∀ c w, (pdats p c).A w = V c (Proc.devRef .tc (Pipeline.arrRef (cfgs p).spec w)))
    (hq : ∀ c w, ((cfgs p).spec w).isOut = false → (pdats p c).q w = Pipeline.shareOf (cfgs p).spec w)
    (howed : ∀ c t, (pdats p c).owed t = 0) (hrec : ∀ c t, (pdats p c).recorded t = Set.univ)
    (hbody : ∀ c, BodyObligation (pdats p c) (defs₀ (F := F)) Variants.none () Set.univ)
    (hin : ∀ c, Pipeline.ΦA (cfgs p).spec c ⊢ (pdats p c).Φ 0)
    (hout : ∀ c, (pdats p c).Φ (Fin.last (cfgs p).N) ⊢ Pipeline.ΦA (cfgs p).spec c) :
    Pipeline.RegionSeg (pcfgs (F := F)) adm pdats () defs₀ Variants.none L lv p where
  win := kit.win
  block_pos := kit.block_pos
  stage_whole := kit.stage_whole
  K := PEmpty
  osem := fun k => k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ Rest c)
  post c := iprop(StableHlo.held (c : Thread nD τ) (Pipeline.ucRefs τ sig) (afterReg pdats p V c) ∗ Rest c)
  X c := iprop(∃ r, prngReg c r)
  Y c := iprop(∃ r, prngReg c r)
  Z c := Pipeline.unscopedRest (cfgs p).spec c (fun b => V c (Proc.devRef .tc b))
  hentry c := by
    have hs := Pipeline.PerCore.unscopedBufs_split₀ (Ix := Unit) (Name := ℕ) (U := UR sig nD τ) (Lvl := ℕ) (fun _ => cfgs) p c kit.win.arr_unscoped (fun b => V c (Proc.devRef .tc b))
    have ha := (pdats p c).arrBufs_eq_arrays kit.sharedIn kit.arr_whole (hq c) (fun b => V c (Proc.devRef .tc b))
      (fun w => (pdats p c).arrAt w 0) (fun w => hA c w)
    rw [← Pipeline.unscopedBufs_held, hs, Pipeline.ownSems0_none]
    unfold Rest
    iintro ⟨⟨⟨Ha, Hr⟩, ⟨%W, HO⟩, Hp⟩, -, -⟩
    imodintro
    isplitl [Ha]; · iapply (Entails.of_eq ha); iexact Ha
    isplitr; · rw [Pipeline.prefHeld_of_none _ rfl]; iempintro
    isplitl [HO]
    · unfold Pipeline.Dat.owesAt Pipeline.owesWithin
      rw [howed]
      iexists W; isplitr; · ipureintro; exact fun _ _ => Or.inl (by rw [hrec]; trivial)
      iexact HO
    isplitl [Hp]; · iexact Hp
    iexact Hr
  hin c := by
    refine BIBase.Entails.trans ?_ (hin c)
    unfold Pipeline.ΦA
    iintro ⟨Hp, -, Hs⟩
    isplitl [Hs]; · iexact Hs
    iexact Hp
  hout c := by
    refine (hout c).trans ?_
    rw [Pipeline.ownSems0_none]
    unfold Pipeline.ΦA
    iintro ⟨Hs, Hp⟩
    isplitl [Hp]; · iexact Hp
    isplitr; · iempintro
    iexact Hs
  hexit c := by
    have hs := Pipeline.PerCore.unscopedBufs_split₀ (Ix := Unit) (Name := ℕ) (U := UR sig nD τ) (Lvl := ℕ) (fun _ => cfgs) p c kit.win.arr_unscoped (fun b => afterReg pdats p V c (Proc.devRef .tc b))
    have ha := (pdats p c).arrBufs_eq_arrays kit.sharedIn kit.arr_whole (hq c) (fun b => afterReg pdats p V c (Proc.devRef .tc b))
      (fun w => (pdats p c).arrAt w (cfgs p).N) (fun w => ((pdats p c).withArrays_arrAt kit.sharedIn (V c) (hA c) w).symm)
    have hr : (Pipeline.unscopedRest (cfgs p).spec c (fun b => V c (Proc.devRef .tc b)) : sProp 𝕄)
        = Pipeline.unscopedRest (cfgs p).spec c (fun b => afterReg pdats p V c (Proc.devRef .tc b)) := by
      unfold Pipeline.unscopedRest afterReg
      exact bigSep_congr fun b hb => by
        try dsimp only
        rw [Pipeline.withArrays_of_ne _ c (V c) _ b fun w e => (Finset.mem_sdiff.mp hb).2 (Finset.mem_image.mpr ⟨w, Finset.mem_univ _, e⟩)]
    rw [← Pipeline.unscopedBufs_held, hs, hr]
    unfold Rest
    iintro ⟨Ha, HO, HY, HZ⟩
    imodintro
    isplitl [Ha HZ]
    · isplitl [Ha]; · iapply (Entails.of_eq ha.symm); iexact Ha
      iexact HZ
    isplitl [HO]
    · unfold Pipeline.Dat.owesAt Pipeline.owesWithin
      rw [howed]
      icases HO with ⟨%W, -, HO⟩; iexists W; iexact HO
    iexact HY

end Seg

variable (m : (ℓ : Loc nD τ sig) → Buf (Elt F) ℓ)

/-- The first call's proof data: entered where the host lines before it leave the buffers. -/
abbrev dat0 (c : Dev nD) := R0.dat (fun c b => V5 m c (Proc.devRef .tc b)) c

/-- The buffers after the first call. -/
def W6 (c : Dev nD) : Valuation τ sig (Elt F) :=
  Pipeline.withArrays cfg0.spec c (V5 m c) (fun w => (dat0 m c).arrAt w cfg0.N)

/-- The second call's proof data: entered where the first call leaves the buffers. -/
abbrev dat1 (c : Dev nD) := R1.dat (fun c b => W6 m c (Proc.devRef .tc b)) c

/-- The buffers after the second call. -/
def W7 (c : Dev nD) : Valuation τ sig (Elt F) :=
  Pipeline.withArrays cfg1.spec c (W6 m c) (fun w => (dat1 m c).arrAt w cfg1.N)

/-- The two calls' proof data. -/
def pdats : (p : Fin 2) → (c : Dev nD) → Dat τ (Elt F) Unit ℕ (UR sig nD τ) ℕ (cfgs p) c
  | 0, c => dat0 m c
  | 1, c => dat1 m c

/-- What the calls leave in the arrays they write. -/
def outs : Outs (F := F) := fun n r c => if n = 6 then W6 m c (Proc.devRef .tc r) else W7 m c (Proc.devRef .tc r)

/-- The first call as a segment. -/
def seg5 : Pipeline.RegionSeg (pcfgs (F := F)) adm (pdats m) () defs₀ Variants.none L lv 0 :=
  regSeg (pdats m) 0 launch₀0 (V5 m) (fun c w => R0.A_eq (fun c b => V5 m c (Proc.devRef .tc b)) c w) (fun _ _ _ => rfl) (fun _ _ => rfl) (fun _ _ => rfl)
    (fun c => R0.body_obligation (fun c b => V5 m c (Proc.devRef .tc b)) c)
    (fun c => R0.hin (fun c b => V5 m c (Proc.devRef .tc b)) c) (fun c => R0.hout (fun c b => V5 m c (Proc.devRef .tc b)) c)

/-- The second call as a segment. -/
def seg6 : Pipeline.RegionSeg (pcfgs (F := F)) adm (pdats m) () defs₀ Variants.none L lv 1 :=
  regSeg (pdats m) 1 launch1.to₀ (W6 m) (fun c w => R1.A_eq (fun c b => W6 m c (Proc.devRef .tc b)) c w) (fun c w _ => (Pipeline.shareOf_eq_fullShare_of_injective _ launch1.win.arr_inj w).symm) (fun _ _ => rfl) (fun _ _ => rfl)
    (fun c => R1.body_obligation (fun c b => W6 m c (Proc.devRef .tc b)) c)
    (fun c => R1.hin (fun c b => W6 m c (Proc.devRef .tc b)) c) (fun c => R1.hout (fun c b => W6 m c (Proc.devRef .tc b)) c)

/-- After the first call the buffers are as the generated valuation has them, at these `outs`. -/
theorem V6_eq (c : Dev nD) (r : Ref sig .tc) : V6 m (outs m) c (Proc.devRef .tc r) = W6 m c (Proc.devRef .tc r) := by
  by_cases h1 : r = main_v11_1
  · subst h1; exact (Function.update_self _ _ _).trans rfl
  by_cases h0 : r = main_v11_0
  · subst h0
    exact (Function.update_of_ne (StableHlo.devRef_ne_of_ne (by decide)) _ _).trans ((Function.update_self _ _ _).trans rfl)
  refine (V6_of m (outs m) c r (by simp [h0, h1])).trans ?_
  unfold W6
  by_cases hw : ∃ w, Pipeline.arrRef cfg0.spec w = r
  · obtain ⟨w, rfl⟩ := hw
    rw [(dat0 m c).withArrays_arrAt sharedIn0 (V5 m c) (fun w => R0.A_eq _ c w) w]
    have hin : (cfg0.win w).isOut = false := by
      revert w; decide
    exact ((dat0 m c).arrAt_in w hin _).symm
  · exact (Pipeline.withArrays_of_ne _ c _ _ r fun w e => hw ⟨w, e⟩).symm

/-- After the second call likewise. -/
theorem V7_eq (c : Dev nD) (r : Ref sig .tc) : V7 m (outs m) c (Proc.devRef .tc r) = W7 m c (Proc.devRef .tc r) := by
  by_cases h3 : r = main_v12_3
  · subst h3; exact (Function.update_self _ _ _).trans rfl
  by_cases h2 : r = main_v12_2
  · subst h2
    exact (Function.update_of_ne (StableHlo.devRef_ne_of_ne (by decide)) _ _).trans ((Function.update_self _ _ _).trans rfl)
  by_cases h1 : r = main_v12_1
  · subst h1
    exact (Function.update_of_ne (StableHlo.devRef_ne_of_ne (by decide)) _ _).trans ((Function.update_of_ne (StableHlo.devRef_ne_of_ne (by decide)) _ _).trans ((Function.update_self _ _ _).trans rfl))
  by_cases h0 : r = main_v12_0
  · subst h0
    exact (Function.update_of_ne (StableHlo.devRef_ne_of_ne (by decide)) _ _).trans ((Function.update_of_ne (StableHlo.devRef_ne_of_ne (by decide)) _ _).trans ((Function.update_of_ne (StableHlo.devRef_ne_of_ne (by decide)) _ _).trans ((Function.update_self _ _ _).trans rfl)))
  refine (V7_of m (outs m) c r (by simp [h0, h1, h2, h3])).trans ?_
  rw [V6_eq]
  unfold W7
  by_cases hw : ∃ w, Pipeline.arrRef cfg1.spec w = r
  · obtain ⟨w, rfl⟩ := hw
    rw [(dat1 m c).withArrays_arrAt launch1.to₀.sharedIn (W6 m c) (fun w => R1.A_eq _ c w) w]
    have hin : (cfg1.win w).isOut = false := by
      revert w; decide
    exact ((dat1 m c).arrAt_in w hin _).symm
  · exact (Pipeline.withArrays_of_ne _ c _ _ r fun w e => hw ⟨w, e⟩).symm

/-- Buffers held at valuations that agree on the TensorCore's references are the same held buffers. -/
theorem held_eq (c : Dev nD) (A B : Valuation τ sig (Elt F)) (h : ∀ r : Ref sig .tc, A (Proc.devRef .tc r) = B (Proc.devRef .tc r)) :
    (StableHlo.held (c : Thread nD τ) (Pipeline.ucRefs τ sig) A : sProp 𝕄) = StableHlo.held (c : Thread nD τ) (Pipeline.ucRefs τ sig) B := by
  rw [← Pipeline.unscopedBufs_held, ← Pipeline.unscopedBufs_held]
  congr 1; funext b; exact h b

set_option backward.isDefEq.respectTransparency.types false in
/-- From any memory with zero counters every weakly fair execution of @main terminates, and every final state has each
    unscoped buffer at the contents the host lines after the calls leave, and every counter at zero. -/
theorem run (ρ : Dev nD → PrngReg) :
    θ_run defs (onTc (τ := τ) (main (F := F))) ⟨m, fun _ => 0, ρ⟩
      (fun r => (∀ c : Dev nD, ∀ b ∈ Pipeline.ucRefs τ sig, r.2.mem (c, b) = V8 m (outs m) c b) ∧ r.2.sem = fun _ => 0) := by
  refine Pipeline.θ_run_regions_kit_dev_sems (pcfgs (F := F)) adm (pdats m) () cellOf_inj emb₁ defs₀ Variants.none L lv m ρ main
    (segs m (outs m) Variants.none L lv (fun _ => Rest) () (pdats m) (seg5 m) (seg6 m))
    (fun c Q => by
      rewrite [main_chain c, Pipeline.Seg.run_eq_chain,
        show (segs m (outs m) Variants.none L lv (fun _ => Rest) () (pdats m) (seg5 m) (seg6 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (fun _ => 0) (fun _ _ => rfl) (fun _ => iprop(emp)) (initOf (Pipeline.cells cfgs cellOf_inj) (Pipeline.launchToks cfgs cellOf_inj)) ?hu
    (T₀ := fun c => iprop(StableHlo.held (c : Thread nD τ) (Pipeline.ucRefs τ sig) (V0 m c) ∗ Rest c))
    (Tₙ := fun c => StableHlo.held (c : Thread nD τ) (Pipeline.ucRefs τ sig) (V8 m (outs m) c))
    (hch := fun c => ⟨.rfl, .rfl, .rfl, .rfl, .rfl, .rfl,
      sep_mono (Entails.of_eq (held_eq c _ (W6 m c) fun r => rfl)) .rfl,
      sep_mono (Entails.of_eq (held_eq c _ (V7 m (outs m) c) fun r => (V7_eq m c r).symm)) .rfl,
      sep_mono .rfl (rest_owes c)⟩)
    (hinit := ?init) (QY := fun c s => ∀ b ∈ Pipeline.ucRefs τ sig, s.mem (c, b) = V8 m (outs m) c b)
    (hfin := fun c s' => ?fin) (hQ := fun _ h hz => ⟨h, funext fun g => hz g (.inr (regions_no_unscoped g.2))⟩)
  case hu =>
    iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case init =>
    refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    unfold Rest
    iintro ⟨⟨Hh, -, HO, -, Hp, -⟩, -⟩
    imodintro
    isplitl [Hh]; · iexact Hh
    isplitl [HO]; · iexists ∅; iexact HO
    iexists _; iexact Hp
  case fin =>
    unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro; exact h
    · iexact HSI

/-- A TensorCore reference that is not scoped is among the buffers the run accounts for. -/
theorem mem_ucRefs (r : Ref sig .tc) (h : r.isScoped = false) : Proc.devRef (τ := τ) .tc r ∈ Pipeline.ucRefs τ sig :=
  Finset.mem_filter.mpr ⟨StableHlo.devRef_mem_tcRefs r, by simpa using h⟩

/-- An argument's buffer ends as launched, wherever every buffer is as the run leaves it. -/
theorem args_kept (c : Dev nD) (r : PUnit × MemSt nD τ sig (Elt F)) (h : ∀ b ∈ Pipeline.ucRefs τ sig, r.2.mem (c, b) = V8 m (outs m) c b) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) :=
  ⟨(h _ (mem_ucRefs main_arg0 rfl)).trans (V8_main_arg0 m (outs m) c),
      (h _ (mem_ucRefs main_arg1 rfl)).trans (V8_main_arg1 m (outs m) c),
      (h _ (mem_ucRefs main_arg2 rfl)).trans (V8_main_arg2 m (outs m) c),
      (h _ (mem_ucRefs main_arg3 rfl)).trans (V8_main_arg3 m (outs m) c),
      (h _ (mem_ucRefs main_arg4 rfl)).trans (V8_main_arg4 m (outs m) c),
      (h _ (mem_ucRefs main_arg5 rfl)).trans (V8_main_arg5 m (outs m) c),
      (h _ (mem_ucRefs main_arg6 rfl)).trans (V8_main_arg6 m (outs m) c),
      (h _ (mem_ucRefs main_arg7 rfl)).trans (V8_main_arg7 m (outs m) c),
      (h _ (mem_ucRefs main_arg8 rfl)).trans (V8_main_arg8 m (outs m) c),
      (h _ (mem_ucRefs main_arg9 rfl)).trans (V8_main_arg9 m (outs m) c),
      (h _ (mem_ucRefs main_arg10 rfl)).trans (V8_main_arg10 m (outs m) c)⟩

/-- The frame: every weakly fair execution terminates, the arguments end as launched, every counter at zero. -/
theorem frame (ρ : Dev nD → PrngReg) :
    θ_run defs (onTc (τ := τ) (main (F := F))) ⟨m, fun _ => 0, ρ⟩
      (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10)) ∧ r.2.sem = fun _ => 0) :=
  (θ_run _ _ _).mono (fun r h => ⟨fun c => args_kept m c r (h.1 c), h.2⟩) (run m ρ)

end Cert.Kernel.Whole

end
-- ==== Proof.KI.R0Runs.lean ====
/- The `gate_up` call of `KernelIdeal`: the windows' blocks at each grid point, the branch condition in closed form, the staging and scratch memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data whose array is `V`'s. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof data whose array is `V`'s. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof data whose array is `V`'s. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof data whose array is `V`'s. -/
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof data whose array is `V`'s. -/
theorem before0_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof data whose array is `V`'s. -/
theorem before0_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0. -/
abbrev cond0_0 (i : grid0.Coords) : Prop := k0_cond1 i = 1#1
/-- It holds at the first point only. -/
theorem hcond0_0 : ∀ t : Fin cfg0.N, cond0_0 (grid0.coords t) ↔ t.val % 70 = 0 :=
  (fun t => by
    have ht : t.val < 70 := Nat.lt_of_lt_of_eq t.isLt N_0
    have e0 : (grid0.coords t 0).val = t.val / 1 % 70 := Pipeline.Grid.coords_val t 0 (by decide) rfl
    simp only [cond0_0, k0_cond1, e0]
    word_cmp
   : ∀ t : Fin grid0.N, cond0_0 (grid0.coords t) ↔ t.val % 70 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-- Whether output 10's buffer is FRESH at each position `1 ‥ N`. -/
def freshTab0_10 : ℕ → Bool
  | 0 => true
  | n + 1 => (0x200000000000000000 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At the points of case A the printed configuration. -/
theorem liveAt0_10_A : ∀ t : Fin cfg0.N, cond0_0 (grid0.coords t) → cfg0.idle 10 (grid0.coords t) = false := by decide +kernel
/-- At the points of case B the printed configuration. -/
theorem idleAt0_10_B : ∀ t : Fin cfg0.N, ¬cond0_0 (grid0.coords t) → cfg0.idle 10 (grid0.coords t) = true := by decide +kernel
/-- At the points of case B, which keeps output 10's prior contents (reads it before covering, or covers it in part), the window's buffer is not FRESH: something was stored into it since the region's entry or its last write-back, idle points between or not. -/
theorem notFresh0_10_B : ∀ t : Fin cfg0.N, ¬cond0_0 (grid0.coords t) → cfg0.fresh 10 t.val = false := by
  intro t; rw [fresh0_10_eq t]; revert t; decide +kernel

/-! ## The kernel body on any staging memrefs: a subtype the run finds -/

/-- One staging buffer of output window 9, through which its contents are stated. -/
abbrev VO0_9 : View sig .tc .vmem S48x256 .bf16 := (Memref.whole cc0_stg9_0 : Memref sig .tc .vmem S48x256 .bf16).view
/-- One staging buffer of output window 10, through which its contents are stated. -/
abbrev VO0_10 : View sig .tc .vmem S48x32 .bf16 := (Memref.whole cc0_stg10_0 : Memref sig .tc .vmem S48x32 .bf16).view
/-- Each window's current staging memref at point `t`, spelled as the pipeline passes it. -/
abbrev ms0_0 (t : Fin cfg0.N) : Memref sig .tc .vmem S48x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S48x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S48x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2560x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2560x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S40x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S40x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S7x5120x32 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S7x2x16x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S48x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S48x32 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2x48x112 .bf16 := Memref.whole cc0_scratch0
/-- The scratch `arg12` the kernel carries between points, as a view: what it holds is stated through it. -/
abbrev VS0_0 : View sig .tc .vmem S2x48x112 .bf16 := scM0_0.view

/-- Separating conjunction re-associated, as an equality. -/
theorem sep_assoc_eq (P Q R : sProp 𝕄) : iprop((P ∗ Q) ∗ R) = iprop(P ∗ (Q ∗ R)) := by
  exact Idealize.SL.BI.Entails.antisymm Idealize.SL.BI.sep_assoc Idealize.SL.BI.sep_assoc'

/-- What the scoped buffers other than the kernel's own scratch hold, and the generator register: carried unopened. -/
def RG (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The region's entry invariant with the scratch as a memref owned at some contents. -/
theorem PhiA0_eq (c : Dev nD) :
    (Pipeline.ΦA spec0 c : sProp 𝕄)
      = iprop(iprop((∃ d, owns (c : Thread nD τ) scM0_0 fullShare d)) ∗ RG c) := by
  unfold Pipeline.ΦA RG
  rw [Pipeline.scopedRest_split_of_list spec0 c [cc0_scratch0] (by decide) (by decide)]
  refine (sep_assoc_eq _ _ _).trans ?_
  simp only [scM0_0, owns_whole]; try rfl

end Cert.KernelIdeal.R0

end
-- ==== Proof.KI.R0RunA.lean ====
/- The body of the `gate_up` call of `KernelIdeal` run in case A: the pieces its stores leave, found by running it. -/
module

public import proofs.«01_k».proof.Proof.KI.R0Runs

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A. -/
noncomputable def kernelRun0_A (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) :
    Σ' (L9 : List (View.Piece (Elt F) S48x256 .bf16)), Σ' (L10 : List (View.Piece (Elt F) S48x32 .bf16)), { LS0 : List (View.Piece (Elt F) S2x48x112 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_gate_up_eq_skeleton]; unfold cc0_gate_up_skel
    simp only [k0_part6_eq_skeleton, k0_part1_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.KernelIdeal.R0

end
-- ==== Proof.KI.R0RunB.lean ====
/- The body of the `gate_up` call of `KernelIdeal` run in case B: the pieces its stores leave, found by running it. -/
module

public import proofs.«01_k».proof.Proof.KI.R0Runs

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B. -/
noncomputable def kernelRun0_B (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : ¬cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (xo10 : Vec F S48x32 .bf16) (xs0 : Vec F S2x48x112 .bf16) :
    Σ' (L9 : List (View.Piece (Elt F) S48x256 .bf16)), Σ' (L10 : List (View.Piece (Elt F) S48x32 .bf16)), { LS0 : List (View.Piece (Elt F) S2x48x112 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xo10 ∗ owns (c : Thread nD τ) arg12 fullShare xs0) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12) K } := by
  refine ⟨?_, [], [], fun E K => ?run⟩
  case run =>
    simp only [cc0_gate_up_eq_skeleton]; unfold cc0_gate_up_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; isplitr; · ipureintro; exact harg12.read_unread _
    iexact HS0

end Cert.KernelIdeal.R0

end
-- ==== Proof.KI.R0Body.lean ====
/- The `gate_up` call of `KernelIdeal`: what its outputs hold after each point, the proof data of its pipeline and the body obligation. -/
module

public import proofs.«01_k».proof.Proof.KI.R0RunA
public import proofs.«01_k».proof.Proof.KI.R0RunB

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 9 tile its block (1 store of `S48x256`, checked by the kernel's evaluation. -/
theorem cover0_A_9 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (y : S48x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1 S48x256.size (by sl_kernel_rfl) y

/-- What case A leaves in output 9's staging buffer: its pieces read back over junk. -/
def out0_A_9 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) : Vec F S48x256 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1)

/-- Case A's pieces for output 10 tile its block (1 store of `S48x32`, checked by the kernel's evaluation. -/
theorem cover0_A_10 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (y : S48x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1 S48x32.size (by sl_kernel_rfl) y

/-- What case A leaves in output 10's staging buffer: its pieces read back over junk. -/
def out0_A_10 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) : Vec F S48x32 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1)

/-- Case A's pieces for scratch `arg12`, which the kernel carries between points, cover it: 14 pieces of `S1x48x16` tiling it. -/
theorem scover0_A_0 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (y : S2x48x112.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1 S1x48x16.size (by sl_kernel_rfl) y

/-- What case A leaves in scratch `arg12`: its pieces read back over junk. -/
def sout0_A_0 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) : Vec F S2x48x112 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1)

/-- Case B's pieces for output 9 tile its block (1 store of `S48x256`, checked by the kernel's evaluation. -/
theorem cover0_B_9 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : ¬cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (xo10 : Vec F S48x32 .bf16) (xs0 : Vec F S2x48x112 .bf16) (y : S48x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xs0).1 S48x256.size (by sl_kernel_rfl) y

/-- What case B leaves in output 9's staging buffer: its pieces read back over junk. -/
def out0_B_9 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : ¬cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (xo10 : Vec F S48x32 .bf16) (xs0 : Vec F S2x48x112 .bf16) : Vec F S48x256 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xs0).1)

/-- Case B stores nothing into output 10, a live window: its staging buffer holds what the point before left. -/
def out0_B_10 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : ¬cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (xo10 : Vec F S48x32 .bf16) (xs0 : Vec F S2x48x112 .bf16) : Vec F S48x32 .bf16 := xo10

/-- Case B stores nothing into scratch `arg12`: it holds what the point before left. -/
def sout0_B_0 (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : ¬cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (xo10 : Vec F S48x32 .bf16) (xs0 : Vec F S2x48x112 .bf16) : Vec F S2x48x112 .bf16 := xs0

/-! ## What the outputs hold after each point -/

/-- THE ACCUMULATION. -/
def outsAt0 (c : Dev nD) : (n : ℕ) → n < cfg0.N → Vec F S48x256 .bf16 × Vec F S48x32 .bf16 × Vec F S2x48x112 .bf16
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩))
  | n + 1, hn =>
    if h0 : (n + 1) % 70 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt0 c n (Nat.lt_of_succ_lt hn)).2.1 (outsAt0 c n (Nat.lt_of_succ_lt hn)).2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 70 = 0) :
    outsAt0 V c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t) (iblk V c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t) (iblk V c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t) (iblk V c 8 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 70 = 0) :
    outsAt0 V c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (iblk V c 8 t) (outsAt0 V c (t.val - 1) (Nat.lt_of_le_of_lt (Nat.sub_le _ _) t.isLt)).2.1 (outsAt0 V c (t.val - 1) (Nat.lt_of_le_of_lt (Nat.sub_le _ _) t.isLt)).2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (iblk V c 8 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (iblk V c 8 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the class's. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ RG c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2)) ∗ RG c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ RG c) := by
  cases n with
  | zero => exact absurd rfl hz
  | succ n => rfl

/-! ## The pipeline's proof data -/

/-- The proof data of the one pipeline on core `c`: the arrays as the region finds them. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt0 V c t.val t.isLt).1
    | ⟨10, _⟩ => (outsAt0 V c t.val t.isLt).2.1
  Φ t := PhiS V c t.val (Nat.le_of_lt_succ t.isLt)
  q w := Pipeline.shareOf spec0 w
  owed _ := 0

/-- The proof data's arrays are the region-entry contents: the proof data's definition projected. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = iblk V c 6 t := by dsimp only [dat]
theorem after0_7 (c : Dev nD) (t : Fin cfg0.N) : (dat V c).after 7 t = iblk V c 7 t := by dsimp only [dat]
theorem after0_8 (c : Dev nD) (t : Fin cfg0.N) : (dat V c).after 8 t = iblk V c 8 t := by dsimp only [dat]
theorem after0_9 (c : Dev nD) (t : Fin cfg0.N) : (dat V c).after 9 t = (outsAt0 V c t.val t.isLt).1 := by dsimp only [dat]
theorem after0_10 (c : Dev nD) (t : Fin cfg0.N) : (dat V c).after 10 t = (outsAt0 V c t.val t.isLt).2.1 := by dsimp only [dat]

/-- Each input's current staging buffer holds its block at every point, fetched there or not. -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d
theorem before0_6 (c : Dev nD) (t : Fin cfg0.N) (d) : (dat V c).before 6 t d = iblk V c 6 t :=
  before0_6_of V (dat V c) (A_eq V c 6) (after0_6 V c) t d
theorem before0_7 (c : Dev nD) (t : Fin cfg0.N) (d) : (dat V c).before 7 t d = iblk V c 7 t :=
  before0_7_of V (dat V c) (A_eq V c 7) (after0_7 V c) t d
theorem before0_8 (c : Dev nD) (t : Fin cfg0.N) (d) : (dat V c).before 8 t d = iblk V c 8 t :=
  before0_8_of V (dat V c) (A_eq V c 8) (after0_8 V c) t d

/-- Output 10's contents CARRY through the points that leave it idle: at such a point, its buffer not fresh, the proof data's `after` is the point before's (the case there stores nothing into the window and its term says so; a case that stores into it is not idle there by `liveAt0_10_κ`). -/
theorem hcarry0_10 (c : Dev nD) : ∀ (t : Fin cfg0.N) (_ : t.val ≠ 0), cfg0.idle 10 (grid0.coords t) = true → cfg0.fresh 10 t.val = false →
    (dat V c).after 10 t = (dat V c).after 10 ⟨t.val - 1, by omega⟩ := by
  intro t _ hi _
  have hN : t.val < 70 := lt_of_lt_of_eq t.isLt (show cfg0.N = 70 from N_0)
  rw [after0_10, after0_10]
  by_cases h0 : t.val % 70 = 0
  · rw [liveAt0_10_A t ((hcond0_0 t).mpr h0)] at hi
    exact absurd hi Bool.false_ne_true
  · rw [outsAt0_B V c t h0]; rfl
/-- At a point of case B output 10's current staging buffer holds what the point before left: the buffer is not fresh there. -/
theorem before0_10_B (c : Dev nD) (t : Fin cfg0.N) (h0 : ¬t.val % 70 = 0) (d) :
    (dat V c).before 10 t d = (outsAt0 V c (t.val - 1) (Nat.lt_of_le_of_lt (Nat.sub_le _ _) t.isLt)).2.1 := by
  rw [Dat.before_out_traj _ 10 rfl (fun _ _ => rfl) (hcarry0_10 V c) t.val t rfl d,
    if_neg (by rw [notFresh0_10_B t (fun h => h0 ((hcond0_0 t).mp h))]; exact Bool.false_ne_true)]
  dsimp only [dat]

/-- At a point of case B output 10's buffer, holding what the point before left, is what the obligation asks for, at a write-back or not. -/
theorem leaves10_B (c : Dev nD) (t : Fin cfg0.N) (h0 : ¬t.val % 70 = 0) :
    owns (c : Thread nD τ) (ms0_10 t) fullShare (outsAt0 V c (t.val - 1) (Nat.lt_of_le_of_lt (Nat.sub_le _ _) t.isLt)).2.1
      ⊢ ((dat V c).leavesExact 10 t : sProp 𝕄) := by
  unfold Dat.leavesExact
  rw [idleAt0_10_B t (fun h => h0 ((hcond0_0 t).mp h))]
  cases hf : (cfg0.win 10).flush t with
  | false =>
    dsimp only
    simp only [before0_10_B V c t h0]
    iintro H
    iexists (outsAt0 V c (t.val - 1) (Nat.lt_of_le_of_lt (Nat.sub_le _ _) t.isLt)).2.1
    iexact H
  | true =>
    dsimp only
    rw [after0_10, outsAt0_B V c t h0]
    exact .rfl

/-! ## The body obligation, at a generic point -/

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d))
    ∗ (∃ d, owns (c : Thread nD τ) (ms0_9 t) fullShare ((dat V c).before 9 t d))
    ∗ (∃ d, owns (c : Thread nD τ) (ms0_10 t) fullShare ((dat V c).before 10 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 9600000 in
/-- The body at any point: the inputs' memrefs hold their blocks. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7, before0_8]
  rw [show (dat V c).owesAt () t.succ = (dat V c).owesAt () t.castSucc from rfl]
  rw [show (dat V c).Φ t.succ = PhiS V c (t.val + 1) t.isLt from rfl, PhiS_succ]
  have hN : t.val < 70 := lt_of_lt_of_eq t.isLt (show cfg0.N = 70 from N_0)
  by_cases h0 : t.val % 70 = 0
  · rw [show (dat V c).leavesExact 0 t = owns (c : Thread nD τ) (ms0_0 t) fullShare ((dat V c).after 0 t) from by
      unfold Dat.leavesExact; rw [liveAt0_0 t], after0_0]
    rw [show (dat V c).leavesExact 1 t = owns (c : Thread nD τ) (ms0_1 t) fullShare ((dat V c).after 1 t) from by
      unfold Dat.leavesExact; rw [liveAt0_1 t], after0_1]
    rw [show (dat V c).leavesExact 2 t = owns (c : Thread nD τ) (ms0_2 t) fullShare ((dat V c).after 2 t) from by
      unfold Dat.leavesExact; rw [liveAt0_2 t], after0_2]
    rw [show (dat V c).leavesExact 3 t = owns (c : Thread nD τ) (ms0_3 t) fullShare ((dat V c).after 3 t) from by
      unfold Dat.leavesExact; rw [liveAt0_3 t], after0_3]
    rw [show (dat V c).leavesExact 4 t = owns (c : Thread nD τ) (ms0_4 t) fullShare ((dat V c).after 4 t) from by
      unfold Dat.leavesExact; rw [liveAt0_4 t], after0_4]
    rw [show (dat V c).leavesExact 5 t = owns (c : Thread nD τ) (ms0_5 t) fullShare ((dat V c).after 5 t) from by
      unfold Dat.leavesExact; rw [liveAt0_5 t], after0_5]
    rw [show (dat V c).leavesExact 6 t = owns (c : Thread nD τ) (ms0_6 t) fullShare ((dat V c).after 6 t) from by
      unfold Dat.leavesExact; rw [liveAt0_6 t], after0_6]
    rw [show (dat V c).leavesExact 7 t = owns (c : Thread nD τ) (ms0_7 t) fullShare ((dat V c).after 7 t) from by
      unfold Dat.leavesExact; rw [liveAt0_7 t], after0_7]
    rw [show (dat V c).leavesExact 8 t = owns (c : Thread nD τ) (ms0_8 t) fullShare ((dat V c).after 8 t) from by
      unfold Dat.leavesExact; rw [liveAt0_8 t], after0_8]
    rw [show (dat V c).leavesExact 9 t = owns (c : Thread nD τ) (ms0_9 t) fullShare ((dat V c).after 9 t) from by
      unfold Dat.leavesExact; rw [liveAt0_9 t], after0_9]
    rw [show (dat V c).leavesExact 10 t = owns (c : Thread nD τ) (ms0_10 t) fullShare ((dat V c).after 10 t) from by
      unfold Dat.leavesExact; rw [liveAt0_10_A t ((hcond0_0 t).mpr h0)], after0_10]
    by_cases hz : t.val = 0
    · rw [PhiS_castSucc V c t, PhiS_zero V c _ _ hz, PhiA0_eq]
      rw [outsAt0_A V c t h0]
      unfold out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (iblk V c 0 t) (iblk V c 1 t) (iblk V c 2 t) (iblk V c 3 t) (iblk V c 4 t) (iblk V c 5 t) (iblk V c 6 t) (iblk V c 7 t) (iblk V c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      iintro ⟨H0, H1, H2, H3, H4, H5, H6, H7, H8, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _)
    · exfalso; have hN : t.val < 70 := lt_of_lt_of_eq t.isLt (show cfg0.N = 70 from N_0); omega
  · rw [show (dat V c).leavesExact 0 t = owns (c : Thread nD τ) (ms0_0 t) fullShare ((dat V c).after 0 t) from by
      unfold Dat.leavesExact; rw [liveAt0_0 t], after0_0]
    rw [show (dat V c).leavesExact 1 t = owns (c : Thread nD τ) (ms0_1 t) fullShare ((dat V c).after 1 t) from by
      unfold Dat.leavesExact; rw [liveAt0_1 t], after0_1]
    rw [show (dat V c).leavesExact 2 t = owns (c : Thread nD τ) (ms0_2 t) fullShare ((dat V c).after 2 t) from by
      unfold Dat.leavesExact; rw [liveAt0_2 t], after0_2]
    rw [show (dat V c).leavesExact 3 t = owns (c : Thread nD τ) (ms0_3 t) fullShare ((dat V c).after 3 t) from by
      unfold Dat.leavesExact; rw [liveAt0_3 t], after0_3]
    rw [show (dat V c).leavesExact 4 t = owns (c : Thread nD τ) (ms0_4 t) fullShare ((dat V c).after 4 t) from by
      unfold Dat.leavesExact; rw [liveAt0_4 t], after0_4]
    rw [show (dat V c).leavesExact 5 t = owns (c : Thread nD τ) (ms0_5 t) fullShare ((dat V c).after 5 t) from by
      unfold Dat.leavesExact; rw [liveAt0_5 t], after0_5]
    rw [show (dat V c).leavesExact 6 t = owns (c : Thread nD τ) (ms0_6 t) fullShare ((dat V c).after 6 t) from by
      unfold Dat.leavesExact; rw [liveAt0_6 t], after0_6]
    rw [show (dat V c).leavesExact 7 t = owns (c : Thread nD τ) (ms0_7 t) fullShare ((dat V c).after 7 t) from by
      unfold Dat.leavesExact; rw [liveAt0_7 t], after0_7]
    rw [show (dat V c).leavesExact 8 t = owns (c : Thread nD τ) (ms0_8 t) fullShare ((dat V c).after 8 t) from by
      unfold Dat.leavesExact; rw [liveAt0_8 t], after0_8]
    rw [show (dat V c).leavesExact 9 t = owns (c : Thread nD τ) (ms0_9 t) fullShare ((dat V c).after 9 t) from by
      unfold Dat.leavesExact; rw [liveAt0_9 t], after0_9]
    by_cases hz : t.val = 0
    · exfalso; have hN : t.val < 70 := lt_of_lt_of_eq t.isLt (show cfg0.N = 70 from N_0); omega
    · rw [PhiS_castSucc V c t, PhiS_pos V c _ _ hz]
      rw [outsAt0_B V c t h0]
      simp only [before0_10_B V c t h0]
      unfold out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) (iblk V c 6 t) (iblk V c 7 t) (iblk V c 8 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS0]; · iexact HS0
      iintro ⟨H0, H1, H2, H3, H4, H5, H6, H7, H8, ⟨%e9, H9⟩, H10, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _)
      iapply (leaves10_B V c t h0); iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg0.N) ⊢ Pipeline.ΦA spec0 c :=
  Phi_out V c _ (by rw [Fin.val_last]; have : cfg0.N = 70 := N_0; omega)

end Cert.KernelIdeal.R0

end
-- ==== Proof.KI.R1Runs.lean ====
/- The `down` call of `KernelIdeal`: the windows' blocks at each grid point, the branch condition in closed form, the staging and scratch memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s. -/
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s. -/
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof data whose array is `V`'s. -/
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof data whose array is `V`'s. -/
theorem before0_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof data whose array is `V`'s. -/
theorem before0_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0. -/
abbrev cond0_0 (i : grid1.Coords) : Prop := k1_cond1 i = 1#1
/-- It holds at the first point only. -/
theorem hcond0_0 : ∀ t : Fin cfg1.N, cond0_0 (grid1.coords t) ↔ t.val % 20 = 0 :=
  (fun t => by
    have ht : t.val < 20 := Nat.lt_of_lt_of_eq t.isLt N_1
    have e0 : (grid1.coords t 0).val = t.val / 1 % 20 := Pipeline.Grid.coords_val t 0 (by decide) rfl
    simp only [cond0_0, k1_cond1, e0]
    word_cmp
   : ∀ t : Fin grid1.N, cond0_0 (grid1.coords t) ↔ t.val % 20 = 0)

/-! ## Where the windows are idle (the printed configuration's table `Cfg.idle`) -/

/-- Window 0 is never idle (an input). -/
theorem liveAt0_0 : ∀ t : Fin cfg1.N, cfg1.idle 0 (grid1.coords t) = false := fun _ => rfl
/-- Window 1 is never idle (an input). -/
theorem liveAt0_1 : ∀ t : Fin cfg1.N, cfg1.idle 1 (grid1.coords t) = false := fun _ => rfl
/-- Window 2 is never idle (an input). -/
theorem liveAt0_2 : ∀ t : Fin cfg1.N, cfg1.idle 2 (grid1.coords t) = false := fun _ => rfl
/-- Window 3 is never idle (an input). -/
theorem liveAt0_3 : ∀ t : Fin cfg1.N, cfg1.idle 3 (grid1.coords t) = false := fun _ => rfl
/-- Window 4 is never idle (an input). -/
theorem liveAt0_4 : ∀ t : Fin cfg1.N, cfg1.idle 4 (grid1.coords t) = false := fun _ => rfl
/-- Window 5 is never idle (an input). -/
theorem liveAt0_5 : ∀ t : Fin cfg1.N, cfg1.idle 5 (grid1.coords t) = false := fun _ => rfl
/-- Window 6 is never idle (an input). -/
theorem liveAt0_6 : ∀ t : Fin cfg1.N, cfg1.idle 6 (grid1.coords t) = false := fun _ => rfl
/-- Window 7 is never idle (an output stored at every point, under no condition). -/
theorem liveAt0_7 : ∀ t : Fin cfg1.N, cfg1.idle 7 (grid1.coords t) = false := fun _ => rfl
/-- Window 8 is never idle (an output stored at every point, under no condition). -/
theorem liveAt0_8 : ∀ t : Fin cfg1.N, cfg1.idle 8 (grid1.coords t) = false := fun _ => rfl
/-- Window 9 is never idle (an output stored at every point, under no condition). -/
theorem liveAt0_9 : ∀ t : Fin cfg1.N, cfg1.idle 9 (grid1.coords t) = false := fun _ => rfl
/-- Whether output 10's buffer is FRESH at each position `1 ‥ N`. -/
def freshTab0_10 : ℕ → Bool
  | 0 => true
  | n + 1 => (0x80000 : ℕ).testBit n
theorem freshTab0_10_step : ∀ t : Fin cfg1.N,
    freshTab0_10 (t.val + 1) = ((cfg1.win 10).flush t || (cfg1.idle 10 (cfg1.grid.coords t) && freshTab0_10 t.val)) := by decide +kernel
theorem fresh0_10_eq (t : Fin cfg1.N) : cfg1.fresh 10 t.val = freshTab0_10 t.val :=
  Pipeline.Cfg.fresh_tab cfg1 10 freshTab0_10 rfl freshTab0_10_step t.val (Nat.le_of_lt t.isLt)
/-- At the points of case A the printed configuration. -/
theorem liveAt0_10_A : ∀ t : Fin cfg1.N, cond0_0 (grid1.coords t) → cfg1.idle 10 (grid1.coords t) = false := by decide +kernel
/-- At the points of case B the printed configuration. -/
theorem idleAt0_10_B : ∀ t : Fin cfg1.N, ¬cond0_0 (grid1.coords t) → cfg1.idle 10 (grid1.coords t) = true := by decide +kernel
/-- At the points of case B, which keeps output 10's prior contents (reads it before covering, or covers it in part), the window's buffer is not FRESH: something was stored into it since the region's entry or its last write-back, idle points between or not. -/
theorem notFresh0_10_B : ∀ t : Fin cfg1.N, ¬cond0_0 (grid1.coords t) → cfg1.fresh 10 t.val = false := by
  intro t; rw [fresh0_10_eq t]; revert t; decide +kernel

/-! ## The kernel body on any staging memrefs: a subtype the run finds -/

/-- One staging buffer of output window 7, through which its contents are stated. -/
abbrev VO0_7 : View sig .tc .vmem S48x256 .bf16 := (Memref.whole cc1_stg7_0 : Memref sig .tc .vmem S48x256 .bf16).view
/-- One staging buffer of output window 8, through which its contents are stated. -/
abbrev VO0_8 : View sig .tc .vmem S48x256 .fp8e4m3 := (Memref.whole cc1_stg8_0 : Memref sig .tc .vmem S48x256 .fp8e4m3).view
/-- One staging buffer of output window 9, through which its contents are stated. -/
abbrev VO0_9 : View sig .tc .vmem S1x48x2 .f32 := (Memref.whole cc1_stg9_0 : Memref sig .tc .vmem S1x48x2 .f32).view
/-- One staging buffer of output window 10, through which its contents are stated. -/
abbrev VO0_10 : View sig .tc .vmem S48x16 .bf16 := (Memref.whole cc1_stg10_0 : Memref sig .tc .vmem S48x16 .bf16).view
/-- Each window's current staging memref at point `t`, spelled as the pipeline passes it. -/
abbrev ms0_0 (t : Fin cfg1.N) : Memref sig .tc .vmem S48x1 .i32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S48x1 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S48x17920 .bf16 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S8960x256 .i8 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S140x256 .bf16 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S7x17920x16 .bf16 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S7x16x256 .bf16 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S48x256 .bf16 := win1_7.stage (cfg1.slots t 7)
abbrev hs0_7 (t : Fin cfg1.N) : (ms0_7 t).IsWhole := hstage1_7 ((cfg1.slots t 7).cast nbuf1_7)
abbrev ms0_8 (t : Fin cfg1.N) : Memref sig .tc .vmem S48x256 .fp8e4m3 := win1_8.stage (cfg1.slots t 8)
abbrev hs0_8 (t : Fin cfg1.N) : (ms0_8 t).IsWhole := hstage1_8 ((cfg1.slots t 8).cast nbuf1_8)
abbrev ms0_9 (t : Fin cfg1.N) : Memref sig .tc .vmem S1x48x2 .f32 := win1_9.stage (cfg1.slots t 9)
abbrev hs0_9 (t : Fin cfg1.N) : (ms0_9 t).IsWhole := hstage1_9 ((cfg1.slots t 9).cast nbuf1_9)
abbrev ms0_10 (t : Fin cfg1.N) : Memref sig .tc .vmem S48x16 .bf16 := win1_10.stage (cfg1.slots t 10)
abbrev hs0_10 (t : Fin cfg1.N) : (ms0_10 t).IsWhole := hstage1_10 ((cfg1.slots t 10).cast nbuf1_10)
/-- The scratch operands: whole scoped buffers of the kernel's own, passed beside the windows. -/
abbrev scM0_0 : Memref sig .tc .vmem S48x112 .bf16 := Memref.whole cc1_scratch0
/-- The scratch `arg12` the kernel carries between points, as a view: what it holds is stated through it. -/
abbrev VS0_0 : View sig .tc .vmem S48x112 .bf16 := scM0_0.view

/-- Separating conjunction re-associated, as an equality. -/
theorem sep_assoc_eq (P Q R : sProp 𝕄) : iprop((P ∗ Q) ∗ R) = iprop(P ∗ (Q ∗ R)) := by
  exact Idealize.SL.BI.Entails.antisymm Idealize.SL.BI.sep_assoc Idealize.SL.BI.sep_assoc'

/-- What the scoped buffers other than the kernel's own scratch hold, and the generator register: carried unopened. -/
def RG (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The region's entry invariant with the scratch as a memref owned at some contents. -/
theorem PhiA0_eq (c : Dev nD) :
    (Pipeline.ΦA spec1 c : sProp 𝕄)
      = iprop(iprop((∃ d, owns (c : Thread nD τ) scM0_0 fullShare d)) ∗ RG c) := by
  unfold Pipeline.ΦA RG
  rw [Pipeline.scopedRest_split_of_list spec1 c [cc1_scratch0] (by decide) (by decide)]
  refine (sep_assoc_eq _ _ _).trans ?_
  simp only [scM0_0, owns_whole]; try rfl

end Cert.KernelIdeal.R1

end
-- ==== Proof.KI.R1RunA.lean ====
/- The body of the `down` call of `KernelIdeal` run in case A: the pieces its stores leave, found by running it. -/
module

public import proofs.«01_k».proof.Proof.KI.R1Runs

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1008000 in
/-- What the body's stores leave in each output's staging memref, as pieces (last first) IN CASE A. -/
noncomputable def kernelRun0_A (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) :
    Σ' (L7 : List (View.Piece (Elt F) S48x256 .bf16)), Σ' (L8 : List (View.Piece (Elt F) S48x256 .fp8e4m3)), Σ' (L9 : List (View.Piece (Elt F) S1x48x2 .f32)), Σ' (L10 : List (View.Piece (Elt F) S48x16 .bf16)), { LS0 : List (View.Piece (Elt F) S48x112 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc1_down i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_down_eq_skeleton]; unfold cc1_down_skel
    simp only [k1_part39_eq_skeleton, k1_part5_eq_skeleton, k1_part1_eq_skeleton, k1_part2_eq_skeleton, k1_part3_eq_skeleton, k1_part4_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    iexists _; iexact HS0

end Cert.KernelIdeal.R1

end
-- ==== Proof.KI.R1RunB.lean ====
/- The body of the `down` call of `KernelIdeal` run in case B: the pieces its stores leave, found by running it. -/
module

public import proofs.«01_k».proof.Proof.KI.R1Runs

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B. -/
noncomputable def kernelRun0_B (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) :
    Σ' (L7 : List (View.Piece (Elt F) S48x256 .bf16)), Σ' (L8 : List (View.Piece (Elt F) S48x256 .fp8e4m3)), Σ' (L9 : List (View.Piece (Elt F) S1x48x2 .f32)), Σ' (L10 : List (View.Piece (Elt F) S48x16 .bf16)), { LS0 : List (View.Piece (Elt F) S48x112 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xo10 ∗ owns (c : Thread nD τ) arg12 fullShare xs0) -∗ K ⟨⟩))
          ⊢ wp frame (wpE (defs₀ (F := F)) Variants.none c none) E (cc1_down i arg1 harg1 arg2 harg2 arg3 harg3 arg4 harg4 arg5 harg5 arg6 harg6 arg7 harg7 arg8 harg8 arg9 harg9 arg10 harg10 arg11 harg11 arg12 harg12) K } := by
  refine ⟨?_, ?_, ?_, [], [], fun E K => ?run⟩
  case run =>
    simp only [cc1_down_eq_skeleton]; unfold cc1_down_skel
    simp only [k1_part39_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hf10; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]
    · iexists _; isplitr; · ipureintro; exact harg11.read_unread _
      iexact H10
    iexists _; isplitr; · ipureintro; exact harg12.read_unread _
    iexact HS0

end Cert.KernelIdeal.R1

end
-- ==== Proof.KI.R1Body.lean ====
/- The `down` call of `KernelIdeal`: what its outputs hold after each point, the proof data of its pipeline and the body obligation. -/
module

public import proofs.«01_k».proof.Proof.KI.R1RunA
public import proofs.«01_k».proof.Proof.KI.R1RunB

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 7 tile its block (1 store of `S48x256`, checked by the kernel's evaluation. -/
theorem cover0_A_7 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (y : S48x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 S48x256.size (by sl_kernel_rfl) y

/-- What case A leaves in output 7's staging buffer: its pieces read back over junk. -/
def out0_A_7 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) : Vec F S48x256 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1)

/-- Case A's pieces for output 8 tile its block (2 stores of `S48x128`, checked by the kernel's evaluation. -/
theorem cover0_A_8 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (y : S48x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1 S48x128.size (by sl_kernel_rfl) y

/-- What case A leaves in output 8's staging buffer: its pieces read back over junk. -/
def out0_A_8 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) : Vec F S48x256 .fp8e4m3 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1)

/-- Case A's pieces for output 9 tile its block (2 stores of `S1x48x1`, checked by the kernel's evaluation. -/
theorem cover0_A_9 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (y : S1x48x2.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1 S1x48x1.size (by sl_kernel_rfl) y

/-- What case A leaves in output 9's staging buffer: its pieces read back over junk. -/
def out0_A_9 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) : Vec F S1x48x2 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1)

/-- Case A's pieces for output 10 tile its block (1 store of `S48x16`, checked by the kernel's evaluation. -/
theorem cover0_A_10 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (y : S48x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1 S48x16.size (by sl_kernel_rfl) y

/-- What case A leaves in output 10's staging buffer: its pieces read back over junk. -/
def out0_A_10 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) : Vec F S48x16 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1)

/-- Case A's pieces for scratch `arg12`, which the kernel carries between points, cover it: 7 pieces of `S48x16` tiling it. -/
theorem scover0_A_0 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (y : S48x112.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1 S48x16.size (by sl_kernel_rfl) y

/-- What case A leaves in scratch `arg12`: its pieces read back over junk. -/
def sout0_A_0 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) : Vec F S48x112 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1)

/-- Case B's pieces for output 7 tile its block (1 store of `S48x256`, checked by the kernel's evaluation. -/
theorem cover0_B_7 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) (y : S48x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).1 S48x256.size (by sl_kernel_rfl) y

/-- What case B leaves in output 7's staging buffer: its pieces read back over junk. -/
def out0_B_7 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) : Vec F S48x256 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).1)

/-- Case B's pieces for output 8 tile its block (2 stores of `S48x128`, checked by the kernel's evaluation. -/
theorem cover0_B_8 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) (y : S48x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).2.1 S48x128.size (by sl_kernel_rfl) y

/-- What case B leaves in output 8's staging buffer: its pieces read back over junk. -/
def out0_B_8 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) : Vec F S48x256 .fp8e4m3 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).2.1)

/-- Case B's pieces for output 9 tile its block (2 stores of `S1x48x1`, checked by the kernel's evaluation. -/
theorem cover0_B_9 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) (y : S1x48x2.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).2.2.1 S1x48x1.size (by sl_kernel_rfl) y

/-- What case B leaves in output 9's staging buffer: its pieces read back over junk. -/
def out0_B_9 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) : Vec F S1x48x2 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0).2.2.1)

/-- Case B stores nothing into output 10, a live window: its staging buffer holds what the point before left. -/
def out0_B_10 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) : Vec F S48x16 .bf16 := xo10

/-- Case B stores nothing into scratch `arg12`: it holds what the point before left. -/
def sout0_B_0 (c : Dev nD) (i : grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) : Vec F S48x112 .bf16 := xs0

/-! ## What the outputs hold after each point -/

/-- THE ACCUMULATION. -/
def outsAt0 (c : Dev nD) : (n : ℕ) → n < cfg1.N → Vec F S48x256 .bf16 × Vec F S48x256 .fp8e4m3 × Vec F S1x48x2 .f32 × Vec F S48x16 .bf16 × Vec F S48x112 .bf16
  | 0, hn => (out0_A_7 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), out0_A_8 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), out0_A_9 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), out0_A_10 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩))
  | n + 1, hn =>
    if h0 : (n + 1) % 20 = 0 then
      (out0_A_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), out0_A_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), out0_A_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), out0_A_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩))
    else
      (out0_B_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.1 (outsAt0 c n (Nat.lt_of_succ_lt hn)).2.2.2.2, out0_B_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.1 (outsAt0 c n (Nat.lt_of_succ_lt hn)).2.2.2.2, out0_B_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.1 (outsAt0 c n (Nat.lt_of_succ_lt hn)).2.2.2.2, out0_B_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.1 (outsAt0 c n (Nat.lt_of_succ_lt hn)).2.2.2.2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg1.N) (h0 : t.val % 20 = 0) :
    outsAt0 V c t.val t.isLt = (out0_A_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t), out0_A_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t), out0_A_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t), out0_A_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg1.N) (h0 : ¬t.val % 20 = 0) :
    outsAt0 V c t.val t.isLt = (out0_B_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the class's. -/
def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2.2.2.2)) ∗ RG c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM0_0 fullShare ((outsAt0 V c n hn).2.2.2.2)) ∗ RG c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM0_0 fullShare ((outsAt0 V c (n - 1) (by omega)).2.2.2.2)) ∗ RG c) := by
  cases n with
  | zero => exact absurd rfl hz
  | succ n => rfl

/-! ## The pipeline's proof data -/

/-- The proof data of the one pipeline on core `c`: the arrays as the region finds them. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt0 V c t.val t.isLt).1
    | ⟨8, _⟩ => (outsAt0 V c t.val t.isLt).2.1
    | ⟨9, _⟩ => (outsAt0 V c t.val t.isLt).2.2.1
    | ⟨10, _⟩ => (outsAt0 V c t.val t.isLt).2.2.2.1
  Φ t := PhiS V c t.val (Nat.le_of_lt_succ t.isLt)
  q _ := fullShare
  owed _ := 0

/-- The proof data's arrays are the region-entry contents: the proof data's definition projected. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = iblk V c 2 t := by dsimp only [dat]
theorem after0_3 (c : Dev nD) (t : Fin cfg1.N) : (dat V c).after 3 t = iblk V c 3 t := by dsimp only [dat]
theorem after0_4 (c : Dev nD) (t : Fin cfg1.N) : (dat V c).after 4 t = iblk V c 4 t := by dsimp only [dat]
theorem after0_5 (c : Dev nD) (t : Fin cfg1.N) : (dat V c).after 5 t = iblk V c 5 t := by dsimp only [dat]
theorem after0_6 (c : Dev nD) (t : Fin cfg1.N) : (dat V c).after 6 t = iblk V c 6 t := by dsimp only [dat]
theorem after0_7 (c : Dev nD) (t : Fin cfg1.N) : (dat V c).after 7 t = (outsAt0 V c t.val t.isLt).1 := by dsimp only [dat]
theorem after0_8 (c : Dev nD) (t : Fin cfg1.N) : (dat V c).after 8 t = (outsAt0 V c t.val t.isLt).2.1 := by dsimp only [dat]
theorem after0_9 (c : Dev nD) (t : Fin cfg1.N) : (dat V c).after 9 t = (outsAt0 V c t.val t.isLt).2.2.1 := by dsimp only [dat]
theorem after0_10 (c : Dev nD) (t : Fin cfg1.N) : (dat V c).after 10 t = (outsAt0 V c t.val t.isLt).2.2.2.1 := by dsimp only [dat]

/-- Each input's current staging buffer holds its block at every point, fetched there or not. -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d
theorem before0_2 (c : Dev nD) (t : Fin cfg1.N) (d) : (dat V c).before 2 t d = iblk V c 2 t :=
  before0_2_of V (dat V c) (A_eq V c 2) (after0_2 V c) t d
theorem before0_3 (c : Dev nD) (t : Fin cfg1.N) (d) : (dat V c).before 3 t d = iblk V c 3 t :=
  before0_3_of V (dat V c) (A_eq V c 3) (after0_3 V c) t d
theorem before0_4 (c : Dev nD) (t : Fin cfg1.N) (d) : (dat V c).before 4 t d = iblk V c 4 t :=
  before0_4_of V (dat V c) (A_eq V c 4) (after0_4 V c) t d
theorem before0_5 (c : Dev nD) (t : Fin cfg1.N) (d) : (dat V c).before 5 t d = iblk V c 5 t :=
  before0_5_of V (dat V c) (A_eq V c 5) (after0_5 V c) t d
theorem before0_6 (c : Dev nD) (t : Fin cfg1.N) (d) : (dat V c).before 6 t d = iblk V c 6 t :=
  before0_6_of V (dat V c) (A_eq V c 6) (after0_6 V c) t d

/-- Output 10's contents CARRY through the points that leave it idle: at such a point, its buffer not fresh, the proof data's `after` is the point before's (the case there stores nothing into the window and its term says so; a case that stores into it is not idle there by `liveAt0_10_κ`). -/
theorem hcarry0_10 (c : Dev nD) : ∀ (t : Fin cfg1.N) (_ : t.val ≠ 0), cfg1.idle 10 (grid1.coords t) = true → cfg1.fresh 10 t.val = false →
    (dat V c).after 10 t = (dat V c).after 10 ⟨t.val - 1, by omega⟩ := by
  intro t _ hi _
  have hN : t.val < 20 := lt_of_lt_of_eq t.isLt (show cfg1.N = 20 from N_1)
  rw [after0_10, after0_10]
  by_cases h0 : t.val % 20 = 0
  · rw [liveAt0_10_A t ((hcond0_0 t).mpr h0)] at hi
    exact absurd hi Bool.false_ne_true
  · rw [outsAt0_B V c t h0]; rfl
/-- At a point of case B output 10's current staging buffer holds what the point before left: the buffer is not fresh there. -/
theorem before0_10_B (c : Dev nD) (t : Fin cfg1.N) (h0 : ¬t.val % 20 = 0) (d) :
    (dat V c).before 10 t d = (outsAt0 V c (t.val - 1) (Nat.lt_of_le_of_lt (Nat.sub_le _ _) t.isLt)).2.2.2.1 := by
  rw [Dat.before_out_traj _ 10 rfl (fun _ _ => rfl) (hcarry0_10 V c) t.val t rfl d,
    if_neg (by rw [notFresh0_10_B t (fun h => h0 ((hcond0_0 t).mp h))]; exact Bool.false_ne_true)]
  dsimp only [dat]

/-- At a point of case B output 10's buffer, holding what the point before left, is what the obligation asks for, at a write-back or not. -/
theorem leaves10_B (c : Dev nD) (t : Fin cfg1.N) (h0 : ¬t.val % 20 = 0) :
    owns (c : Thread nD τ) (ms0_10 t) fullShare (outsAt0 V c (t.val - 1) (Nat.lt_of_le_of_lt (Nat.sub_le _ _) t.isLt)).2.2.2.1
      ⊢ ((dat V c).leavesExact 10 t : sProp 𝕄) := by
  unfold Dat.leavesExact
  rw [idleAt0_10_B t (fun h => h0 ((hcond0_0 t).mp h))]
  cases hf : (cfg1.win 10).flush t with
  | false =>
    dsimp only
    simp only [before0_10_B V c t h0]
    iintro H
    iexists (outsAt0 V c (t.val - 1) (Nat.lt_of_le_of_lt (Nat.sub_le _ _) t.isLt)).2.2.2.1
    iexact H
  | true =>
    dsimp only
    rw [after0_10, outsAt0_B V c t h0]
    exact .rfl

/-! ## The body obligation, at a generic point -/

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d))
    ∗ (∃ d, owns (c : Thread nD τ) (ms0_9 t) fullShare ((dat V c).before 9 t d))
    ∗ (∃ d, owns (c : Thread nD τ) (ms0_10 t) fullShare ((dat V c).before 10 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 9600000 in
/-- The body at any point: the inputs' memrefs hold their blocks. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4, before0_5, before0_6]
  rw [show (dat V c).owesAt () t.succ = (dat V c).owesAt () t.castSucc from rfl]
  rw [show (dat V c).Φ t.succ = PhiS V c (t.val + 1) t.isLt from rfl, PhiS_succ]
  have hN : t.val < 20 := lt_of_lt_of_eq t.isLt (show cfg1.N = 20 from N_1)
  by_cases h0 : t.val % 20 = 0
  · rw [show (dat V c).leavesExact 0 t = owns (c : Thread nD τ) (ms0_0 t) fullShare ((dat V c).after 0 t) from by
      unfold Dat.leavesExact; rw [liveAt0_0 t], after0_0]
    rw [show (dat V c).leavesExact 1 t = owns (c : Thread nD τ) (ms0_1 t) fullShare ((dat V c).after 1 t) from by
      unfold Dat.leavesExact; rw [liveAt0_1 t], after0_1]
    rw [show (dat V c).leavesExact 2 t = owns (c : Thread nD τ) (ms0_2 t) fullShare ((dat V c).after 2 t) from by
      unfold Dat.leavesExact; rw [liveAt0_2 t], after0_2]
    rw [show (dat V c).leavesExact 3 t = owns (c : Thread nD τ) (ms0_3 t) fullShare ((dat V c).after 3 t) from by
      unfold Dat.leavesExact; rw [liveAt0_3 t], after0_3]
    rw [show (dat V c).leavesExact 4 t = owns (c : Thread nD τ) (ms0_4 t) fullShare ((dat V c).after 4 t) from by
      unfold Dat.leavesExact; rw [liveAt0_4 t], after0_4]
    rw [show (dat V c).leavesExact 5 t = owns (c : Thread nD τ) (ms0_5 t) fullShare ((dat V c).after 5 t) from by
      unfold Dat.leavesExact; rw [liveAt0_5 t], after0_5]
    rw [show (dat V c).leavesExact 6 t = owns (c : Thread nD τ) (ms0_6 t) fullShare ((dat V c).after 6 t) from by
      unfold Dat.leavesExact; rw [liveAt0_6 t], after0_6]
    rw [show (dat V c).leavesExact 7 t = owns (c : Thread nD τ) (ms0_7 t) fullShare ((dat V c).after 7 t) from by
      unfold Dat.leavesExact; rw [liveAt0_7 t], after0_7]
    rw [show (dat V c).leavesExact 8 t = owns (c : Thread nD τ) (ms0_8 t) fullShare ((dat V c).after 8 t) from by
      unfold Dat.leavesExact; rw [liveAt0_8 t], after0_8]
    rw [show (dat V c).leavesExact 9 t = owns (c : Thread nD τ) (ms0_9 t) fullShare ((dat V c).after 9 t) from by
      unfold Dat.leavesExact; rw [liveAt0_9 t], after0_9]
    rw [show (dat V c).leavesExact 10 t = owns (c : Thread nD τ) (ms0_10 t) fullShare ((dat V c).after 10 t) from by
      unfold Dat.leavesExact; rw [liveAt0_10_A t ((hcond0_0 t).mpr h0)], after0_10]
    by_cases hz : t.val = 0
    · rw [PhiS_castSucc V c t, PhiS_zero V c _ _ hz, PhiA0_eq]
      rw [outsAt0_A V c t h0]
      unfold out0_A_7 out0_A_8 out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid1.coords t) _ _ _ _ _ _ _ _ _ _ _ _ _ _ _ _ _ _ _ _ _ _ _ _ ((hcond0_0 t).mpr h0) (iblk V c 0 t) (iblk V c 1 t) (iblk V c 2 t) (iblk V c 3 t) (iblk V c 4 t) (iblk V c 5 t) (iblk V c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _)
    · exfalso; have hN : t.val < 20 := lt_of_lt_of_eq t.isLt (show cfg1.N = 20 from N_1); omega
  · rw [show (dat V c).leavesExact 0 t = owns (c : Thread nD τ) (ms0_0 t) fullShare ((dat V c).after 0 t) from by
      unfold Dat.leavesExact; rw [liveAt0_0 t], after0_0]
    rw [show (dat V c).leavesExact 1 t = owns (c : Thread nD τ) (ms0_1 t) fullShare ((dat V c).after 1 t) from by
      unfold Dat.leavesExact; rw [liveAt0_1 t], after0_1]
    rw [show (dat V c).leavesExact 2 t = owns (c : Thread nD τ) (ms0_2 t) fullShare ((dat V c).after 2 t) from by
      unfold Dat.leavesExact; rw [liveAt0_2 t], after0_2]
    rw [show (dat V c).leavesExact 3 t = owns (c : Thread nD τ) (ms0_3 t) fullShare ((dat V c).after 3 t) from by
      unfold Dat.leavesExact; rw [liveAt0_3 t], after0_3]
    rw [show (dat V c).leavesExact 4 t = owns (c : Thread nD τ) (ms0_4 t) fullShare ((dat V c).after 4 t) from by
      unfold Dat.leavesExact; rw [liveAt0_4 t], after0_4]
    rw [show (dat V c).leavesExact 5 t = owns (c : Thread nD τ) (ms0_5 t) fullShare ((dat V c).after 5 t) from by
      unfold Dat.leavesExact; rw [liveAt0_5 t], after0_5]
    rw [show (dat V c).leavesExact 6 t = owns (c : Thread nD τ) (ms0_6 t) fullShare ((dat V c).after 6 t) from by
      unfold Dat.leavesExact; rw [liveAt0_6 t], after0_6]
    rw [show (dat V c).leavesExact 7 t = owns (c : Thread nD τ) (ms0_7 t) fullShare ((dat V c).after 7 t) from by
      unfold Dat.leavesExact; rw [liveAt0_7 t], after0_7]
    rw [show (dat V c).leavesExact 8 t = owns (c : Thread nD τ) (ms0_8 t) fullShare ((dat V c).after 8 t) from by
      unfold Dat.leavesExact; rw [liveAt0_8 t], after0_8]
    rw [show (dat V c).leavesExact 9 t = owns (c : Thread nD τ) (ms0_9 t) fullShare ((dat V c).after 9 t) from by
      unfold Dat.leavesExact; rw [liveAt0_9 t], after0_9]
    by_cases hz : t.val = 0
    · exfalso; have hN : t.val < 20 := lt_of_lt_of_eq t.isLt (show cfg1.N = 20 from N_1); omega
    · rw [PhiS_castSucc V c t, PhiS_pos V c _ _ hz]
      rw [outsAt0_B V c t h0]
      simp only [before0_10_B V c t h0]
      unfold out0_B_7 out0_B_8 out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid1.coords t) _ _ _ _ _ _ _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) (iblk V c 6 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [HS0]; · iexact HS0
      iintro ⟨H0, H1, H2, H3, H4, H5, H6, ⟨%e7, H7⟩, ⟨%e8, H8⟩, ⟨%e9, H9⟩, H10, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _)
      iapply (leaves10_B V c t h0); iexact H10

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 20 := N_1; omega)

end Cert.KernelIdeal.R1

end
-- ==== Proof.KI.Run.lean ====
/- The two calls of `KernelIdeal` as segments of @main, and its run: what every unscoped buffer holds at the end. -/
module

public import proofs.«01_k».proof.Proof.KI.R0Body
public import proofs.«01_k».proof.Proof.KI.R1Body
public import proofs.«01_k».proof.Proof.Gen.KernelIdeal.Regions
public import Idealize.ShloMosaic.Lib.Pipeline.RegionArrays

@[expose] public section

set_option maxRecDepth 16384

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

/-- What rides beside the buffers between items: the core's `owes` at nothing, and the generator register. -/
def Rest (c : Dev nD) : sProp 𝕄 :=
  iprop((∃ W, owes (c : Thread nD τ) (0 : CellTallies nD τ sig Unit) W) ∗ (∃ r, prngReg c r))

/-- The rest ends owing nothing. -/
theorem rest_owes (c : Dev nD) : Rest (F := F) c ⊢ iprop(∃ W, owes (c : Thread nD τ) (0 : CellTallies nD τ sig Unit) W) := by
  unfold Rest
  iintro ⟨H, -⟩
  iexact H

section Seg

variable (pdats : (p : Fin 2) → (c : Dev nD) → Dat τ (Elt F) Unit ℕ (UR sig nD τ) ℕ (cfgs p) c)

/-- The buffers after region `p` entered at `V`: its windows' arrays at their final contents, the rest as entered. -/
def afterReg (p : Fin 2) (V : Dev nD → Valuation τ sig (Elt F)) (c : Dev nD) : Valuation τ sig (Elt F) :=
  Pipeline.withArrays (cfgs p).spec c (V c) (fun w => (pdats p c).arrAt w (cfgs p).N)

set_option backward.isDefEq.respectTransparency.types false in
/-- A call of this program as a segment: from every unscoped buffer held at `V`, to every one held at `afterReg`. -/
def regSeg (p : Fin 2) (kit : Pipeline.LaunchFacts₀ (nD := nD) (τ := τ) cfgs p) (V : Dev nD → Valuation τ sig (Elt F))
    (hA : ∀ c w, (pdats p c).A w = V c (Proc.devRef .tc (Pipeline.arrRef (cfgs p).spec w)))
    (hq : ∀ c w, ((cfgs p).spec w).isOut = false → (pdats p c).q w = Pipeline.shareOf (cfgs p).spec w)
    (howed : ∀ c t, (pdats p c).owed t = 0) (hrec : ∀ c t, (pdats p c).recorded t = Set.univ)
    (hbody : ∀ c, BodyObligation (pdats p c) (defs₀ (F := F)) Variants.none () Set.univ)
    (hin : ∀ c, Pipeline.ΦA (cfgs p).spec c ⊢ (pdats p c).Φ 0)
    (hout : ∀ c, (pdats p c).Φ (Fin.last (cfgs p).N) ⊢ Pipeline.ΦA (cfgs p).spec c) :
    Pipeline.RegionSeg (pcfgs (F := F)) adm pdats () defs₀ Variants.none L lv p where
  win := kit.win
  block_pos := kit.block_pos
  stage_whole := kit.stage_whole
  K := PEmpty
  osem := fun k => k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ Rest c)
  post c := iprop(StableHlo.held (c : Thread nD τ) (Pipeline.ucRefs τ sig) (afterReg pdats p V c) ∗ Rest c)
  X c := iprop(∃ r, prngReg c r)
  Y c := iprop(∃ r, prngReg c r)
  Z c := Pipeline.unscopedRest (cfgs p).spec c (fun b => V c (Proc.devRef .tc b))
  hentry c := by
    have hs := Pipeline.PerCore.unscopedBufs_split₀ (Ix := Unit) (Name := ℕ) (U := UR sig nD τ) (Lvl := ℕ) (fun _ => cfgs) p c kit.win.arr_unscoped (fun b => V c (Proc.devRef .tc b))
    have ha := (pdats p c).arrBufs_eq_arrays kit.sharedIn kit.arr_whole (hq c) (fun b => V c (Proc.devRef .tc b))
      (fun w => (pdats p c).arrAt w 0) (fun w => hA c w)
    rw [← Pipeline.unscopedBufs_held, hs, Pipeline.ownSems0_none]
    unfold Rest
    iintro ⟨⟨⟨Ha, Hr⟩, ⟨%W, HO⟩, Hp⟩, -, -⟩
    imodintro
    isplitl [Ha]; · iapply (Entails.of_eq ha); iexact Ha
    isplitr; · rw [Pipeline.prefHeld_of_none _ rfl]; iempintro
    isplitl [HO]
    · unfold Pipeline.Dat.owesAt Pipeline.owesWithin
      rw [howed]
      iexists W; isplitr; · ipureintro; exact fun _ _ => Or.inl (by rw [hrec]; trivial)
      iexact HO
    isplitl [Hp]; · iexact Hp
    iexact Hr
  hin c := by
    refine BIBase.Entails.trans ?_ (hin c)
    unfold Pipeline.ΦA
    iintro ⟨Hp, -, Hs⟩
    isplitl [Hs]; · iexact Hs
    iexact Hp
  hout c := by
    refine (hout c).trans ?_
    rw [Pipeline.ownSems0_none]
    unfold Pipeline.ΦA
    iintro ⟨Hs, Hp⟩
    isplitl [Hp]; · iexact Hp
    isplitr; · iempintro
    iexact Hs
  hexit c := by
    have hs := Pipeline.PerCore.unscopedBufs_split₀ (Ix := Unit) (Name := ℕ) (U := UR sig nD τ) (Lvl := ℕ) (fun _ => cfgs) p c kit.win.arr_unscoped (fun b => afterReg pdats p V c (Proc.devRef .tc b))
    have ha := (pdats p c).arrBufs_eq_arrays kit.sharedIn kit.arr_whole (hq c) (fun b => afterReg pdats p V c (Proc.devRef .tc b))
      (fun w => (pdats p c).arrAt w (cfgs p).N) (fun w => ((pdats p c).withArrays_arrAt kit.sharedIn (V c) (hA c) w).symm)
    have hr : (Pipeline.unscopedRest (cfgs p).spec c (fun b => V c (Proc.devRef .tc b)) : sProp 𝕄)
        = Pipeline.unscopedRest (cfgs p).spec c (fun b => afterReg pdats p V c (Proc.devRef .tc b)) := by
      unfold Pipeline.unscopedRest afterReg
      exact bigSep_congr fun b hb => by
        try dsimp only
        rw [Pipeline.withArrays_of_ne _ c (V c) _ b fun w e => (Finset.mem_sdiff.mp hb).2 (Finset.mem_image.mpr ⟨w, Finset.mem_univ _, e⟩)]
    rw [← Pipeline.unscopedBufs_held, hs, hr]
    unfold Rest
    iintro ⟨Ha, HO, HY, HZ⟩
    imodintro
    isplitl [Ha HZ]
    · isplitl [Ha]; · iapply (Entails.of_eq ha.symm); iexact Ha
      iexact HZ
    isplitl [HO]
    · unfold Pipeline.Dat.owesAt Pipeline.owesWithin
      rw [howed]
      icases HO with ⟨%W, -, HO⟩; iexists W; iexact HO
    iexact HY

end Seg

variable (m : (ℓ : Loc nD τ sig) → Buf (Elt F) ℓ)

/-- The first call's proof data: entered where the host lines before it leave the buffers. -/
abbrev dat0 (c : Dev nD) := R0.dat (fun c b => V5 m c (Proc.devRef .tc b)) c

/-- The buffers after the first call. -/
def W6 (c : Dev nD) : Valuation τ sig (Elt F) :=
  Pipeline.withArrays cfg0.spec c (V5 m c) (fun w => (dat0 m c).arrAt w cfg0.N)

/-- The second call's proof data: entered where the first call leaves the buffers. -/
abbrev dat1 (c : Dev nD) := R1.dat (fun c b => W6 m c (Proc.devRef .tc b)) c

/-- The buffers after the second call. -/
def W7 (c : Dev nD) : Valuation τ sig (Elt F) :=
  Pipeline.withArrays cfg1.spec c (W6 m c) (fun w => (dat1 m c).arrAt w cfg1.N)

/-- The two calls' proof data. -/
def pdats : (p : Fin 2) → (c : Dev nD) → Dat τ (Elt F) Unit ℕ (UR sig nD τ) ℕ (cfgs p) c
  | 0, c => dat0 m c
  | 1, c => dat1 m c

/-- What the calls leave in the arrays they write. -/
def outs : Outs (F := F) := fun n r c => if n = 6 then W6 m c (Proc.devRef .tc r) else W7 m c (Proc.devRef .tc r)

/-- The first call as a segment. -/
def seg5 : Pipeline.RegionSeg (pcfgs (F := F)) adm (pdats m) () defs₀ Variants.none L lv 0 :=
  regSeg (pdats m) 0 launch₀0 (V5 m) (fun c w => R0.A_eq (fun c b => V5 m c (Proc.devRef .tc b)) c w) (fun _ _ _ => rfl) (fun _ _ => rfl) (fun _ _ => rfl)
    (fun c => R0.body_obligation (fun c b => V5 m c (Proc.devRef .tc b)) c)
    (fun c => R0.hin (fun c b => V5 m c (Proc.devRef .tc b)) c) (fun c => R0.hout (fun c b => V5 m c (Proc.devRef .tc b)) c)

/-- The second call as a segment. -/
def seg6 : Pipeline.RegionSeg (pcfgs (F := F)) adm (pdats m) () defs₀ Variants.none L lv 1 :=
  regSeg (pdats m) 1 launch1.to₀ (W6 m) (fun c w => R1.A_eq (fun c b => W6 m c (Proc.devRef .tc b)) c w) (fun c w _ => (Pipeline.shareOf_eq_fullShare_of_injective _ launch1.win.arr_inj w).symm) (fun _ _ => rfl) (fun _ _ => rfl)
    (fun c => R1.body_obligation (fun c b => W6 m c (Proc.devRef .tc b)) c)
    (fun c => R1.hin (fun c b => W6 m c (Proc.devRef .tc b)) c) (fun c => R1.hout (fun c b => W6 m c (Proc.devRef .tc b)) c)

/-- After the first call the buffers are as the generated valuation has them, at these `outs`. -/
theorem V6_eq (c : Dev nD) (r : Ref sig .tc) : V6 m (outs m) c (Proc.devRef .tc r) = W6 m c (Proc.devRef .tc r) := by
  by_cases h1 : r = main_v11_1
  · subst h1; exact (Function.update_self _ _ _).trans rfl
  by_cases h0 : r = main_v11_0
  · subst h0
    exact (Function.update_of_ne (StableHlo.devRef_ne_of_ne (by decide)) _ _).trans ((Function.update_self _ _ _).trans rfl)
  refine (V6_of m (outs m) c r (by simp [h0, h1])).trans ?_
  unfold W6
  by_cases hw : ∃ w, Pipeline.arrRef cfg0.spec w = r
  · obtain ⟨w, rfl⟩ := hw
    rw [(dat0 m c).withArrays_arrAt sharedIn0 (V5 m c) (fun w => R0.A_eq _ c w) w]
    have hin : (cfg0.win w).isOut = false := by
      revert w; decide
    exact ((dat0 m c).arrAt_in w hin _).symm
  · exact (Pipeline.withArrays_of_ne _ c _ _ r fun w e => hw ⟨w, e⟩).symm

/-- After the second call likewise. -/
theorem V7_eq (c : Dev nD) (r : Ref sig .tc) : V7 m (outs m) c (Proc.devRef .tc r) = W7 m c (Proc.devRef .tc r) := by
  by_cases h3 : r = main_v12_3
  · subst h3; exact (Function.update_self _ _ _).trans rfl
  by_cases h2 : r = main_v12_2
  · subst h2
    exact (Function.update_of_ne (StableHlo.devRef_ne_of_ne (by decide)) _ _).trans ((Function.update_self _ _ _).trans rfl)
  by_cases h1 : r = main_v12_1
  · subst h1
    exact (Function.update_of_ne (StableHlo.devRef_ne_of_ne (by decide)) _ _).trans ((Function.update_of_ne (StableHlo.devRef_ne_of_ne (by decide)) _ _).trans ((Function.update_self _ _ _).trans rfl))
  by_cases h0 : r = main_v12_0
  · subst h0
    exact (Function.update_of_ne (StableHlo.devRef_ne_of_ne (by decide)) _ _).trans ((Function.update_of_ne (StableHlo.devRef_ne_of_ne (by decide)) _ _).trans ((Function.update_of_ne (StableHlo.devRef_ne_of_ne (by decide)) _ _).trans ((Function.update_self _ _ _).trans rfl)))
  refine (V7_of m (outs m) c r (by simp [h0, h1, h2, h3])).trans ?_
  rw [V6_eq]
  unfold W7
  by_cases hw : ∃ w, Pipeline.arrRef cfg1.spec w = r
  · obtain ⟨w, rfl⟩ := hw
    rw [(dat1 m c).withArrays_arrAt launch1.to₀.sharedIn (W6 m c) (fun w => R1.A_eq _ c w) w]
    have hin : (cfg1.win w).isOut = false := by
      revert w; decide
    exact ((dat1 m c).arrAt_in w hin _).symm
  · exact (Pipeline.withArrays_of_ne _ c _ _ r fun w e => hw ⟨w, e⟩).symm

/-- Buffers held at valuations that agree on the TensorCore's references are the same held buffers. -/
theorem held_eq (c : Dev nD) (A B : Valuation τ sig (Elt F)) (h : ∀ r : Ref sig .tc, A (Proc.devRef .tc r) = B (Proc.devRef .tc r)) :
    (StableHlo.held (c : Thread nD τ) (Pipeline.ucRefs τ sig) A : sProp 𝕄) = StableHlo.held (c : Thread nD τ) (Pipeline.ucRefs τ sig) B := by
  rw [← Pipeline.unscopedBufs_held, ← Pipeline.unscopedBufs_held]
  congr 1; funext b; exact h b

set_option backward.isDefEq.respectTransparency.types false in
/-- From any memory with zero counters every weakly fair execution of @main terminates, and every final state has each
    unscoped buffer at the contents the host lines after the calls leave, and every counter at zero. -/
theorem run (ρ : Dev nD → PrngReg) :
    θ_run defs (onTc (τ := τ) (main (F := F))) ⟨m, fun _ => 0, ρ⟩
      (fun r => (∀ c : Dev nD, ∀ b ∈ Pipeline.ucRefs τ sig, r.2.mem (c, b) = V8 m (outs m) c b) ∧ r.2.sem = fun _ => 0) := by
  refine Pipeline.θ_run_regions_kit_dev_sems (pcfgs (F := F)) adm (pdats m) () cellOf_inj emb₁ defs₀ Variants.none L lv m ρ main
    (segs m (outs m) Variants.none L lv (fun _ => Rest) () (pdats m) (seg5 m) (seg6 m))
    (fun c Q => by
      rewrite [main_chain c, Pipeline.Seg.run_eq_chain,
        show (segs m (outs m) Variants.none L lv (fun _ => Rest) () (pdats m) (seg5 m) (seg6 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (fun _ => 0) (fun _ _ => rfl) (fun _ => iprop(emp)) (initOf (Pipeline.cells cfgs cellOf_inj) (Pipeline.launchToks cfgs cellOf_inj)) ?hu
    (T₀ := fun c => iprop(StableHlo.held (c : Thread nD τ) (Pipeline.ucRefs τ sig) (V0 m c) ∗ Rest c))
    (Tₙ := fun c => StableHlo.held (c : Thread nD τ) (Pipeline.ucRefs τ sig) (V8 m (outs m) c))
    (hch := fun c => ⟨.rfl, .rfl, .rfl, .rfl, .rfl, .rfl,
      sep_mono (Entails.of_eq (held_eq c _ (W6 m c) fun r => rfl)) .rfl,
      sep_mono (Entails.of_eq (held_eq c _ (V7 m (outs m) c) fun r => (V7_eq m c r).symm)) .rfl,
      sep_mono .rfl (rest_owes c)⟩)
    (hinit := ?init) (QY := fun c s => ∀ b ∈ Pipeline.ucRefs τ sig, s.mem (c, b) = V8 m (outs m) c b)
    (hfin := fun c s' => ?fin) (hQ := fun _ h hz => ⟨h, funext fun g => hz g (.inr (regions_no_unscoped g.2))⟩)
  case hu =>
    iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case init =>
    refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    unfold Rest
    iintro ⟨⟨Hh, -, HO, -, Hp, -⟩, -⟩
    imodintro
    isplitl [Hh]; · iexact Hh
    isplitl [HO]; · iexists ∅; iexact HO
    iexists _; iexact Hp
  case fin =>
    unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro; exact h
    · iexact HSI

/-- A TensorCore reference that is not scoped is among the buffers the run accounts for. -/
theorem mem_ucRefs (r : Ref sig .tc) (h : r.isScoped = false) : Proc.devRef (τ := τ) .tc r ∈ Pipeline.ucRefs τ sig :=
  Finset.mem_filter.mpr ⟨StableHlo.devRef_mem_tcRefs r, by simpa using h⟩

/-- An argument's buffer ends as launched, wherever every buffer is as the run leaves it. -/
theorem args_kept (c : Dev nD) (r : PUnit × MemSt nD τ sig (Elt F)) (h : ∀ b ∈ Pipeline.ucRefs τ sig, r.2.mem (c, b) = V8 m (outs m) c b) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) :=
  ⟨(h _ (mem_ucRefs main_arg0 rfl)).trans (V8_main_arg0 m (outs m) c),
      (h _ (mem_ucRefs main_arg1 rfl)).trans (V8_main_arg1 m (outs m) c),
      (h _ (mem_ucRefs main_arg2 rfl)).trans (V8_main_arg2 m (outs m) c),
      (h _ (mem_ucRefs main_arg3 rfl)).trans (V8_main_arg3 m (outs m) c),
      (h _ (mem_ucRefs main_arg4 rfl)).trans (V8_main_arg4 m (outs m) c),
      (h _ (mem_ucRefs main_arg5 rfl)).trans (V8_main_arg5 m (outs m) c),
      (h _ (mem_ucRefs main_arg6 rfl)).trans (V8_main_arg6 m (outs m) c),
      (h _ (mem_ucRefs main_arg7 rfl)).trans (V8_main_arg7 m (outs m) c),
      (h _ (mem_ucRefs main_arg8 rfl)).trans (V8_main_arg8 m (outs m) c),
      (h _ (mem_ucRefs main_arg9 rfl)).trans (V8_main_arg9 m (outs m) c),
      (h _ (mem_ucRefs main_arg10 rfl)).trans (V8_main_arg10 m (outs m) c)⟩

/-- The frame: every weakly fair execution terminates, the arguments end as launched, every counter at zero. -/
theorem frame (ρ : Dev nD → PrngReg) :
    θ_run defs (onTc (τ := τ) (main (F := F))) ⟨m, fun _ => 0, ρ⟩
      (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10)) ∧ r.2.sem = fun _ => 0) :=
  (θ_run _ _ _).mono (fun r h => ⟨fun c => args_kept m c r (h.1 c), h.2⟩) (run m ρ)

end Cert.KernelIdeal.Whole

end
-- ==== Proof.V.Host.lean ====
/- What the host lines around the two calls leave: the padded batch, the adapters' numbers and scales, and the results' rows. -/
module

public import proofs.«01_k».proof.Proof.Gen.KernelIdeal.Regions
public import Idealize.ShloMosaic.Lib.Pointwise

@[expose] public section

set_option maxRecDepth 16384

noncomputable section

namespace Cert.KernelIdeal.Val.H

open Cert.KernelIdeal Cert.KernelIdeal.Gen
open Idealize.ShloMosaic Idealize.ShloMosaic.TcCoe Idealize.ShloMosaic.StableHlo

variable {F : FTy → Type} [FloatOps F] (U : Valuation τ sig (Elt F))

theorem v0_of : StableHlo.after hostOps0 U (Proc.devRef .tc main_v0)
    = shapeCast S36x5120 (U (Proc.devRef .tc main_arg0) : Vec F S36x1x5120 .bf16) shapeCasts_S36x1x5120_S36x5120 := by
  simp only [hostOps0]
  after_results_simp
  rfl

theorem v1_of : StableHlo.after hostOps0_1 U (Proc.devRef .tc main_v1)
    = Idealize.ShloMosaic.pad S48x5120 ![0, 0] ![12, 0] ![0, 0] (U (Proc.devRef .tc main_v0) : Vec F S36x5120 .bf16)
        (sitofp .bf16 (U (Proc.devRef .tc main_c) : Vec F S_ .i32)) pads_S36x5120_S48x5120_0120_000 h_S_ := by
  simp only [hostOps0_1, TRef.binary, TRef.unary, TRef.toBuf, TRef.ofBuf, cast_eq]
  after_results_simp

theorem v2_of : StableHlo.after hostOps0_3 U (Proc.devRef .tc main_v2)
    = Idealize.ShloMosaic.pad S48 ![0] ![12] ![0] (U (Proc.devRef .tc main_arg1) : Vec F S36 .i32) (U (Proc.devRef .tc main_c_0) : Vec F S_ .i32) pads_S36_S48_0120 h_S_ := by
  simp only [hostOps0_3, TRef.binary, TRef.unary, TRef.toBuf, TRef.ofBuf, cast_eq]
  after_results_simp
  rfl

theorem v3_of : StableHlo.after hostOps0_4 U (Proc.devRef .tc main_v3)
    = shapeCast S48x1 (U (Proc.devRef .tc main_v2) : Vec F S48 .i32) shapeCasts_S48_S48x1 := by
  simp only [hostOps0_4]
  after_results_simp
  rfl

/-- The adapters' numbers as the scales' lookup takes them: a negative one counts from the end. -/
def wrapped (i : Vec F S48x1 .i32) : Vec F S48x1x1 .i32 :=
  broadcastInDim S48x1x1 ![0, 1] bcast_S48x1_S48x1x1_0_1
    (select (cmpi .slt i (broadcastInDim S48x1 ![] bcast_S_S48x1 (constantI S_ 32 0#32)))
      (addi i (broadcastInDim S48x1 ![] bcast_S_S48x1 (constantI S_ 32 7#32))) i)

theorem v10_of : StableHlo.after hostOps0_4 U (Proc.devRef .tc main_v10)
    = Host.gather gather_S7_S48x1x1_S48x1_n_0_n_n_0_2_1 (U (Proc.devRef .tc main_arg10) : Vec F S7 .f32)
        (wrapped (F := F) (shapeCast S48x1 (U (Proc.devRef .tc main_v2) : Vec F S48 .i32) shapeCasts_S48_S48x1)) := by
  simp only [hostOps0_4]
  after_results_simp
  rfl

theorem v16_of : StableHlo.after hostOps2 U (Proc.devRef .tc main_v16)
    = shapeCast S36x1x5120 (extractStridedSlice S36x5120 ![0, 0] (U (Proc.devRef .tc main_v12_0) : Vec F S48x5120 .bf16) slices_S48x5120_S36x5120_0_0)
        shapeCasts_S36x5120_S36x1x5120 := by
  simp only [hostOps2]
  after_results_simp
  rfl

theorem v18_of : StableHlo.after hostOps2 U (Proc.devRef .tc main_v18)
    = shapeCast S36x1x17920 (extractStridedSlice S36x17920 ![0, 0] (U (Proc.devRef .tc main_v11_0) : Vec F S48x17920 .bf16) slices_S48x17920_S36x17920_0_0)
        shapeCasts_S36x17920_S36x1x17920 := by
  simp only [hostOps2]
  after_results_simp
  rfl

theorem v19_of : StableHlo.after hostOps2 U (Proc.devRef .tc main_v19)
    = extractStridedSlice S36x32 ![0, 0] (U (Proc.devRef .tc main_v11_1) : Vec F S48x32 .bf16) slices_S48x32_S36x32_0_0 := by
  simp only [hostOps2]
  after_results_simp
  try rfl

theorem v20_of : StableHlo.after hostOps2 U (Proc.devRef .tc main_v20)
    = extractStridedSlice S36x16 ![0, 0] (U (Proc.devRef .tc main_v12_3) : Vec F S48x16 .bf16) slices_S48x16_S36x16_0_0 := by
  simp only [hostOps2]
  after_results_simp
  try rfl

theorem v22_of : StableHlo.after hostOps2 U (Proc.devRef .tc main_v22)
    = shapeCast S36x1x5120 (extractStridedSlice S36x5120 ![0, 0] (U (Proc.devRef .tc main_v12_1) : Vec F S48x5120 .fp8e4m3) slices_S48x5120_S36x5120_0_0)
        shapeCasts_S36x5120_S36x1x5120 := by
  simp only [hostOps2]
  after_results_simp
  rfl

theorem v24_of : StableHlo.after hostOps2 U (Proc.devRef .tc main_v24)
    = shapeCast S36x1x40 (extractStridedSlice S36x40 ![0, 0] (shapeCast S48x40 (transpose S48x20x2 [1, 0, 2] (U (Proc.devRef .tc main_v12_2) : Vec F S20x48x2 .f32)
        transposes_S20x48x2_S48x20x2_1_0_2) shapeCasts_S48x20x2_S48x40) slices_S48x40_S36x40_0_0) shapeCasts_S36x40_S36x1x40 := by
  simp only [hostOps2]
  after_results_simp
  rfl

end Cert.KernelIdeal.Val.H

end
-- ==== Proof.V.Step.lean ====
/- One step of the int4 product: 256 packed rows unpacked into two fields, each field scaled by two rows of scales and
   multiplied by a block of the activations. Stated once over whatever the step loads, and read at an index over the
   extended reals. -/
module

public import proofs.«01_k».proof.Proof.Gen.KernelIdeal
public import Idealize.ShloMosaic.Lib.Pointwise
public import Idealize.ShloMosaic.Lib.Pipeline.Value
public import Idealize.ShloMosaic.Lib.BitcastFour
public import Idealize.ShloMosaic.Lib.MatmulPlain

@[expose] public section

noncomputable section

namespace Cert.KernelIdeal.Val

open Cert.KernelIdeal Cert.KernelIdeal.Gen
open Idealize.ShloMosaic
open Idealize.ShloMosaic.ValueIdx (sitofp_apply)

variable {F : FTy → Type} [FloatOps F]

/-- The low nibbles of a block of codes, each as sixteen times its signed value. -/
def lo (c : Vec F S256x256 .i8) : FVec F S256x256 .bf16 :=
  sitofp .bf16 (bitcast S256x256 8 (andi (shli (bitcast S64x256 32 c bitcasts_S256x256_w8_S64x256_w32) (broadcast S64x256 4#32)) (broadcast S64x256 4042322160#32)) bitcasts_S64x256_w32_S256x256_w8)

/-- The high nibbles of a block of codes, each as sixteen times its signed value. -/
def hi (c : Vec F S256x256 .i8) : FVec F S256x256 .bf16 :=
  sitofp .bf16 (bitcast S256x256 8 (andi (bitcast S64x256 32 c bitcasts_S256x256_w8_S64x256_w32) (broadcast S64x256 4042322160#32)) bitcasts_S64x256_w32_S256x256_w8)

/-- A field scaled: its first 128 rows by the first row of scales, the other 128 by the second. -/
def wgt (f : FVec F S256x256 .bf16) (s : FVec F S2x256 .bf16) : FVec F S256x256 .bf16 :=
  concatenate S256x256 0
    [⟨S128x256, mulf (extractStridedSlice S128x256 ![0, 0] f slices_S256x256_o0_0_S128x256)
        (broadcastTo S128x256 (extractStridedSlice S1x256 ![0, 0] s slices_S2x256_o0_0_S1x256) broadcasts_S1x256_S128x256)⟩,
     ⟨S128x256, mulf (extractStridedSlice S128x256 ![128, 0] f slices_S256x256_o128_0_S128x256)
        (broadcastTo S128x256 (extractStridedSlice S1x256 ![1, 0] s slices_S2x256_o1_0_S1x256) broadcasts_S1x256_S128x256)⟩]
    concatenates_S128x256_S128x256_S256x256_d0

/-- A block of activations times a block of weights. -/
def dot (x : FVec F S48x256 .bf16) (w : FVec F S256x256 .bf16) : FVec F S48x256 .f32 :=
  matmul dot_S48x256_S256x256_S48x256_1_0_0_1_n_n none x w (constant S48x256 .f32 0x00000000#32)

/-! ### Over the extended reals -/

/-- The signed value of the low four bits. -/
def nibLo (b : BitVec 8) : ℤ := (b.setWidth 4).toInt
/-- The signed value of the high four bits. -/
def nibHi (b : BitVec 8) : ℤ := ((b >>> 4).setWidth 4).toInt

theorem shl_toInt : ∀ b : BitVec 8, (b <<< 4).toInt = 16 * nibLo b := by decide
theorem and_toInt : ∀ b : BitVec 8, (b &&& 0xF0#8).toInt = 16 * nibHi b := by decide

theorem mask_bit : ∀ q : Fin 32, (4042322160#32).getLsbD q.val = (0xF0#8).getLsbD (q.val % 8) := by decide

/-- A bit of a word read back as bytes: bit `i` of byte row `p` is bit `8 (p % 4) + i` of word row `p / 4`. -/
theorem byte_bit (w : IVec S64x256 32) (p j : Fin 256) (i : ℕ) (hi : i < 8) :
    (bitcast S256x256 8 w bitcasts_S64x256_w32_S256x256_w8 (ix2 p j)).getLsbD i
      = (w (ix2 ⟨p.val / 4, by omega⟩ j)).getLsbD (8 * (p.val % 4) + i) := by
  rw [bitcast_getLsbD w _ _ i hi (by decide)]
  have hrow : (S256x256.row (ix2 p j) : ℕ) = p.val := rfl
  have e1 : (S256x256.row (ix2 p j) * 8 + i) % 32 = 8 * (p.val % 4) + i := by rw [hrow]; omega
  rw [e1]
  congr 2
  funext a
  match a with
  | ⟨0, _⟩ =>
    refine Fin.ext ((Shape.Bitcasts.srcIdx_row _ _ _ _ ⟨0, Nat.zero_lt_two⟩ rfl).trans ?_)
    show (S256x256.row (ix2 p j) * 8 + i) / 32 = p.val / 4
    rw [hrow]; omega
  | ⟨1, _⟩ => exact Fin.ext (Shape.Bitcasts.srcIdx_other _ _ _ _ ⟨1, Nat.one_lt_two⟩ (by show ¬ 1 + 2 = 2; omega))

/-- A bit of a word made of bytes. -/
theorem word_bit (c : IVec S256x256 8) (p j : Fin 256) (i : ℕ) (hi : i < 8) :
    (bitcast S64x256 32 c bitcasts_S256x256_w8_S64x256_w32 (ix2 ⟨p.val / 4, by omega⟩ j)).getLsbD (8 * (p.val % 4) + i)
      = (c (ix2 p j)).getLsbD i := by
  have h := bitcast_8_32_getLsbD_ix2 c bitcasts_S256x256_w8_S64x256_w32 ⟨p.val / 4, by omega⟩ j (8 * (p.val % 4) + i) (by omega) p
    (by show p.val = 4 * (p.val / 4) + _; omega)
  rw [show (8 * (p.val % 4) + i) % 8 = i by omega] at h
  exact h

theorem word_lo (c : IVec S256x256 8) (p j : Fin 256) :
    bitcast S256x256 8 (andi (shli (bitcast S64x256 32 c bitcasts_S256x256_w8_S64x256_w32) (broadcast S64x256 4#32)) (broadcast S64x256 4042322160#32)) bitcasts_S64x256_w32_S256x256_w8 (ix2 p j)
      = c (ix2 p j) <<< 4 := by
  apply BitVec.eq_of_getLsbD_eq
  intro i hi
  rw [byte_bit _ p j i hi]
  show (IntOp.andi (IntOp.shli .vector (bitcast S64x256 32 c bitcasts_S256x256_w8_S64x256_w32 (ix2 ⟨p.val / 4, by omega⟩ j)) 4#32) 4042322160#32).getLsbD _ = _
  rw [show ∀ w : BitVec 32, IntOp.shli .vector w 4#32 = w <<< 4 by intro w; simp [IntOp.shli, IntOp.cornerWord]]
  have hm := mask_bit ⟨8 * (p.val % 4) + i, by omega⟩
  simp only [] at hm
  rw [show (8 * (p.val % 4) + i) % 8 = i by omega] at hm
  simp only [IntOp.andi, BitVec.getLsbD_and, BitVec.getLsbD_shiftLeft]
  rw [hm]
  by_cases h4 : i < 4
  · have hf : (0xF0#8).getLsbD i = false := by interval_cases i <;> rfl
    simp [hf, h4]
  · have hf : (0xF0#8).getLsbD i = true := by interval_cases i <;> first | rfl | omega
    have hb := word_bit c p j (i - 4) (by omega)
    rw [show 8 * (p.val % 4) + i - 4 = 8 * (p.val % 4) + (i - 4) by omega, hb, hf]
    have h1 : 8 * (p.val % 4) + i < 32 := by omega
    have h2 : ¬ 8 * (p.val % 4) + i < 4 := by omega
    simp [h1, h2, h4, hi]

theorem word_hi (c : IVec S256x256 8) (p j : Fin 256) :
    bitcast S256x256 8 (andi (bitcast S64x256 32 c bitcasts_S256x256_w8_S64x256_w32) (broadcast S64x256 4042322160#32)) bitcasts_S64x256_w32_S256x256_w8 (ix2 p j)
      = c (ix2 p j) &&& 0xF0#8 := by
  apply BitVec.eq_of_getLsbD_eq
  intro i hi
  rw [byte_bit _ p j i hi]
  show (IntOp.andi (bitcast S64x256 32 c bitcasts_S256x256_w8_S64x256_w32 (ix2 ⟨p.val / 4, by omega⟩ j)) 4042322160#32).getLsbD _ = _
  have hm := mask_bit ⟨8 * (p.val % 4) + i, by omega⟩
  simp only [] at hm
  rw [show (8 * (p.val % 4) + i) % 8 = i by omega] at hm
  simp only [IntOp.andi, BitVec.getLsbD_and]
  rw [hm, word_bit c p j i hi]

theorem lo_apply (c : Vec Ideal S256x256 .i8) (p j : Fin 256) :
    lo (F := Ideal) c (ix2 p j) = (((16 * nibLo (c (ix2 p j)) : ℤ) : ℝ) : EReal) := by
  unfold lo
  rw [sitofp_apply, word_lo, ← shl_toInt]
  rfl

theorem hi_apply (c : Vec Ideal S256x256 .i8) (p j : Fin 256) :
    hi (F := Ideal) c (ix2 p j) = (((16 * nibHi (c (ix2 p j)) : ℤ) : ℝ) : EReal) := by
  unfold hi
  rw [sitofp_apply, word_hi, ← and_toInt]
  rfl

theorem wgt_apply (f : FVec Ideal S256x256 .bf16) (s : FVec Ideal S2x256 .bf16) (p j : Fin 256) :
    wgt (F := Ideal) f s (ix2 p j) = (f (ix2 p j) : EReal) * s (ix2 ⟨p.val / 128, by omega⟩ j) := by
  unfold wgt
  pointwise
  split
  · rename_i h
    have e : (⟨p.val / 128, by omega⟩ : Fin 2) = 0 := Fin.ext (by show p.val / 128 = 0; omega)
    rw [e]
  · rename_i h
    have e : (⟨p.val / 128, by omega⟩ : Fin 2) = 1 := Fin.ext (by show p.val / 128 = 1; omega)
    have e' : (⟨128 + (p.val - 128), by omega⟩ : Fin 256) = p := Fin.ext (by show 128 + (p.val - 128) = p.val; omega)
    rw [e, e']

theorem dot_apply (x : FVec Ideal S48x256 .bf16) (w : FVec Ideal S256x256 .bf16) (r : Fin 48) (j : Fin 256) :
    dot (F := Ideal) x w (ix2 r j) = ∑ k : Fin 256, (x (ix2 r k) : EReal) * w (ix2 k j) := by
  unfold dot
  refine (Ideal.matmul_plain_apply none x w _ r j).trans ?_
  pointwise
  rfl

end Cert.KernelIdeal.Val

end
-- ==== Proof.V.Gate.lean ====
/- What the body of the `gate_up` call leaves in its block of `h`, as a pure value of the blocks it reads. -/
module

public import proofs.«01_k».proof.Proof.V.Step
public import proofs.«01_k».proof.Proof.KI.R0Body

@[expose] public section

set_option maxRecDepth 16384

noncomputable section

namespace Cert.KernelIdeal.Val

open Cert.KernelIdeal Cert.KernelIdeal.Gen
open Idealize.ShloMosaic

variable {F : FTy → Type} [FloatOps F]

/-- Every slice the steps take lies inside. -/
theorem inb2 {R C r c : ℕ} {o p : ℕ} (h0 : o + r ≤ R) (h1 : p + c ≤ C) :
    (⟨2, ![R, C]⟩ : Shape).Slices ![o, p] ⟨2, ![r, c]⟩ :=
  ⟨rfl, fun a => match a with | ⟨0, _⟩ => h0 | ⟨1, _⟩ => h1⟩

/-- One half of a step of `gate_up`: the low field of rows `256 n …`. -/
def gLo (x : Vec F S48x5120 .bf16) (c : Vec F S2560x256 .i8) (s : FVec F S40x256 .bf16) (n : ℕ) (h : n < 10) : FVec F S48x256 .f32 :=
  dot (extractStridedSlice S48x256 ![0, 256 * n] x (inb2 (by omega) (by omega)))
    (wgt (lo (F := F) (extractStridedSlice S256x256 ![256 * n, 0] c (inb2 (by omega) (by omega))))
      (extractStridedSlice S2x256 ![2 * n, 0] s (inb2 (by omega) (by omega))))
/-- The other half: the high field. -/
def gHi (x : Vec F S48x5120 .bf16) (c : Vec F S2560x256 .i8) (s : FVec F S40x256 .bf16) (n : ℕ) (h : n < 10) : FVec F S48x256 .f32 :=
  dot (extractStridedSlice S48x256 ![0, 2560 + 256 * n] x (inb2 (by omega) (by omega)))
    (wgt (hi (F := F) (extractStridedSlice S256x256 ![256 * n, 0] c (inb2 (by omega) (by omega))))
      (extractStridedSlice S2x256 ![20 + 2 * n, 0] s (inb2 (by omega) (by omega))))

/-- The accumulator after step `n`. -/
def gAcc (x : Vec F S48x5120 .bf16) (c : Vec F S2560x256 .i8) (s : FVec F S40x256 .bf16) : (n : ℕ) → n < 10 → FVec F S48x256 .f32
  | 0, h => addf (gLo x c s 0 h) (gHi x c s 0 h)
  | n + 1, h => addf (addf (gAcc x c s n (Nat.lt_of_succ_lt h)) (gLo x c s (n + 1) h)) (gHi x c s (n + 1) h)

/-- The scales over sixteen. -/
def sc16 (s : Vec F S40x256 .bf16) : FVec F S40x256 .bf16 := mulf s (broadcast S40x256 (Scalar.ofBits .bf16 0x3D80#16))

theorem inb4 {p : ℕ} (hp : p < 2) (n : ℕ) (hn : n < 7) : S7x2x16x256.Slices ![n, p, 0, 0] S1x1x16x256 :=
  ⟨rfl, fun a => match a with
    | ⟨0, _⟩ => by show n + 1 ≤ 7; omega
    | ⟨1, _⟩ => by show p + 1 ≤ 2; omega
    | ⟨2, _⟩ => by show 0 + 16 ≤ 16; omega
    | ⟨3, _⟩ => by show 0 + 256 ≤ 256; omega⟩

/-- One adapter's rank rows of half `p` of the second low-rank factor. -/
def bRow (b : Vec F S7x2x16x256 .bf16) (p : ℕ) (hp : p < 2) (n : ℕ) (hn : n < 7) : FVec F S16x256 .bf16 :=
  shapeCast S16x256 (extractStridedSlice S1x1x16x256 ![n, p, 0, 0] b (inb4 hp n hn)) shapeCasts_S1x1x16x256_S16x256

/-- The adapters' rank rows one under the other. -/
def bCat (b : Vec F S7x2x16x256 .bf16) (p : ℕ) (hp : p < 2) : FVec F S112x256 .bf16 :=
  concatenate S112x256 0 [⟨S16x256, bRow b p hp 0 (by omega)⟩, ⟨S16x256, bRow b p hp 1 (by omega)⟩, ⟨S16x256, bRow b p hp 2 (by omega)⟩,
    ⟨S16x256, bRow b p hp 3 (by omega)⟩, ⟨S16x256, bRow b p hp 4 (by omega)⟩, ⟨S16x256, bRow b p hp 5 (by omega)⟩, ⟨S16x256, bRow b p hp 6 (by omega)⟩]
    concatenates_S16x256_S16x256_S16x256_S16x256_S16x256_S16x256_S16x256_S112x256_d0

theorem inb3 {p : ℕ} (hp : p < 2) : S2x48x112.Slices ![p, 0, 0] S1x48x112 :=
  ⟨rfl, fun a => match a with
    | ⟨0, _⟩ => by show p + 1 ≤ 2; omega
    | ⟨1, _⟩ => by show 0 + 48 ≤ 48; omega
    | ⟨2, _⟩ => by show 0 + 112 ≤ 112; omega⟩

/-- The low-rank part of half `p`. -/
def gLora (m : Vec F S2x48x112 .bf16) (b : Vec F S7x2x16x256 .bf16) (p : ℕ) (hp : p < 2) : FVec F S48x256 .f32 :=
  matmul dot_S48x112_S112x256_S48x256_1_0_0_1_n_n none
    (shapeCast S48x112 (extractStridedSlice S1x48x112 ![p, 0, 0] m (inb3 hp)) shapeCasts_S1x48x112_S48x112) (bCat b p hp)
    (constant S48x256 .f32 0x00000000#32)

/-- One half of the gated product before the gating. -/
def gHalf (x : Vec F S48x5120 .bf16) (c : Vec F S2560x256 .i8) (s : Vec F S40x256 .bf16) (m : Vec F S2x48x112 .bf16)
    (b : Vec F S7x2x16x256 .bf16) (p : ℕ) (hp : p < 2) : FVec F S48x256 .f32 :=
  addf (gAcc x c (sc16 s) 9 (by omega)) (gLora m b p hp)

/-- The block of `h`. -/
def hBlk (x : Vec F S48x5120 .bf16) (cg cu : Vec F S2560x256 .i8) (sg su : Vec F S40x256 .bf16) (m : Vec F S2x48x112 .bf16)
    (b : Vec F S7x2x16x256 .bf16) : FVec F S48x256 .bf16 :=
  truncf .bf16 (mulf (mulf (gHalf x cg sg m b 0 (by omega)) (logistic (gHalf x cg sg m b 0 (by omega)))) (gHalf x cu su m b 1 (by omega))) bitsLt_bf16_f32

theorem hz2 : (![0, 0] : Fin 2 → Nat) = fun _ => 0 := funext fun a => by fin_cases a <;> rfl

set_option maxHeartbeats 4000000 in
theorem out0_B_9_eq (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : ¬R0.cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) (xo10 : Vec F S48x32 .bf16) (xs0 : Vec F S2x48x112 .bf16) :
    R0.out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xs0
      = hBlk x2 x3 x4 x5 x6 xs0 x8 := by
  unfold R0.out0_B_9
  rw [View.read_writes_eq_canon _ _ _ (R0.cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xs0)]
  unfold R0.kernelRun0_B
  dsimp only
  sl_unfold_words
  rw [View.canon_unit_zero hz2]
  simp only [View.readAt_eq_ld, Memref.IsWhole.read_unread]
  simp only [View.ld_unit_zero (S := S40x256) hz2]
  simp only [View.ld_unit]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123]
  simp only [shapeCast_self, hBlk, gHalf, gLora, bCat, bRow, gAcc, gLo, gHi, dot, wgt, lo, hi, sc16, Nat.reduceMul, Nat.reduceAdd]

end Cert.KernelIdeal.Val

end
-- ==== Proof.V.Gate0.lean ====
/- What the first point of the `gate_up` call leaves, as a pure value of the blocks it reads. -/
module

public import proofs.«01_k».proof.Proof.V.Gate
public import proofs.«01_k».proof.Proof.KI.R0Body

public import Idealize.ShloMosaic.Lib.Pipeline.ValueKit.Tiles

@[expose] public section

set_option maxRecDepth 16384

noncomputable section

namespace Cert.KernelIdeal.Val

open Cert.KernelIdeal Cert.KernelIdeal.Gen
open Idealize.ShloMosaic

variable {F : FTy → Type} [FloatOps F]

theorem inbA (n : ℕ) (hn : n < 7) : S7x5120x32.Slices ![n, 0, 0] S1x5120x32 :=
  ⟨rfl, fun a => match a with
    | ⟨0, _⟩ => by show n + 1 ≤ 7; omega
    | ⟨1, _⟩ => by show 0 + 5120 ≤ 5120; omega
    | ⟨2, _⟩ => by show 0 + 32 ≤ 32; omega⟩

/-- The rows through adapter `n`'s first low-rank factor. -/
def sPart (x : Vec F S48x5120 .bf16) (w : Vec F S7x5120x32 .bf16) (n : ℕ) (hn : n < 7) : FVec F S48x32 .f32 :=
  matmul dot_S48x5120_S5120x32_S48x32_1_0_0_1_n_n none x
    (shapeCast S5120x32 (extractStridedSlice S1x5120x32 ![n, 0, 0] w (inbA n hn)) shapeCasts_S1x5120x32_S5120x32) (constant S48x32 .f32 0x00000000#32)

/-- The block of `s`. -/
def sBlk (x0 : Vec F S48x1 .i32) (x1 : Vec F S48x1 .f32) (x2 : Vec F S48x5120 .bf16) (x7 : Vec F S7x5120x32 .bf16) : FVec F S48x32 .bf16 :=
  k0_pay11 x0 (sPart x2 x7 4 (by omega)) (sPart x2 x7 5 (by omega)) (sPart x2 x7 6 (by omega))
    (k0_pay10 x0 (sPart x2 x7 0 (by omega)) (sPart x2 x7 1 (by omega)) (sPart x2 x7 2 (by omega)) (sPart x2 x7 3 (by omega))) 4#32 x1

theorem inbP {p : ℕ} (hp : p < 2) : S48x32.Slices ![0, 16 * p] S48x16 := inb2 (by omega) (by omega)

/-- What the body writes for adapter `n` and half `p`. -/
def mPay (x0 : Vec F S48x1 .i32) (s : FVec F S48x32 .bf16) (n : ℕ) (p : ℕ) (hp : p < 2) : FVec F S1x48x16 .bf16 :=
  shapeCast S1x48x16 (extractStridedSlice S48x16 ![0, 16 * p]
    (select (broadcastTo S48x32 (cmpi (w := 32) .eq x0 (broadcast S48x1 (BitVec.ofNat 32 n))) broadcasts_S48x1_S48x32) s
      (broadcast S48x32 (Scalar.ofBits .bf16 0x0000#16))) (inbP hp)) shapeCasts_S48x16_S1x48x16

/-- The scratch: `s` of the row, in the columns of the row's adapter. -/
def mBlk (x0 : Vec F S48x1 .i32) (s : FVec F S48x32 .bf16) : Vec F S2x48x112 .bf16 := fun y =>
  Scalar.select (IntOp.cmpi .eq (x0 (ix2 (y 1) 0)) (BitVec.ofNat 32 ((y 2).val / 16))) (s (ix2 (y 1) ⟨16 * (y 0).val + (y 2).val % 16, by
    have h : (y 0).val < 2 := (y 0).isLt
    omega⟩)) (Scalar.ofBits .bf16 0x0000#16)

theorem mPay_apply (x0 : Vec F S48x1 .i32) (s : FVec F S48x32 .bf16) (n p : ℕ) (hp : p < 2) (a : Fin 1) (b : Fin 48) (c : Fin 16) :
    mPay x0 s n p hp (ix3 a b c) = Scalar.select (IntOp.cmpi .eq (x0 (ix2 b 0)) (BitVec.ofNat 32 n)) (s (ix2 b ⟨16 * p + c.val, by omega⟩))
      (Scalar.ofBits .bf16 0x0000#16) := by
  unfold mPay
  pointwise

/-- A piece at its place in the scratch. -/
theorem mPay_eq (x0 : Vec F S48x1 .i32) (s : FVec F S48x32 .bf16) (n p : ℕ) (hp : p < 2) (y : S2x48x112.Idx) (x : S1x48x16.Idx)
    (h0 : (y 0).val = p) (h1 : (y 1).val = (x 1).val) (h2 : (y 2).val = 16 * n + (x 2).val) :
    mPay x0 s n p hp x = mBlk x0 s y := by
  obtain ⟨a, b, c, rfl⟩ : ∃ (a : Fin 1) (b : Fin 48) (c : Fin 16), x = ix3 a b c := ⟨x 0, x 1, x 2, eq_ix3 x⟩
  have h1 : (y 1).val = b.val := h1
  have h2 : (y 2).val = 16 * n + c.val := h2
  refine (mPay_apply x0 s n p hp a b c).trans ?_
  unfold mBlk
  have e1 : y 1 = b := Fin.ext h1
  have e2 : (y 2).val / 16 = n := by omega
  have e3 : (⟨16 * (y 0).val + (y 2).val % 16, by have h : (y 0).val < 2 := (y 0).isLt; omega⟩ : Fin 32) = ⟨16 * p + c.val, by omega⟩ :=
    Fin.ext (by show 16 * (y 0).val + (y 2).val % 16 = 16 * p + c.val; omega)
  rw [e2, e3, e1]

set_option maxHeartbeats 4000000 in
theorem out0_A_10_eq (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : R0.cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) :
    R0.out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8
      = sBlk x0 x1 x2 x7 := by
  unfold R0.out0_A_10
  rw [View.read_writes_eq_canon _ _ _ (R0.cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold R0.kernelRun0_A
  dsimp only
  sl_unfold_words
  rw [View.canon_unit_zero hz2]
  simp only [View.readAt_eq_ld, Memref.IsWhole.read_unread]
  simp only [View.ld_unit_zero (S := S48x1) hz2, View.ld_unit_zero (S := S48x5120) hz2]
  simp only [View.ld_unit]
  simp only [k0_pay2, k0_pay3, k0_pay4, k0_pay5, k0_pay6, k0_pay7, k0_pay8, k0_pay9, shapeCast_self, sBlk, sPart]

set_option maxHeartbeats 4000000 in
theorem sout0_A_0_eq (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : R0.cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) :
    R0.sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8
      = mBlk x0 (sBlk x0 x1 x2 x7) := by
  unfold R0.sout0_A_0
  rw [View.read_writes_eq_canon _ _ _ (R0.scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold R0.kernelRun0_A
  dsimp only
  sl_unfold_words
  simp only [View.readAt_eq_ld, Memref.IsWhole.read_unread]
  simp only [View.ld_unit_zero (S := S48x1) hz2, View.ld_unit_zero (S := S48x5120) hz2]
  simp only [View.ld_unit]
  simp only [k0_pay2, k0_pay3, k0_pay4, k0_pay5, k0_pay6, k0_pay7, k0_pay8, k0_pay9, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, shapeCast_self, sBlk, sPart]
  generalize k0_pay11 (F := F) x0 _ _ _ _ _ _ = S
  funext y
  canon_tiles x h
  case piece0 => exact mPay_eq x0 S 6 1 (by omega) y x (by omega) h1 h2
  case piece1 => exact mPay_eq x0 S 6 0 (by omega) y x (by omega) h1 h2
  case piece2 => exact mPay_eq x0 S 5 1 (by omega) y x (by omega) h1 h2
  case piece3 => exact mPay_eq x0 S 5 0 (by omega) y x (by omega) h1 h2
  case piece4 => exact mPay_eq x0 S 4 1 (by omega) y x (by omega) h1 h2
  case piece5 => exact mPay_eq x0 S 4 0 (by omega) y x (by omega) h1 h2
  case piece6 => exact mPay_eq x0 S 3 1 (by omega) y x (by omega) h1 h2
  case piece7 => exact mPay_eq x0 S 3 0 (by omega) y x (by omega) h1 h2
  case piece8 => exact mPay_eq x0 S 2 1 (by omega) y x (by omega) h1 h2
  case piece9 => exact mPay_eq x0 S 2 0 (by omega) y x (by omega) h1 h2
  case piece10 => exact mPay_eq x0 S 1 1 (by omega) y x (by omega) h1 h2
  case piece11 => exact mPay_eq x0 S 1 0 (by omega) y x (by omega) h1 h2
  case piece12 => exact mPay_eq x0 S 0 1 (by omega) y x (by omega) h1 (by omega)
  case piece13 => exact mPay_eq x0 S 0 0 (by omega) y x (by omega) h1 (by omega)

/-- A covered load, as a load of what the pieces leave. -/
theorem readCov_ld {κ : Kind} {sp : Space} {s : Shape} {e : EltTy} (v : View sig κ sp s e) (L : List (View.Piece (Elt F) s e)) (r : Rect s) :
    v.readCov L r.toLoadRect = View.ld (View.canon L) r := View.readCov_eq_canon' v L _

set_option maxHeartbeats 4000000 in
theorem out0_A_9_eq (c : Dev nD) (i : grid0.Coords) (arg1 : Memref sig .tc .vmem S48x1 .i32) (harg1 : arg1.IsWhole) (arg2 : Memref sig .tc .vmem S48x1 .f32) (harg2 : arg2.IsWhole) (arg3 : Memref sig .tc .vmem S48x5120 .bf16) (harg3 : arg3.IsWhole) (arg4 : Memref sig .tc .vmem S2560x256 .i8) (harg4 : arg4.IsWhole) (arg5 : Memref sig .tc .vmem S2560x256 .i8) (harg5 : arg5.IsWhole) (arg6 : Memref sig .tc .vmem S40x256 .bf16) (harg6 : arg6.IsWhole) (arg7 : Memref sig .tc .vmem S40x256 .bf16) (harg7 : arg7.IsWhole) (arg8 : Memref sig .tc .vmem S7x5120x32 .bf16) (harg8 : arg8.IsWhole) (arg9 : Memref sig .tc .vmem S7x2x16x256 .bf16) (harg9 : arg9.IsWhole) (arg10 : Memref sig .tc .vmem S48x256 .bf16) (harg10 : arg10.IsWhole) (arg11 : Memref sig .tc .vmem S48x32 .bf16) (harg11 : arg11.IsWhole) (arg12 : Memref sig .tc .vmem S2x48x112 .bf16) (harg12 : arg12.IsWhole) (hc0 : R0.cond0_0 i)
    (x0 : Vec F S48x1 .i32) (x1 : Vec F S48x1 .f32) (x2 : Vec F S48x5120 .bf16) (x3 : Vec F S2560x256 .i8) (x4 : Vec F S2560x256 .i8) (x5 : Vec F S40x256 .bf16) (x6 : Vec F S40x256 .bf16) (x7 : Vec F S7x5120x32 .bf16) (x8 : Vec F S7x2x16x256 .bf16) :
    R0.out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8
      = hBlk x2 x3 x4 x5 x6 (mBlk x0 (sBlk x0 x1 x2 x7)) x8 := by
  unfold R0.out0_A_9
  rw [View.read_writes_eq_canon _ _ _ (R0.cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold R0.kernelRun0_A
  dsimp only
  sl_unfold_words
  rw [View.canon_unit_zero hz2]
  rw [← sout0_A_0_eq c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8]
  unfold R0.sout0_A_0
  rw [View.read_writes_eq_canon _ _ _ (R0.scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold R0.kernelRun0_A
  dsimp only
  sl_unfold_words
  simp only [readCov_ld]
  generalize View.canon (Val := Elt F) (s := S2x48x112) (e := .bf16) _ = M
  simp only [View.readAt_eq_ld, Memref.IsWhole.read_unread]
  simp only [View.ld_unit_zero (S := S40x256) hz2]
  simp only [View.ld_unit]
  simp only [k0_pay1, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123]
  simp only [shapeCast_self, hBlk, gHalf, gLora, bCat, bRow, gAcc, gLo, gHi, dot, wgt, lo, hi, sc16, Nat.reduceMul, Nat.reduceAdd]

end Cert.KernelIdeal.Val

end
-- ==== Proof.V.Arr0.lean ====
/- The arrays the `gate_up` call leaves, as functions of the arrays it finds. -/
module

public import proofs.«01_k».proof.Proof.V.Gate0

@[expose] public section

set_option maxRecDepth 16384

noncomputable section

namespace Cert.KernelIdeal.Val.G

open Cert.KernelIdeal Cert.KernelIdeal.Gen Cert.KernelIdeal.R0
open Idealize.ShloMosaic Idealize.ShloMosaic.TcCoe
open Idealize.ShloMosaic.Pipeline (Dat)

variable {F : FTy → Type} [FloatOps F]
variable (V : (c : Dev nD) → (b : Ref sig .tc) → Buf (Elt F) ((c : Thread nD τ).loc b))

theorem idx0 : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_7.index t 0 = 0 ∧ win0_7.index t 1 = 0 ∧ win0_7.index t 2 = 0) := by decide +kernel
theorem idx3 : ∀ t : Fin cfg0.N, (win0_3.index t 0 = 0 ∧ win0_3.index t 1 = t.val) ∧ (win0_4.index t 0 = 0 ∧ win0_4.index t 1 = t.val + 70)
    ∧ (win0_5.index t 0 = 0 ∧ win0_5.index t 1 = t.val) ∧ (win0_6.index t 0 = 0 ∧ win0_6.index t 1 = t.val + 70)
    ∧ (win0_8.index t 0 = 0 ∧ win0_8.index t 1 = 0 ∧ win0_8.index t 2 = 0 ∧ win0_8.index t 3 = t.val)
    ∧ (win0_9.index t 0 = 0 ∧ win0_9.index t 1 = t.val) ∧ (win0_10.index t 0 = 0 ∧ win0_10.index t 1 = 0) := by decide +kernel

theorem lt70 (t : Fin cfg0.N) : t.val < 70 := t.isLt.trans_eq N_0

theorem blk0 (c : Dev nD) (t : Fin cfg0.N) : (iblk V c 0 t : Vec F S48x1 .i32) = V c main_v3 := by
  funext j
  unfold iblk
  rw [View.read_apply]
  refine congrArg (V c main_v3) (funext fun a => Fin.ext ?_)
  have h := (idx0 t).1
  match a with
  | ⟨0, _⟩ => show win0_0.index t 0 * 48 + 1 * (j 0).val = (j 0).val; rw [h.1]; omega
  | ⟨1, _⟩ => show win0_0.index t 1 * 1 + 1 * (j 1).val = (j 1).val; rw [h.2]; omega

theorem blk1 (c : Dev nD) (t : Fin cfg0.N) : (iblk V c 1 t : Vec F S48x1 .f32) = V c main_v10 := by
  funext j
  unfold iblk
  rw [View.read_apply]
  refine congrArg (V c main_v10) (funext fun a => Fin.ext ?_)
  have h := (idx0 t).2.1
  match a with
  | ⟨0, _⟩ => show win0_1.index t 0 * 48 + 1 * (j 0).val = (j 0).val; rw [h.1]; omega
  | ⟨1, _⟩ => show win0_1.index t 1 * 1 + 1 * (j 1).val = (j 1).val; rw [h.2]; omega

theorem blk2 (c : Dev nD) (t : Fin cfg0.N) : (iblk V c 2 t : Vec F S48x5120 .bf16) = V c main_v1 := by
  funext j
  unfold iblk
  rw [View.read_apply]
  refine congrArg (V c main_v1) (funext fun a => Fin.ext ?_)
  have h := (idx0 t).2.2.1
  match a with
  | ⟨0, _⟩ => show win0_2.index t 0 * 48 + 1 * (j 0).val = (j 0).val; rw [h.1]; omega
  | ⟨1, _⟩ => show win0_2.index t 1 * 5120 + 1 * (j 1).val = (j 1).val; rw [h.2]; omega

theorem blk7 (c : Dev nD) (t : Fin cfg0.N) : (iblk V c 7 t : Vec F S7x5120x32 .bf16) = V c main_arg6 := by
  funext j
  unfold iblk
  rw [View.read_apply]
  refine congrArg (V c main_arg6) (funext fun a => Fin.ext ?_)
  have h := (idx0 t).2.2.2
  match a with
  | ⟨0, _⟩ => show win0_7.index t 0 * 7 + 1 * (j 0).val = (j 0).val; rw [h.1]; omega
  | ⟨1, _⟩ => show win0_7.index t 1 * 5120 + 1 * (j 1).val = (j 1).val; rw [h.2.1]; omega
  | ⟨2, _⟩ => show win0_7.index t 2 * 32 + 1 * (j 2).val = (j 2).val; rw [h.2.2]; omega

theorem blk3 (c : Dev nD) (t : Fin cfg0.N) (p : Fin 2560) (j : Fin 256) : (iblk V c 3 t : Vec F S2560x256 .i8) (ix2 p j)
    = (V c main_arg2 : Vec F S2560x35840 .i8) (ix2 p ⟨256 * t.val + j.val, by have := lt70 t; omega⟩) := by
  unfold iblk
  rw [View.read_apply]
  refine congrArg (V c main_arg2) (funext fun a => Fin.ext ?_)
  have h := (idx3 t).1
  match a with
  | ⟨0, _⟩ => show win0_3.index t 0 * 2560 + 1 * p.val = p.val; rw [h.1]; omega
  | ⟨1, _⟩ => show win0_3.index t 1 * 256 + 1 * j.val = 256 * t.val + j.val; rw [h.2]; omega

theorem blk4 (c : Dev nD) (t : Fin cfg0.N) (p : Fin 2560) (j : Fin 256) : (iblk V c 4 t : Vec F S2560x256 .i8) (ix2 p j)
    = (V c main_arg2 : Vec F S2560x35840 .i8) (ix2 p ⟨17920 + (256 * t.val + j.val), by have := lt70 t; omega⟩) := by
  unfold iblk
  rw [View.read_apply]
  refine congrArg (V c main_arg2) (funext fun a => Fin.ext ?_)
  have h := (idx3 t).2.1
  match a with
  | ⟨0, _⟩ => show win0_4.index t 0 * 2560 + 1 * p.val = p.val; rw [h.1]; omega
  | ⟨1, _⟩ => show win0_4.index t 1 * 256 + 1 * j.val = 17920 + (256 * t.val + j.val); rw [h.2]; omega

theorem blk5 (c : Dev nD) (t : Fin cfg0.N) (p : Fin 40) (j : Fin 256) : (iblk V c 5 t : Vec F S40x256 .bf16) (ix2 p j)
    = (V c main_arg3 : Vec F S40x35840 .bf16) (ix2 p ⟨256 * t.val + j.val, by have := lt70 t; omega⟩) := by
  unfold iblk
  rw [View.read_apply]
  refine congrArg (V c main_arg3) (funext fun a => Fin.ext ?_)
  have h := (idx3 t).2.2.1
  match a with
  | ⟨0, _⟩ => show win0_5.index t 0 * 40 + 1 * p.val = p.val; rw [h.1]; omega
  | ⟨1, _⟩ => show win0_5.index t 1 * 256 + 1 * j.val = 256 * t.val + j.val; rw [h.2]; omega

theorem blk6 (c : Dev nD) (t : Fin cfg0.N) (p : Fin 40) (j : Fin 256) : (iblk V c 6 t : Vec F S40x256 .bf16) (ix2 p j)
    = (V c main_arg3 : Vec F S40x35840 .bf16) (ix2 p ⟨17920 + (256 * t.val + j.val), by have := lt70 t; omega⟩) := by
  unfold iblk
  rw [View.read_apply]
  refine congrArg (V c main_arg3) (funext fun a => Fin.ext ?_)
  have h := (idx3 t).2.2.2.1
  match a with
  | ⟨0, _⟩ => show win0_6.index t 0 * 40 + 1 * p.val = p.val; rw [h.1]; omega
  | ⟨1, _⟩ => show win0_6.index t 1 * 256 + 1 * j.val = 17920 + (256 * t.val + j.val); rw [h.2]; omega

theorem blk8 (c : Dev nD) (t : Fin cfg0.N) (n : Fin 7) (p : Fin 2) (r : Fin 16) (j : Fin 256) : (iblk V c 8 t : Vec F S7x2x16x256 .bf16) (ix4 n p r j)
    = (V c main_arg7 : Vec F S7x2x16x17920 .bf16) (ix4 n p r ⟨256 * t.val + j.val, by have := lt70 t; omega⟩) := by
  unfold iblk
  rw [View.read_apply]
  refine congrArg (V c main_arg7) (funext fun a => Fin.ext ?_)
  have h := (idx3 t).2.2.2.2.1
  match a with
  | ⟨0, _⟩ => show win0_8.index t 0 * 7 + 1 * n.val = n.val; rw [h.1]; omega
  | ⟨1, _⟩ => show win0_8.index t 1 * 2 + 1 * p.val = p.val; rw [h.2.1]; omega
  | ⟨2, _⟩ => show win0_8.index t 2 * 16 + 1 * r.val = r.val; rw [h.2.2.1]; omega
  | ⟨3, _⟩ => show win0_8.index t 3 * 256 + 1 * j.val = 256 * t.val + j.val; rw [h.2.2.2]; omega

/-- `s`, of the arrays. -/
def sArr (c : Dev nD) : Vec F S48x32 .bf16 := sBlk (V c main_v3) (V c main_v10) (V c main_v1) (V c main_arg6)

/-- The block of `h` at point `t`. -/
def hAt (c : Dev nD) (t : Fin cfg0.N) : Vec F S48x256 .bf16 :=
  hBlk (V c main_v1) (iblk V c 3 t) (iblk V c 4 t) (iblk V c 5 t) (iblk V c 6 t) (mBlk (V c main_v3) (sArr V c)) (iblk V c 8 t)

theorem outsAt_eq (c : Dev nD) : ∀ (n : ℕ) (h : n < cfg0.N),
    outsAt0 V c n h = (hAt V c ⟨n, h⟩, sArr V c, mBlk (V c main_v3) (sArr V c))
  | 0, h => by
    refine (outsAt0_A V c ⟨0, h⟩ rfl).trans ?_
    rw [out0_A_9_eq, out0_A_10_eq, sout0_A_0_eq]
    rw [blk0, blk1, blk2, blk7]
    rfl
  | n + 1, h => by
    have hN : cfg0.N = 70 := N_0
    have hB : ¬(⟨n + 1, h⟩ : Fin cfg0.N).val % 70 = 0 := by dsimp only; omega
    refine (outsAt0_B V c ⟨n + 1, h⟩ hB).trans ?_
    rw [out0_B_9_eq]
    have ih := outsAt_eq c n (Nat.lt_of_succ_lt h)
    have e1 : outsAt0 V c ((⟨n + 1, h⟩ : Fin cfg0.N).val - 1) (by dsimp only; omega) = outsAt0 V c n (Nat.lt_of_succ_lt h) := rfl
    unfold out0_B_10 sout0_B_0
    simp only [e1, ih]
    rw [blk2]
    rfl

/-- `h`, of the arrays. -/
def hArr (c : Dev nD) : Vec F S48x17920 .bf16 := fun y =>
  hAt V c ⟨(y 1).val / 256, by have h : (y 1).val < 17920 := (y 1).isLt; show _ < grid0.N; rw [N_0]; omega⟩ (ix2 (y 0) ⟨(y 1).val % 256, by omega⟩)

theorem flushed9 (c : Dev nD) (t : Fin cfg0.N) (hf : (cfg0.win 9).flush t = true) :
    (dat V c).flushed 9 t = ((cfg0.win 9).blk t).view.read (Elt F) (hArr V c) := by
  show (cfg0.win 9).cut (grid0.coords t) ((dat V c).after 9 t) = _
  rw [after0_9, outsAt_eq]
  funext j
  rw [View.read_apply]
  have h := (idx3 t).2.2.2.2.2.1
  have hj0 : (j 0).val < 48 := (j 0).isLt
  have hj1 : (j 1).val < 256 := (j 1).isLt
  have e0 : (((cfg0.win 9).blk t).view.emb j 0).val = (j 0).val := by
    show win0_9.index t 0 * 48 + 1 * (j 0).val = _; rw [h.1]; omega
  have e1 : (((cfg0.win 9).blk t).view.emb j 1).val = 256 * t.val + (j 1).val := by
    show win0_9.index t 1 * 256 + 1 * (j 1).val = _; rw [h.2]; omega
  show hAt V c t j = hArr V c (((cfg0.win 9).blk t).view.emb j)
  unfold hArr
  congr 1
  · congr 1
    exact Fin.ext (by show t.val = _ / 256; rw [e1]; omega)
  · refine (eq_ix2 (n0 := 48) (n1 := 256) j).trans ?_
    exact congrArg₂ ix2 (Fin.ext e0.symm) (Fin.ext (by show (j 1).val = _ % 256; rw [e1]; omega))

theorem arr9 (c : Dev nD) : (dat V c).arrAt 9 cfg0.N = hArr V c :=
  (dat V c).arrAt_eq_of_cover 9 (hArr V c) (flushed9 V c) fun i => by
    have h0 : (i 0 : Nat) < 48 := (i 0).isLt
    have h1 : (i 1 : Nat) < 17920 := (i 1).isLt
    let t : Fin cfg0.N := ⟨(i 1 : Nat) / 256, by show _ < grid0.N; rw [N_0]; omega⟩
    refine ⟨t, flush0_9 t, ?_⟩
    show i ∈ ((View.whole main_v11_0).slice (win0_9.rect t)).set
    rw [View.set_slice_whole, Rect.mem_set_unit]
    intro a
    have h := (idx3 t).2.2.2.2.2.1
    have ht : t.val = (i 1 : Nat) / 256 := rfl
    match a with
    | ⟨0, _⟩ => show win0_9.index t 0 * 48 ≤ (i 0 : Nat) ∧ (i 0 : Nat) < win0_9.index t 0 * 48 + 48; rw [h.1]; omega
    | ⟨1, _⟩ => show win0_9.index t 1 * 256 ≤ (i 1 : Nat) ∧ (i 1 : Nat) < win0_9.index t 1 * 256 + 256; rw [h.2]; omega

theorem flushed10 (c : Dev nD) (t : Fin cfg0.N) (hf : (cfg0.win 10).flush t = true) :
    (dat V c).flushed 10 t = ((cfg0.win 10).blk t).view.read (Elt F) (sArr V c) := by
  show (cfg0.win 10).cut (grid0.coords t) ((dat V c).after 10 t) = _
  rw [after0_10, outsAt_eq]
  funext j
  rw [View.read_apply]
  have h := (idx3 t).2.2.2.2.2.2
  show sArr V c j = sArr V c (((cfg0.win 10).blk t).view.emb j)
  refine congrArg (sArr V c) (funext fun a => Fin.ext ?_)
  match a with
  | ⟨0, _⟩ => show (j 0).val = win0_10.index t 0 * 48 + 1 * (j 0).val; rw [h.1]; omega
  | ⟨1, _⟩ => show (j 1).val = win0_10.index t 1 * 32 + 1 * (j 1).val; rw [h.2]; omega

theorem arr10 (c : Dev nD) : (dat V c).arrAt 10 cfg0.N = sArr V c :=
  (dat V c).arrAt_eq_of_cover 10 (sArr V c) (flushed10 V c) fun i => by
    have h0 : (i 0 : Nat) < 48 := (i 0).isLt
    have h1 : (i 1 : Nat) < 32 := (i 1).isLt
    let t : Fin cfg0.N := ⟨69, by show _ < grid0.N; rw [N_0]; omega⟩
    refine ⟨t, (flush0_10 t).mpr rfl, ?_⟩
    show i ∈ ((View.whole main_v11_1).slice (win0_10.rect t)).set
    rw [View.set_slice_whole, Rect.mem_set_unit]
    intro a
    have h := (idx3 t).2.2.2.2.2.2
    match a with
    | ⟨0, _⟩ => show win0_10.index t 0 * 48 ≤ (i 0 : Nat) ∧ (i 0 : Nat) < win0_10.index t 0 * 48 + 48; rw [h.1]; omega
    | ⟨1, _⟩ => show win0_10.index t 1 * 32 ≤ (i 1 : Nat) ∧ (i 1 : Nat) < win0_10.index t 1 * 32 + 32; rw [h.2]; omega

end Cert.KernelIdeal.Val.G

end
-- ==== Proof.V.Down.lean ====
/- What the body of the `down` call leaves, as pure values of the blocks it reads. -/
module

public import proofs.«01_k».proof.Proof.V.Gate0
public import proofs.«01_k».proof.Proof.KI.R1Body

@[expose] public section

set_option maxRecDepth 16384

noncomputable section

namespace Cert.KernelIdeal.Val.D

open Cert.KernelIdeal Cert.KernelIdeal.Gen
open Idealize.ShloMosaic

variable {F : FTy → Type} [FloatOps F]

/-- One half of a step of `down`: the low field of rows `256 n …`. -/
def gLo (x : Vec F S48x17920 .bf16) (c : Vec F S8960x256 .i8) (s : FVec F S140x256 .bf16) (n : ℕ) (h : n < 35) : FVec F S48x256 .f32 :=
  dot (extractStridedSlice S48x256 ![0, 256 * n] x (inb2 (by omega) (by omega)))
    (wgt (lo (F := F) (extractStridedSlice S256x256 ![256 * n, 0] c (inb2 (by omega) (by omega))))
      (extractStridedSlice S2x256 ![2 * n, 0] s (inb2 (by omega) (by omega))))
/-- The other half: the high field. -/
def gHi (x : Vec F S48x17920 .bf16) (c : Vec F S8960x256 .i8) (s : FVec F S140x256 .bf16) (n : ℕ) (h : n < 35) : FVec F S48x256 .f32 :=
  dot (extractStridedSlice S48x256 ![0, 8960 + 256 * n] x (inb2 (by omega) (by omega)))
    (wgt (hi (F := F) (extractStridedSlice S256x256 ![256 * n, 0] c (inb2 (by omega) (by omega))))
      (extractStridedSlice S2x256 ![70 + 2 * n, 0] s (inb2 (by omega) (by omega))))

/-- The accumulator after step `n`. -/
def gAcc (x : Vec F S48x17920 .bf16) (c : Vec F S8960x256 .i8) (s : FVec F S140x256 .bf16) : (n : ℕ) → n < 35 → FVec F S48x256 .f32
  | 0, h => addf (gLo x c s 0 h) (gHi x c s 0 h)
  | n + 1, h => addf (addf (gAcc x c s n (Nat.lt_of_succ_lt h)) (gLo x c s (n + 1) h)) (gHi x c s (n + 1) h)

/-- The scales over sixteen. -/
def sc16 (s : Vec F S140x256 .bf16) : FVec F S140x256 .bf16 := mulf s (broadcast S140x256 (Scalar.ofBits .bf16 0x3D80#16))

theorem inb3b (n : ℕ) (hn : n < 7) : S7x16x256.Slices ![n, 0, 0] S1x16x256 :=
  ⟨rfl, fun a => match a with
    | ⟨0, _⟩ => by show n + 1 ≤ 7; omega
    | ⟨1, _⟩ => by show 0 + 16 ≤ 16; omega
    | ⟨2, _⟩ => by show 0 + 256 ≤ 256; omega⟩

/-- One adapter's rank rows of the second low-rank factor. -/
def bRow (b : Vec F S7x16x256 .bf16) (n : ℕ) (hn : n < 7) : FVec F S16x256 .bf16 :=
  shapeCast S16x256 (extractStridedSlice S1x16x256 ![n, 0, 0] b (inb3b n hn)) shapeCasts_S1x16x256_S16x256

/-- The adapters' rank rows one under the other. -/
def bCat (b : Vec F S7x16x256 .bf16) : FVec F S112x256 .bf16 :=
  concatenate S112x256 0 [⟨S16x256, bRow b 0 (by omega)⟩, ⟨S16x256, bRow b 1 (by omega)⟩, ⟨S16x256, bRow b 2 (by omega)⟩,
    ⟨S16x256, bRow b 3 (by omega)⟩, ⟨S16x256, bRow b 4 (by omega)⟩, ⟨S16x256, bRow b 5 (by omega)⟩, ⟨S16x256, bRow b 6 (by omega)⟩]
    concatenates_S16x256_S16x256_S16x256_S16x256_S16x256_S16x256_S16x256_S112x256_d0

/-- The block of the result. -/
def oBlk (x : Vec F S48x17920 .bf16) (c : Vec F S8960x256 .i8) (s : Vec F S140x256 .bf16) (m : Vec F S48x112 .bf16)
    (b : Vec F S7x16x256 .bf16) : FVec F S48x256 .bf16 :=
  truncf .bf16 (addf (gAcc x c (sc16 s) 34 (by omega))
    (matmul (φ₁ := .bf16) (φ₂ := .bf16) dot_S48x112_S112x256_S48x256_1_0_0_1_n_n none m (bCat b) (constant S48x256 .f32 0x00000000#32))) bitsLt_bf16_f32

/-- The largest magnitude of each row, over 448. -/
def aMax (v : FVec F S48x128 .f32) : FVec F S48x1 .f32 :=
  mulf (shapeCast S48x1 (multiReduction .maximumf [1] S48 (absf v) 0xFF800000#32 reduces_S48x128_S48 (.inl rfl) rfl) shapeCasts_S48_S48x1)
    (broadcast S48x1 (Scalar.ofBits .f32 0x3B124925#32))

/-- One step of the search for the exponent field. -/
def step (v : FVec F S48x1 .f32) (f : IVec S48x1 32) (k : BitVec 32) : IVec S48x1 32 :=
  select (cmpf .olt v (bitcastToFloat .f32 (shli (addi f (broadcast S48x1 k)) (broadcast S48x1 23#32)))) f (addi f (broadcast S48x1 k))

/-- The exponent field. -/
def field (v : FVec F S48x1 .f32) : IVec S48x1 32 :=
  step v (step v (step v (step v (step v (step v (step v (step v (broadcast S48x1 0#32) 128#32) 64#32) 32#32) 16#32) 8#32) 4#32) 2#32) 1#32

/-- The power of two of an exponent field. -/
def powOf (f : IVec S48x1 32) : FVec F S48x1 .f32 :=
  bitcastToFloat .f32 (shli (addi (select (cmpi .slt (shli f (broadcast S48x1 23#32)) (broadcast S48x1 8388608#32)) (broadcast S48x1 0#32)
    (subi (shrsi (shli f (broadcast S48x1 23#32)) (broadcast S48x1 23#32)) (broadcast S48x1 126#32))) (broadcast S48x1 127#32)) (broadcast S48x1 23#32))

/-- The scale of each row of half a block. -/
def scl (v : FVec F S48x128 .f32) : FVec F S48x1 .f32 := powOf (field (aMax v))

theorem inbH {j : ℕ} (h : j < 2) : S48x256.Slices ![0, 128 * j] S48x128 := inb2 (by omega) (by omega)

/-- Half of the block of the result. -/
def vHalf (o : FVec F S48x256 .bf16) (j : ℕ) (h : j < 2) : FVec F S48x128 .f32 :=
  extractStridedSlice S48x128 ![0, 128 * j] (extf .f32 o bitsLt_bf16_f32) (inbH h)

/-- The block of the scales. -/
def qBlk (o : FVec F S48x256 .bf16) : Vec F S1x48x2 .f32 := fun y => scl (vHalf o (y 2).val (y 2).isLt) (ix2 (y 1) 0)

/-- The inverse of the power of two of an exponent field. -/
def invOf (f : IVec S48x1 32) : FVec F S48x1 .f32 :=
  bitcastToFloat .f32 (shli (subi (broadcast S48x1 127#32) (select (cmpi .slt (shli f (broadcast S48x1 23#32)) (broadcast S48x1 8388608#32)) (broadcast S48x1 0#32)
    (subi (shrsi (shli f (broadcast S48x1 23#32)) (broadcast S48x1 23#32)) (broadcast S48x1 126#32)))) (broadcast S48x1 23#32))

/-- The codes of half a block. -/
def cHalf (v : FVec F S48x128 .f32) : FVec F S48x128 .fp8e4m3 :=
  truncf .fp8e4m3 (minimumf (broadcast S48x128 (Scalar.ofBits .f32 0x43E00000#32)) (maximumf (broadcast S48x128 (Scalar.ofBits .f32 0xC3E00000#32))
    (mulf v (broadcastTo S48x128 (invOf (field (aMax v))) broadcasts_S48x1_S48x128)))) bitsLt_fp8e4m3_f32

/-- The block of the codes. -/
def cBlk (o : FVec F S48x256 .bf16) : Vec F S48x256 .fp8e4m3 := fun y =>
  cHalf (vHalf o ((y 1).val / 128) (by have h : (y 1).val < 256 := (y 1).isLt; omega)) (ix2 (y 0) ⟨(y 1).val % 128, by omega⟩)

theorem scl_second (o : FVec F S48x256 .bf16) (c : BitVec 32) (hc : c = 23#32) :
    k1_pay2 (F := F) (k1_pay177 (k1_pay171 (extf .f32 o bitsLt_bf16_f32)) (k1_pay174 (k1_pay171 (extf .f32 o bitsLt_bf16_f32)) (k1_pay172 (extf .f32 o bitsLt_bf16_f32)) (k1_pay173 (extf .f32 o bitsLt_bf16_f32)))
      (k1_pay175 (k1_pay171 (extf .f32 o bitsLt_bf16_f32)) (k1_pay172 (extf .f32 o bitsLt_bf16_f32)) (k1_pay173 (extf .f32 o bitsLt_bf16_f32)))) c
      = shapeCast S1x48x1 (scl (vHalf o 1 (by omega))) shapeCasts_S48x1_S1x48x1 := by
  subst hc; rfl

theorem cod_second (o : FVec F S48x256 .bf16) :
    k1_pay1 (F := F) (k1_pay170 (extf .f32 o bitsLt_bf16_f32)) (k1_pay176 (k1_pay171 (extf .f32 o bitsLt_bf16_f32)) (k1_pay174 (k1_pay171 (extf .f32 o bitsLt_bf16_f32)) (k1_pay172 (extf .f32 o bitsLt_bf16_f32)) (k1_pay173 (extf .f32 o bitsLt_bf16_f32)))
      (k1_pay175 (k1_pay171 (extf .f32 o bitsLt_bf16_f32)) (k1_pay172 (extf .f32 o bitsLt_bf16_f32)) (k1_pay173 (extf .f32 o bitsLt_bf16_f32))))
      = cHalf (vHalf o 1 (by omega)) := rfl

theorem inbA (n : ℕ) (hn : n < 7) : S7x17920x16.Slices ![n, 0, 0] S1x17920x16 :=
  ⟨rfl, fun a => match a with
    | ⟨0, _⟩ => by show n + 1 ≤ 7; omega
    | ⟨1, _⟩ => by show 0 + 17920 ≤ 17920; omega
    | ⟨2, _⟩ => by show 0 + 16 ≤ 16; omega⟩

/-- The rows through adapter `n`'s first low-rank factor. -/
def tPart (x : Vec F S48x17920 .bf16) (w : Vec F S7x17920x16 .bf16) (n : ℕ) (hn : n < 7) : FVec F S48x16 .f32 :=
  matmul dot_S48x17920_S17920x16_S48x16_1_0_0_1_n_n none x
    (shapeCast S17920x16 (extractStridedSlice S1x17920x16 ![n, 0, 0] w (inbA n hn)) shapeCasts_S1x17920x16_S17920x16) (constant S48x16 .f32 0x00000000#32)

/-- The block of `t`. -/
def tBlk (x0 : Vec F S48x1 .i32) (x1 : Vec F S48x1 .f32) (x2 : Vec F S48x17920 .bf16) (x5 : Vec F S7x17920x16 .bf16) : FVec F S48x16 .bf16 :=
  k1_pay12 x0 (tPart x2 x5 4 (by omega)) (tPart x2 x5 5 (by omega)) (tPart x2 x5 6 (by omega))
    (k1_pay11 x0 (tPart x2 x5 0 (by omega)) (tPart x2 x5 1 (by omega)) (tPart x2 x5 2 (by omega)) (tPart x2 x5 3 (by omega))) 4#32 x1

/-- What the body writes for adapter `n`. -/
def mPay (x0 : Vec F S48x1 .i32) (s : FVec F S48x16 .bf16) (n : ℕ) : FVec F S48x16 .bf16 :=
  select (broadcastTo S48x16 (cmpi (w := 32) .eq x0 (broadcast S48x1 (BitVec.ofNat 32 n))) broadcasts_S48x1_S48x16) s
      (broadcast S48x16 (Scalar.ofBits .bf16 0x0000#16))

/-- The scratch: `t` of the row, in the columns of the row's adapter. -/
def mBlk (x0 : Vec F S48x1 .i32) (s : FVec F S48x16 .bf16) : Vec F S48x112 .bf16 := fun y =>
  Scalar.select (IntOp.cmpi .eq (x0 (ix2 (y 0) 0)) (BitVec.ofNat 32 ((y 1).val / 16))) (s (ix2 (y 0) ⟨(y 1).val % 16, by omega⟩)) (Scalar.ofBits .bf16 0x0000#16)

theorem mPay_apply (x0 : Vec F S48x1 .i32) (s : FVec F S48x16 .bf16) (n : ℕ) (b : Fin 48) (c : Fin 16) :
    mPay x0 s n (ix2 b c) = Scalar.select (IntOp.cmpi .eq (x0 (ix2 b 0)) (BitVec.ofNat 32 n)) (s (ix2 b c))
      (Scalar.ofBits .bf16 0x0000#16) := by
  unfold mPay
  pointwise

/-- A piece at its place in the scratch. -/
theorem mPay_eq (x0 : Vec F S48x1 .i32) (s : FVec F S48x16 .bf16) (n : ℕ) (y : S48x112.Idx) (x : S48x16.Idx)
    (h1 : (y 0).val = (x 0).val) (h2 : (y 1).val = 16 * n + (x 1).val) : mPay x0 s n x = mBlk x0 s y := by
  obtain ⟨b, c, rfl⟩ : ∃ (b : Fin 48) (c : Fin 16), x = ix2 b c := ⟨x 0, x 1, eq_ix2 x⟩
  have h1 : (y 0).val = b.val := h1
  have h2 : (y 1).val = 16 * n + c.val := h2
  refine (mPay_apply x0 s n b c).trans ?_
  unfold mBlk
  have e1 : y 0 = b := Fin.ext h1
  have e2 : (y 1).val / 16 = n := by omega
  have e3 : (⟨(y 1).val % 16, by omega⟩ : Fin 16) = c := Fin.ext (by show (y 1).val % 16 = c.val; omega)
  rw [e2, e3, e1]

/-- A piece at its place in the block of the scales. -/
theorem qPay_eq (o : FVec F S48x256 .bf16) (j : ℕ) (hj : j < 2) (y : S1x48x2.Idx) (x : S1x48x1.Idx)
    (h1 : (y 1).val = (x 1).val) (h2 : (y 2).val = j) : shapeCast S1x48x1 (scl (vHalf o j hj)) shapeCasts_S48x1_S1x48x1 x = qBlk o y := by
  obtain ⟨a, b, c, rfl⟩ : ∃ (a : Fin 1) (b : Fin 48) (c : Fin 1), x = ix3 a b c := ⟨x 0, x 1, x 2, eq_ix3 x⟩
  have h1 : (y 1).val = b.val := h1
  have e1 : y 1 = b := Fin.ext h1
  subst h2
  unfold qBlk
  rw [e1]
  generalize scl (vHalf o (y 2).val hj) = S
  pointwise

/-- A piece at its place in the block of the codes. -/
theorem cPay_eq (o : FVec F S48x256 .bf16) (j : ℕ) (hj : j < 2) (y : S48x256.Idx) (x : S48x128.Idx)
    (h1 : (y 0).val = (x 0).val) (h2 : (y 1).val = 128 * j + (x 1).val) : cHalf (vHalf o j hj) x = cBlk o y := by
  have hx : (x 1).val < 128 := (x 1).isLt
  unfold cBlk
  have e2 : (y 1).val / 128 = j := by omega
  have e3 : (⟨(y 1).val % 128, by omega⟩ : Fin 128) = x 1 := Fin.ext (by show (y 1).val % 128 = (x 1).val; omega)
  have e1 : y 0 = x 0 := Fin.ext h1
  subst e2
  rw [e3, e1]
  exact congrArg _ (eq_ix2 (n0 := 48) (n1 := 128) x)

set_option maxHeartbeats 4000000 in
theorem out0_B_7_eq (c : Dev nD) (i : Cert.KernelIdeal.grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬R1.cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) :
    R1.out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0
      = oBlk x2 x3 x4 xs0 x6 := by
  unfold R1.out0_B_7
  rw [View.read_writes_eq_canon _ _ _ (R1.cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0)]
  unfold R1.kernelRun0_B
  dsimp only
  sl_unfold_words
  rw [View.canon_unit_zero hz2]
  simp only [View.readAt_eq_ld, Memref.IsWhole.read_unread]
  simp only [View.ld_unit_zero (S := S140x256) hz2, View.ld_unit_zero (S := S48x112) hz2]
  simp only [View.ld_unit]
  simp only [k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155]
  simp only [shapeCast_self, oBlk, bCat, bRow, gAcc, gLo, gHi, dot, wgt, lo, hi, sc16, Nat.reduceMul, Nat.reduceAdd]

set_option maxHeartbeats 4000000 in
theorem out0_B_89_eq (c : Dev nD) (i : Cert.KernelIdeal.grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : ¬R1.cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) (xo10 : Vec F S48x16 .bf16) (xs0 : Vec F S48x112 .bf16) :
    R1.out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0
      = cBlk (oBlk x2 x3 x4 xs0 x6)
    ∧ R1.out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0
      = qBlk (oBlk x2 x3 x4 xs0 x6) := by
  unfold R1.out0_B_8 R1.out0_B_9
  rw [View.read_writes_eq_canon _ _ _ (R1.cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0), View.read_writes_eq_canon _ _ _ (R1.cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo10 xs0)]
  unfold R1.kernelRun0_B
  dsimp only
  sl_unfold_words
  simp only [readCov_ld, View.readAt_eq_ld, Memref.IsWhole.read_unread]
  simp only [View.ld_unit_zero (S := S140x256) hz2, View.ld_unit_zero (S := S48x112) hz2]
  simp only [k1_pay156, k1_pay157, k1_pay158, k1_pay169, k1_pay170]
  generalize hO : k1_pay155 (F := F) _ _ _ _ _ _ _ _ _ = O
  have hO' : O = oBlk x2 x3 x4 xs0 x6 := by
    rw [← hO]
    simp only [View.ld_unit]
    simp only [k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155]
    simp only [shapeCast_self, oBlk, bCat, bRow, gAcc, gLo, gHi, dot, wgt, lo, hi, sc16, Nat.reduceMul, Nat.reduceAdd]
  rw [← hO']
  refine ⟨funext fun y => ?_, funext fun y => ?_⟩
  · canon_tiles x h
    case piece0 =>
      refine (congrFun (cod_second O) x).trans ?_
      exact cPay_eq O 1 (by omega) y x (by omega) (by omega)
    case piece1 => exact cPay_eq O 0 (by omega) y x (by omega) (by omega)
  canon_tiles x h
  case piece0 =>
    refine (congrFun (scl_second O _ rfl) x).trans ?_
    exact qPay_eq O 1 (by omega) y x h1 (by omega)
  case piece1 => exact qPay_eq O 0 (by omega) y x h1 (by omega)

set_option maxHeartbeats 4000000 in
theorem out0_A_10_eq (c : Dev nD) (i : Cert.KernelIdeal.grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : R1.cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) :
    R1.out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = tBlk x0 x1 x2 x5 := by
  unfold R1.out0_A_10
  rw [View.read_writes_eq_canon _ _ _ (R1.cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold R1.kernelRun0_A
  dsimp only
  sl_unfold_words
  rw [View.canon_unit_zero hz2]
  simp only [View.readAt_eq_ld, Memref.IsWhole.read_unread]
  simp only [View.ld_unit_zero (S := S48x1) hz2, View.ld_unit_zero (S := S48x17920) hz2]
  simp only [View.ld_unit]
  simp only [k1_pay3, k1_pay4, k1_pay5, k1_pay6, k1_pay7, k1_pay8, k1_pay9, k1_pay10, shapeCast_self, tBlk, tPart]

set_option maxHeartbeats 4000000 in
theorem sout0_A_0_eq (c : Dev nD) (i : Cert.KernelIdeal.grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : R1.cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) :
    R1.sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = mBlk x0 (tBlk x0 x1 x2 x5) := by
  unfold R1.sout0_A_0
  rw [View.read_writes_eq_canon _ _ _ (R1.scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold R1.kernelRun0_A
  dsimp only
  sl_unfold_words
  simp only [View.readAt_eq_ld, Memref.IsWhole.read_unread]
  simp only [View.ld_unit_zero (S := S48x1) hz2, View.ld_unit_zero (S := S48x17920) hz2]
  simp only [View.ld_unit]
  simp only [k1_pay3, k1_pay4, k1_pay5, k1_pay6, k1_pay7, k1_pay8, k1_pay9, k1_pay10, k1_pay13, k1_pay14, k1_pay15, k1_pay16, k1_pay17, k1_pay18, k1_pay19, k1_pay20, shapeCast_self, tBlk, tPart]
  generalize k1_pay12 (F := F) x0 _ _ _ _ _ _ = S
  funext y
  canon_tiles x h
  case piece0 => exact mPay_eq x0 S 6 y x (by omega) (by omega)
  case piece1 => exact mPay_eq x0 S 5 y x (by omega) (by omega)
  case piece2 => exact mPay_eq x0 S 4 y x (by omega) (by omega)
  case piece3 => exact mPay_eq x0 S 3 y x (by omega) (by omega)
  case piece4 => exact mPay_eq x0 S 2 y x (by omega) (by omega)
  case piece5 => exact mPay_eq x0 S 1 y x (by omega) (by omega)
  case piece6 => exact mPay_eq x0 S 0 y x (by omega) (by omega)

set_option maxHeartbeats 4000000 in
theorem out0_A_7_eq (c : Dev nD) (i : Cert.KernelIdeal.grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : R1.cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) :
    R1.out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = oBlk x2 x3 x4 (mBlk x0 (tBlk x0 x1 x2 x5)) x6 := by
  unfold R1.out0_A_7
  rw [View.read_writes_eq_canon _ _ _ (R1.cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold R1.kernelRun0_A
  dsimp only
  sl_unfold_words
  rw [View.canon_unit_zero hz2]
  rw [← sout0_A_0_eq c i arg1 harg1 arg2 harg2 arg3 harg3 arg4 harg4 arg5 harg5 arg6 harg6 arg7 harg7 arg8 harg8 arg9 harg9 arg10 harg10 arg11 harg11 arg12 harg12 hc0 x0 x1 x2 x3 x4 x5 x6]
  unfold R1.sout0_A_0
  rw [View.read_writes_eq_canon _ _ _ (R1.scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold R1.kernelRun0_A
  dsimp only
  sl_unfold_words
  simp only [readCov_ld]
  generalize View.canon (Val := Elt F) (s := S48x112) (e := .bf16) _ = M
  simp only [View.readAt_eq_ld, Memref.IsWhole.read_unread]
  simp only [View.ld_unit_zero (S := S140x256) hz2, View.ld_unit_zero (S := S48x112) hz2]
  simp only [View.ld_unit]
  simp only [k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155]
  simp only [shapeCast_self, oBlk, bCat, bRow, gAcc, gLo, gHi, dot, wgt, lo, hi, sc16, Nat.reduceMul, Nat.reduceAdd]

set_option maxHeartbeats 4000000 in
theorem out0_A_89_eq (c : Dev nD) (i : Cert.KernelIdeal.grid1.Coords) (arg1 : Memref sig .tc .vmem S48x1 .i32) (harg1 : arg1.IsWhole) (arg2 : Memref sig .tc .vmem S48x1 .f32) (harg2 : arg2.IsWhole) (arg3 : Memref sig .tc .vmem S48x17920 .bf16) (harg3 : arg3.IsWhole) (arg4 : Memref sig .tc .vmem S8960x256 .i8) (harg4 : arg4.IsWhole) (arg5 : Memref sig .tc .vmem S140x256 .bf16) (harg5 : arg5.IsWhole) (arg6 : Memref sig .tc .vmem S7x17920x16 .bf16) (harg6 : arg6.IsWhole) (arg7 : Memref sig .tc .vmem S7x16x256 .bf16) (harg7 : arg7.IsWhole) (arg8 : Memref sig .tc .vmem S48x256 .bf16) (harg8 : arg8.IsWhole) (arg9 : Memref sig .tc .vmem S48x256 .fp8e4m3) (harg9 : arg9.IsWhole) (arg10 : Memref sig .tc .vmem S1x48x2 .f32) (harg10 : arg10.IsWhole) (arg11 : Memref sig .tc .vmem S48x16 .bf16) (harg11 : arg11.IsWhole) (arg12 : Memref sig .tc .vmem S48x112 .bf16) (harg12 : arg12.IsWhole) (hc0 : R1.cond0_0 i)
    (x0 : Vec F S48x1 .i32) (x1 : Vec F S48x1 .f32) (x2 : Vec F S48x17920 .bf16) (x3 : Vec F S8960x256 .i8) (x4 : Vec F S140x256 .bf16) (x5 : Vec F S7x17920x16 .bf16) (x6 : Vec F S7x16x256 .bf16) :
    R1.out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = cBlk (oBlk x2 x3 x4 (mBlk x0 (tBlk x0 x1 x2 x5)) x6)
    ∧ R1.out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = qBlk (oBlk x2 x3 x4 (mBlk x0 (tBlk x0 x1 x2 x5)) x6) := by
  unfold R1.out0_A_8 R1.out0_A_9
  rw [View.read_writes_eq_canon _ _ _ (R1.cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6), View.read_writes_eq_canon _ _ _ (R1.cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold R1.kernelRun0_A
  dsimp only
  sl_unfold_words
  rw [← sout0_A_0_eq c i arg1 harg1 arg2 harg2 arg3 harg3 arg4 harg4 arg5 harg5 arg6 harg6 arg7 harg7 arg8 harg8 arg9 harg9 arg10 harg10 arg11 harg11 arg12 harg12 hc0 x0 x1 x2 x3 x4 x5 x6]
  unfold R1.sout0_A_0
  rw [View.read_writes_eq_canon _ _ _ (R1.scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold R1.kernelRun0_A
  dsimp only
  sl_unfold_words
  simp only [readCov_ld]
  generalize View.canon (Val := Elt F) (s := S48x112) (e := .bf16) _ = M
  simp only [readCov_ld, View.readAt_eq_ld, Memref.IsWhole.read_unread]
  simp only [View.ld_unit_zero (S := S140x256) hz2, View.ld_unit_zero (S := S48x112) hz2]
  simp only [k1_pay156, k1_pay157, k1_pay158, k1_pay169, k1_pay170]
  generalize hO : k1_pay155 (F := F) _ _ _ _ _ _ _ _ _ = O
  have hO' : O = oBlk x2 x3 x4 M x6 := by
    rw [← hO]
    simp only [View.ld_unit]
    simp only [k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155]
    simp only [shapeCast_self, oBlk, bCat, bRow, gAcc, gLo, gHi, dot, wgt, lo, hi, sc16, Nat.reduceMul, Nat.reduceAdd]
  rw [← hO']
  refine ⟨funext fun y => ?_, funext fun y => ?_⟩
  · canon_tiles x h
    case piece0 =>
      refine (congrFun (cod_second O) x).trans ?_
      exact cPay_eq O 1 (by omega) y x (by omega) (by omega)
    case piece1 => exact cPay_eq O 0 (by omega) y x (by omega) (by omega)
  canon_tiles x h
  case piece0 =>
    refine (congrFun (scl_second O _ rfl) x).trans ?_
    exact qPay_eq O 1 (by omega) y x h1 (by omega)
  case piece1 => exact qPay_eq O 0 (by omega) y x h1 (by omega)

end Cert.KernelIdeal.Val.D

end
-- ==== Proof.V.Arr1.lean ====
/- The arrays the `down` call leaves, as functions of the arrays it finds. -/
module

public import proofs.«01_k».proof.Proof.V.Down

@[expose] public section

set_option maxRecDepth 16384

noncomputable section

namespace Cert.KernelIdeal.Val.D

open Cert.KernelIdeal Cert.KernelIdeal.Gen Cert.KernelIdeal.R1
open Idealize.ShloMosaic Idealize.ShloMosaic.TcCoe
open Idealize.ShloMosaic.Pipeline (Dat)

variable {F : FTy → Type} [FloatOps F]
variable (V : (c : Dev nD) → (b : Ref sig .tc) → Buf (Elt F) ((c : Thread nD τ).loc b))

theorem idxW : ∀ t : Fin cfg1.N, (win1_0.index t 0 = 0 ∧ win1_0.index t 1 = 0) ∧ (win1_1.index t 0 = 0 ∧ win1_1.index t 1 = 0)
    ∧ (win1_2.index t 0 = 0 ∧ win1_2.index t 1 = 0) ∧ (win1_5.index t 0 = 0 ∧ win1_5.index t 1 = 0 ∧ win1_5.index t 2 = 0)
    ∧ (win1_10.index t 0 = 0 ∧ win1_10.index t 1 = 0) := by decide +kernel
theorem idxC : ∀ t : Fin cfg1.N, (win1_3.index t 0 = 0 ∧ win1_3.index t 1 = t.val) ∧ (win1_4.index t 0 = 0 ∧ win1_4.index t 1 = t.val)
    ∧ (win1_6.index t 0 = 0 ∧ win1_6.index t 1 = 0 ∧ win1_6.index t 2 = t.val)
    ∧ (win1_7.index t 0 = 0 ∧ win1_7.index t 1 = t.val) ∧ (win1_9.index t 0 = t.val ∧ win1_9.index t 1 = 0 ∧ win1_9.index t 2 = 0)
    ∧ (win1_8.index t 0 = 0 ∧ win1_8.index t 1 = t.val) := by decide +kernel

theorem lt20 (t : Fin cfg1.N) : t.val < 20 := t.isLt.trans_eq N_1

theorem blk0 (c : Dev nD) (t : Fin cfg1.N) : (iblk V c 0 t : Vec F S48x1 .i32) = V c main_v3 := by
  funext j
  unfold iblk
  rw [View.read_apply]
  refine congrArg (V c main_v3) (funext fun a => Fin.ext ?_)
  have h := (idxW t).1
  match a with
  | ⟨0, _⟩ => show win1_0.index t 0 * 48 + 1 * (j 0).val = (j 0).val; rw [h.1]; omega
  | ⟨1, _⟩ => show win1_0.index t 1 * 1 + 1 * (j 1).val = (j 1).val; rw [h.2]; omega

theorem blk1 (c : Dev nD) (t : Fin cfg1.N) : (iblk V c 1 t : Vec F S48x1 .f32) = V c main_v10 := by
  funext j
  unfold iblk
  rw [View.read_apply]
  refine congrArg (V c main_v10) (funext fun a => Fin.ext ?_)
  have h := (idxW t).2.1
  match a with
  | ⟨0, _⟩ => show win1_1.index t 0 * 48 + 1 * (j 0).val = (j 0).val; rw [h.1]; omega
  | ⟨1, _⟩ => show win1_1.index t 1 * 1 + 1 * (j 1).val = (j 1).val; rw [h.2]; omega

theorem blk2 (c : Dev nD) (t : Fin cfg1.N) : (iblk V c 2 t : Vec F S48x17920 .bf16) = V c main_v11_0 := by
  funext j
  unfold iblk
  rw [View.read_apply]
  refine congrArg (V c main_v11_0) (funext fun a => Fin.ext ?_)
  have h := (idxW t).2.2.1
  match a with
  | ⟨0, _⟩ => show win1_2.index t 0 * 48 + 1 * (j 0).val = (j 0).val; rw [h.1]; omega
  | ⟨1, _⟩ => show win1_2.index t 1 * 17920 + 1 * (j 1).val = (j 1).val; rw [h.2]; omega

theorem blk5 (c : Dev nD) (t : Fin cfg1.N) : (iblk V c 5 t : Vec F S7x17920x16 .bf16) = V c main_arg8 := by
  funext j
  unfold iblk
  rw [View.read_apply]
  refine congrArg (V c main_arg8) (funext fun a => Fin.ext ?_)
  have h := (idxW t).2.2.2.1
  match a with
  | ⟨0, _⟩ => show win1_5.index t 0 * 7 + 1 * (j 0).val = (j 0).val; rw [h.1]; omega
  | ⟨1, _⟩ => show win1_5.index t 1 * 17920 + 1 * (j 1).val = (j 1).val; rw [h.2.1]; omega
  | ⟨2, _⟩ => show win1_5.index t 2 * 16 + 1 * (j 2).val = (j 2).val; rw [h.2.2]; omega

theorem blk3 (c : Dev nD) (t : Fin cfg1.N) (p : Fin 8960) (j : Fin 256) : (iblk V c 3 t : Vec F S8960x256 .i8) (ix2 p j)
    = (V c main_arg4 : Vec F S8960x5120 .i8) (ix2 p ⟨256 * t.val + j.val, by have := lt20 t; omega⟩) := by
  unfold iblk
  rw [View.read_apply]
  refine congrArg (V c main_arg4) (funext fun a => Fin.ext ?_)
  have h := (idxC t).1
  match a with
  | ⟨0, _⟩ => show win1_3.index t 0 * 8960 + 1 * p.val = p.val; rw [h.1]; omega
  | ⟨1, _⟩ => show win1_3.index t 1 * 256 + 1 * j.val = 256 * t.val + j.val; rw [h.2]; omega

theorem blk4 (c : Dev nD) (t : Fin cfg1.N) (p : Fin 140) (j : Fin 256) : (iblk V c 4 t : Vec F S140x256 .bf16) (ix2 p j)
    = (V c main_arg5 : Vec F S140x5120 .bf16) (ix2 p ⟨256 * t.val + j.val, by have := lt20 t; omega⟩) := by
  unfold iblk
  rw [View.read_apply]
  refine congrArg (V c main_arg5) (funext fun a => Fin.ext ?_)
  have h := (idxC t).2.1
  match a with
  | ⟨0, _⟩ => show win1_4.index t 0 * 140 + 1 * p.val = p.val; rw [h.1]; omega
  | ⟨1, _⟩ => show win1_4.index t 1 * 256 + 1 * j.val = 256 * t.val + j.val; rw [h.2]; omega

theorem blk6 (c : Dev nD) (t : Fin cfg1.N) (n : Fin 7) (r : Fin 16) (j : Fin 256) : (iblk V c 6 t : Vec F S7x16x256 .bf16) (ix3 n r j)
    = (V c main_arg9 : Vec F S7x16x5120 .bf16) (ix3 n r ⟨256 * t.val + j.val, by have := lt20 t; omega⟩) := by
  unfold iblk
  rw [View.read_apply]
  refine congrArg (V c main_arg9) (funext fun a => Fin.ext ?_)
  have h := (idxC t).2.2.1
  match a with
  | ⟨0, _⟩ => show win1_6.index t 0 * 7 + 1 * n.val = n.val; rw [h.1]; omega
  | ⟨1, _⟩ => show win1_6.index t 1 * 16 + 1 * r.val = r.val; rw [h.2.1]; omega
  | ⟨2, _⟩ => show win1_6.index t 2 * 256 + 1 * j.val = 256 * t.val + j.val; rw [h.2.2]; omega

/-- `t`, of the arrays. -/
def tArr (c : Dev nD) : Vec F S48x16 .bf16 := tBlk (V c main_v3) (V c main_v10) (V c main_v11_0) (V c main_arg8)

/-- The block of the result at point `t`. -/
def oAt (c : Dev nD) (t : Fin cfg1.N) : Vec F S48x256 .bf16 :=
  oBlk (V c main_v11_0) (iblk V c 3 t) (iblk V c 4 t) (mBlk (V c main_v3) (tArr V c)) (iblk V c 6 t)

/-- What the body leaves. -/
theorem outsAt_eq (c : Dev nD) : ∀ (n : ℕ) (h : n < cfg1.N),
    (outsAt0 V c n h).1 = oAt V c ⟨n, h⟩ ∧ (outsAt0 V c n h).2.1 = cBlk (oAt V c ⟨n, h⟩) ∧ (outsAt0 V c n h).2.2.1 = qBlk (oAt V c ⟨n, h⟩)
      ∧ (outsAt0 V c n h).2.2.2.1 = tArr V c ∧ (outsAt0 V c n h).2.2.2.2 = mBlk (V c main_v3) (tArr V c)
  | 0, h => by
    rw [show outsAt0 V c 0 h = _ from outsAt0_A V c ⟨0, h⟩ rfl]
    dsimp only
    rw [out0_A_7_eq, (out0_A_89_eq _ _ _ _ _ _ _ _ _ _ _ _ _ _ _ _ _ _ _ _ _ _ _ _ _ _ _ _ _ _ _ _ _ _).1, (out0_A_89_eq _ _ _ _ _ _ _ _ _ _ _ _ _ _ _ _ _ _ _ _ _ _ _ _ _ _ _ _ _ _ _ _ _ _).2, out0_A_10_eq, sout0_A_0_eq]
    rw [blk0, blk1, blk2, blk5]
    exact ⟨rfl, rfl, rfl, rfl, rfl⟩
  | n + 1, h => by
    have hN : cfg1.N = 20 := N_1
    have hB : ¬(⟨n + 1, h⟩ : Fin cfg1.N).val % 20 = 0 := by dsimp only; omega
    rw [show outsAt0 V c (n + 1) h = _ from outsAt0_B V c ⟨n + 1, h⟩ hB]
    dsimp only
    rw [out0_B_7_eq, (out0_B_89_eq _ _ _ _ _ _ _ _ _ _ _ _ _ _ _ _ _ _ _ _ _ _ _ _ _ _ _ _ _ _ _ _ _ _ _ _).1, (out0_B_89_eq _ _ _ _ _ _ _ _ _ _ _ _ _ _ _ _ _ _ _ _ _ _ _ _ _ _ _ _ _ _ _ _ _ _ _ _).2]
    have ih := outsAt_eq c n (Nat.lt_of_succ_lt h)
    unfold out0_B_10 sout0_B_0
    simp only [Nat.add_sub_cancel]
    rw [ih.2.2.2.1, ih.2.2.2.2, blk2]
    exact ⟨rfl, rfl, rfl, rfl, rfl⟩

/-- The result, of the arrays. -/
def oArr (c : Dev nD) : Vec F S48x5120 .bf16 := fun y =>
  oAt V c ⟨(y 1).val / 256, by have h : (y 1).val < 5120 := (y 1).isLt; show _ < grid1.N; rw [N_1]; omega⟩ (ix2 (y 0) ⟨(y 1).val % 256, by omega⟩)

/-- The codes, of the arrays. -/
def cArr (c : Dev nD) : Vec F S48x5120 .fp8e4m3 := fun y =>
  cBlk (oAt V c ⟨(y 1).val / 256, by have h : (y 1).val < 5120 := (y 1).isLt; show _ < grid1.N; rw [N_1]; omega⟩) (ix2 (y 0) ⟨(y 1).val % 256, by omega⟩)

/-- The scales, of the arrays. -/
def qArr (c : Dev nD) : Vec F S20x48x2 .f32 := fun y =>
  qBlk (oAt V c ⟨(y 0).val, by have h : (y 0).val < 20 := (y 0).isLt; show _ < grid1.N; rw [N_1]; omega⟩) (ix3 0 (y 1) (y 2))

theorem flushed7 (c : Dev nD) (t : Fin cfg1.N) (hf : (cfg1.win 7).flush t = true) :
    (dat V c).flushed 7 t = ((cfg1.win 7).blk t).view.read (Elt F) (oArr V c) := by
  show (cfg1.win 7).cut (grid1.coords t) ((dat V c).after 7 t) = _
  rw [after0_7, (outsAt_eq V c t.val t.isLt).1]
  funext j
  rw [View.read_apply]
  have h := (idxC t).2.2.2.1
  have hj0 : (j 0).val < 48 := (j 0).isLt
  have hj1 : (j 1).val < 256 := (j 1).isLt
  have e0 : (((cfg1.win 7).blk t).view.emb j 0).val = (j 0).val := by
    show win1_7.index t 0 * 48 + 1 * (j 0).val = _; rw [h.1]; omega
  have e1 : (((cfg1.win 7).blk t).view.emb j 1).val = 256 * t.val + (j 1).val := by
    show win1_7.index t 1 * 256 + 1 * (j 1).val = _; rw [h.2]; omega
  show oAt V c t j = oArr V c (((cfg1.win 7).blk t).view.emb j)
  unfold oArr
  congr 1
  · congr 1
    exact Fin.ext (by show t.val = _ / 256; rw [e1]; omega)
  · refine (eq_ix2 (n0 := 48) (n1 := 256) j).trans ?_
    exact congrArg₂ ix2 (Fin.ext e0.symm) (Fin.ext (by show (j 1).val = _ % 256; rw [e1]; omega))

theorem arr7 (c : Dev nD) : (dat V c).arrAt 7 cfg1.N = oArr V c :=
  (dat V c).arrAt_eq_of_cover 7 (oArr V c) (flushed7 V c) fun i => by
    have h0 : (i 0 : Nat) < 48 := (i 0).isLt
    have h1 : (i 1 : Nat) < 5120 := (i 1).isLt
    let t : Fin cfg1.N := ⟨(i 1 : Nat) / 256, by show _ < grid1.N; rw [N_1]; omega⟩
    refine ⟨t, flush1_7 t, ?_⟩
    show i ∈ ((View.whole main_v12_0).slice (win1_7.rect t)).set
    rw [View.set_slice_whole, Rect.mem_set_unit]
    intro a
    have h := (idxC t).2.2.2.1
    have ht : t.val = (i 1 : Nat) / 256 := rfl
    match a with
    | ⟨0, _⟩ => show win1_7.index t 0 * 48 ≤ (i 0 : Nat) ∧ (i 0 : Nat) < win1_7.index t 0 * 48 + 48; rw [h.1]; omega
    | ⟨1, _⟩ => show win1_7.index t 1 * 256 ≤ (i 1 : Nat) ∧ (i 1 : Nat) < win1_7.index t 1 * 256 + 256; rw [h.2]; omega

/-- The codes at an index of point `t`'s block. -/
theorem cArr_at (c : Dev nD) (t : Fin cfg1.N) (y : S48x5120.Idx) (j : S48x256.Idx) (h0 : (y 0).val = (j 0).val) (h1 : (y 1).val = 256 * t.val + (j 1).val) :
    cArr V c y = cBlk (oAt V c t) j := by
  have hj1 : (j 1).val < 256 := (j 1).isLt
  have e : (⟨(y 1).val / 256, by have := t.isLt; show _ < cfg1.N; omega⟩ : Fin cfg1.N) = t := Fin.ext (by show (y 1).val / 256 = t.val; omega)
  have e1 : (⟨(y 1).val % 256, by omega⟩ : Fin 256) = j 1 := Fin.ext (by show (y 1).val % 256 = (j 1).val; omega)
  unfold cArr
  refine (congrArg (fun s => cBlk (oAt V c s) (ix2 (y 0) ⟨(y 1).val % 256, by omega⟩)) e).trans (congrArg (cBlk (oAt V c t)) ?_)
  refine Eq.trans ?_ (eq_ix2 (n0 := 48) (n1 := 256) j).symm
  rw [show y 0 = j 0 from Fin.ext h0, e1]

theorem flushed8 (c : Dev nD) (t : Fin cfg1.N) (hf : (cfg1.win 8).flush t = true) :
    (dat V c).flushed 8 t = ((cfg1.win 8).blk t).view.read (Elt F) (cArr V c) := by
  show (cfg1.win 8).cut (grid1.coords t) ((dat V c).after 8 t) = _
  rw [after0_8, (outsAt_eq V c t.val t.isLt).2.1]
  funext j
  rw [View.read_apply]
  have h := (idxC t).2.2.2.2.2
  have hj0 : (j 0).val < 48 := (j 0).isLt
  have hj1 : (j 1).val < 256 := (j 1).isLt
  have e0 : (((cfg1.win 8).blk t).view.emb j 0).val = (j 0).val := by
    show win1_8.index t 0 * 48 + 1 * (j 0).val = _; rw [h.1]; omega
  have e1 : (((cfg1.win 8).blk t).view.emb j 1).val = 256 * t.val + (j 1).val := by
    show win1_8.index t 1 * 256 + 1 * (j 1).val = _; rw [h.2]; omega
  show cBlk (oAt V c t) j = cArr V c (((cfg1.win 8).blk t).view.emb j)
  exact (cArr_at V c t _ j e0 e1).symm

theorem arr8 (c : Dev nD) : (dat V c).arrAt 8 cfg1.N = cArr V c :=
  (dat V c).arrAt_eq_of_cover 8 (cArr V c) (flushed8 V c) fun i => by
    have h0 : (i 0 : Nat) < 48 := (i 0).isLt
    have h1 : (i 1 : Nat) < 5120 := (i 1).isLt
    let t : Fin cfg1.N := ⟨(i 1 : Nat) / 256, by show _ < grid1.N; rw [N_1]; omega⟩
    refine ⟨t, flush1_8 t, ?_⟩
    show i ∈ ((View.whole main_v12_1).slice (win1_8.rect t)).set
    rw [View.set_slice_whole, Rect.mem_set_unit]
    intro a
    have h := (idxC t).2.2.2.2.2
    have ht : t.val = (i 1 : Nat) / 256 := rfl
    match a with
    | ⟨0, _⟩ => show win1_8.index t 0 * 48 ≤ (i 0 : Nat) ∧ (i 0 : Nat) < win1_8.index t 0 * 48 + 48; rw [h.1]; omega
    | ⟨1, _⟩ => show win1_8.index t 1 * 256 ≤ (i 1 : Nat) ∧ (i 1 : Nat) < win1_8.index t 1 * 256 + 256; rw [h.2]; omega

/-- The scales at an index of point `t`'s block. -/
theorem qArr_at (c : Dev nD) (t : Fin cfg1.N) (y : S20x48x2.Idx) (j : S1x48x2.Idx) (h0 : (y 0).val = t.val) (h1 : (y 1).val = (j 1).val)
    (h2 : (y 2).val = (j 2).val) : qArr V c y = qBlk (oAt V c t) j := by
  unfold qArr
  have e : (⟨(y 0).val, by rw [h0]; exact t.isLt⟩ : Fin cfg1.N) = t := Fin.ext h0
  refine (congrArg (fun s => qBlk (oAt V c s) (ix3 0 (y 1) (y 2))) e).trans (congrArg (qBlk (oAt V c t)) ?_)
  refine Eq.trans ?_ (eq_ix3 (n0 := 1) (n1 := 48) (n2 := 2) j).symm
  have hj0 : (j 0).val < 1 := (j 0).isLt
  rw [show y 1 = j 1 from Fin.ext h1, show y 2 = j 2 from Fin.ext h2, show (0 : Fin 1) = j 0 from Fin.ext (by show 0 = (j 0).val; omega)]

theorem flushed9 (c : Dev nD) (t : Fin cfg1.N) (hf : (cfg1.win 9).flush t = true) :
    (dat V c).flushed 9 t = ((cfg1.win 9).blk t).view.read (Elt F) (qArr V c) := by
  show (cfg1.win 9).cut (grid1.coords t) ((dat V c).after 9 t) = _
  rw [after0_9, (outsAt_eq V c t.val t.isLt).2.2.1]
  funext j
  rw [View.read_apply]
  have h := (idxC t).2.2.2.2.1
  have hj0 : (j 0).val < 1 := (j 0).isLt
  have hj1 : (j 1).val < 48 := (j 1).isLt
  have hj2 : (j 2).val < 2 := (j 2).isLt
  have e0 : (((cfg1.win 9).blk t).view.emb j 0).val = t.val := by
    show win1_9.index t 0 * 1 + 1 * (j 0).val = _; rw [h.1]; omega
  have e1 : (((cfg1.win 9).blk t).view.emb j 1).val = (j 1).val := by
    show win1_9.index t 1 * 48 + 1 * (j 1).val = _; rw [h.2.1]; omega
  have e2 : (((cfg1.win 9).blk t).view.emb j 2).val = (j 2).val := by
    show win1_9.index t 2 * 2 + 1 * (j 2).val = _; rw [h.2.2]; omega
  show qBlk (oAt V c t) j = qArr V c (((cfg1.win 9).blk t).view.emb j)
  exact (qArr_at V c t _ j e0 e1 e2).symm

theorem arr9 (c : Dev nD) : (dat V c).arrAt 9 cfg1.N = qArr V c :=
  (dat V c).arrAt_eq_of_cover 9 (qArr V c) (flushed9 V c) fun i => by
    have h0 : (i 0 : Nat) < 20 := (i 0).isLt
    have h1 : (i 1 : Nat) < 48 := (i 1).isLt
    have h2 : (i 2 : Nat) < 2 := (i 2).isLt
    let t : Fin cfg1.N := ⟨(i 0 : Nat), by show _ < grid1.N; rw [N_1]; omega⟩
    refine ⟨t, flush1_9 t, ?_⟩
    show i ∈ ((View.whole main_v12_2).slice (win1_9.rect t)).set
    rw [View.set_slice_whole, Rect.mem_set_unit]
    intro a
    have h := (idxC t).2.2.2.2.1
    have ht : t.val = (i 0 : Nat) := rfl
    match a with
    | ⟨0, _⟩ => show win1_9.index t 0 * 1 ≤ (i 0 : Nat) ∧ (i 0 : Nat) < win1_9.index t 0 * 1 + 1; rw [h.1]; omega
    | ⟨1, _⟩ => show win1_9.index t 1 * 48 ≤ (i 1 : Nat) ∧ (i 1 : Nat) < win1_9.index t 1 * 48 + 48; rw [h.2.1]; omega
    | ⟨2, _⟩ => show win1_9.index t 2 * 2 ≤ (i 2 : Nat) ∧ (i 2 : Nat) < win1_9.index t 2 * 2 + 2; rw [h.2.2]; omega

theorem flushed10 (c : Dev nD) (t : Fin cfg1.N) (hf : (cfg1.win 10).flush t = true) :
    (dat V c).flushed 10 t = ((cfg1.win 10).blk t).view.read (Elt F) (tArr V c) := by
  show (cfg1.win 10).cut (grid1.coords t) ((dat V c).after 10 t) = _
  rw [after0_10, (outsAt_eq V c t.val t.isLt).2.2.2.1]
  funext j
  rw [View.read_apply]
  have h := (idxW t).2.2.2.2
  show tArr V c j = tArr V c (((cfg1.win 10).blk t).view.emb j)
  refine congrArg (tArr V c) (funext fun a => Fin.ext ?_)
  match a with
  | ⟨0, _⟩ => show (j 0).val = win1_10.index t 0 * 48 + 1 * (j 0).val; rw [h.1]; omega
  | ⟨1, _⟩ => show (j 1).val = win1_10.index t 1 * 16 + 1 * (j 1).val; rw [h.2]; omega

theorem arr10 (c : Dev nD) : (dat V c).arrAt 10 cfg1.N = tArr V c :=
  (dat V c).arrAt_eq_of_cover 10 (tArr V c) (flushed10 V c) fun i => by
    have h0 : (i 0 : Nat) < 48 := (i 0).isLt
    have h1 : (i 1 : Nat) < 16 := (i 1).isLt
    let t : Fin cfg1.N := ⟨19, by show _ < grid1.N; rw [N_1]; omega⟩
    refine ⟨t, (flush1_10 t).mpr rfl, ?_⟩
    show i ∈ ((View.whole main_v12_3).slice (win1_10.rect t)).set
    rw [View.set_slice_whole, Rect.mem_set_unit]
    intro a
    have h := (idxW t).2.2.2.2
    match a with
    | ⟨0, _⟩ => show win1_10.index t 0 * 48 ≤ (i 0 : Nat) ∧ (i 0 : Nat) < win1_10.index t 0 * 48 + 48; rw [h.1]; omega
    | ⟨1, _⟩ => show win1_10.index t 1 * 16 ≤ (i 1 : Nat) ∧ (i 1 : Nat) < win1_10.index t 1 * 16 + 16; rw [h.2]; omega

end Cert.KernelIdeal.Val.D

end
-- ==== Proof.V.Spec.lean ====
/- What the two calls compute, row by row and column by column over the extended reals: the packed int4 product, the
   low-rank correction of one adapter, the gating. Arrays are read at natural-number coordinates (`el2`, `el3`, `el4`), so
   that a block, a padded array and the whole array speak of the same element. -/
module

public import proofs.«01_k».proof.Proof.V.Step
public import Idealize.ShloMosaic.Lib.IdealHost

@[expose] public section

noncomputable section

namespace Cert.KernelIdeal.Val

open Idealize.ShloMosaic

section Elements
variable {α : Type} [Inhabited α]

/-- An element at natural-number coordinates. -/
def el2 {A B : ℕ} (x : (⟨2, ![A, B]⟩ : Shape).Idx → α) (i j : ℕ) : α := if h : i < A ∧ j < B then x (ix2 ⟨i, h.1⟩ ⟨j, h.2⟩) else default
def el3 {A B C : ℕ} (x : (⟨3, ![A, B, C]⟩ : Shape).Idx → α) (i j k : ℕ) : α :=
  if h : i < A ∧ j < B ∧ k < C then x (ix3 ⟨i, h.1⟩ ⟨j, h.2.1⟩ ⟨k, h.2.2⟩) else default
def el4 {A B C D : ℕ} (x : (⟨4, ![A, B, C, D]⟩ : Shape).Idx → α) (i j k l : ℕ) : α :=
  if h : i < A ∧ j < B ∧ k < C ∧ l < D then x (ix4 ⟨i, h.1⟩ ⟨j, h.2.1⟩ ⟨k, h.2.2.1⟩ ⟨l, h.2.2.2⟩) else default

theorem el2_of {A B : ℕ} (x : (⟨2, ![A, B]⟩ : Shape).Idx → α) {i j : ℕ} (hi : i < A) (hj : j < B) : el2 x i j = x (ix2 ⟨i, hi⟩ ⟨j, hj⟩) :=
  dif_pos ⟨hi, hj⟩
theorem el3_of {A B C : ℕ} (x : (⟨3, ![A, B, C]⟩ : Shape).Idx → α) {i j k : ℕ} (hi : i < A) (hj : j < B) (hk : k < C) :
    el3 x i j k = x (ix3 ⟨i, hi⟩ ⟨j, hj⟩ ⟨k, hk⟩) := dif_pos ⟨hi, hj, hk⟩
theorem el4_of {A B C D : ℕ} (x : (⟨4, ![A, B, C, D]⟩ : Shape).Idx → α) {i j k l : ℕ} (hi : i < A) (hj : j < B) (hk : k < C) (hl : l < D) :
    el4 x i j k l = x (ix4 ⟨i, hi⟩ ⟨j, hj⟩ ⟨k, hk⟩ ⟨l, hl⟩) := dif_pos ⟨hi, hj, hk, hl⟩

/-- An element at an index, at its coordinates. -/
theorem at2 {A B : ℕ} (x : (⟨2, ![A, B]⟩ : Shape).Idx → α) (i : (⟨2, ![A, B]⟩ : Shape).Idx) : x i = el2 x (i 0).val (i 1).val :=
  (congrArg x (eq_ix2 i)).trans (el2_of x (i 0).isLt (i 1).isLt).symm
theorem at3 {A B C : ℕ} (x : (⟨3, ![A, B, C]⟩ : Shape).Idx → α) (i : (⟨3, ![A, B, C]⟩ : Shape).Idx) :
    x i = el3 x (i 0).val (i 1).val (i 2).val :=
  (congrArg x (eq_ix3 i)).trans (el3_of x (i 0).isLt (i 1).isLt (i 2).isLt).symm
theorem at4 {A B C D : ℕ} (x : (⟨4, ![A, B, C, D]⟩ : Shape).Idx → α) (i : (⟨4, ![A, B, C, D]⟩ : Shape).Idx) :
    x i = el4 x (i 0).val (i 1).val (i 2).val (i 3).val :=
  (congrArg x (eq_ix4 i)).trans (el4_of x (i 0).isLt (i 1).isLt (i 2).isLt (i 3).isLt).symm

/-- A slice's element is the element at the offset. -/
theorem slice2 {A B a b o p : ℕ} (x : (⟨2, ![A, B]⟩ : Shape).Idx → α) (h : (⟨2, ![A, B]⟩ : Shape).Slices ![o, p] ⟨2, ![a, b]⟩)
    (i : Fin a) (j : Fin b) (hi : o + a ≤ A) (hj : p + b ≤ B) : extractStridedSlice ⟨2, ![a, b]⟩ ![o, p] x h (ix2 i j) = el2 x (o + i.val) (p + j.val) :=
  (extractStridedSlice_apply ![o, p] x h (ix2 i j) (ix2 ⟨o + i.val, by omega⟩ ⟨p + j.val, by omega⟩)
    (fun a => match a with | ⟨0, _⟩ => rfl | ⟨1, _⟩ => rfl)).trans (el2_of x (by omega) (by omega)).symm
end Elements

/-- A sum over `a` runs of `b`, in one run. -/
theorem sum_runs (a b : ℕ) (hb : 0 < b) (f : ℕ → ℕ → EReal) :
    ∑ q ∈ Finset.range (a * b), f (q / b) (q % b) = ∑ n ∈ Finset.range a, ∑ ρ ∈ Finset.range b, f n ρ := by
  induction a with
  | zero => simp
  | succ a ih =>
    rw [Nat.succ_mul, Finset.sum_range_add, ih, Finset.sum_range_succ]
    congr 1
    refine Finset.sum_congr rfl fun ρ hρ => ?_
    have hρ := Finset.mem_range.mp hρ
    rw [show (a * b + ρ) / b = a by rw [Nat.mul_comm, Nat.mul_add_div hb, Nat.div_eq_of_lt hρ]; omega,
      show (a * b + ρ) % b = ρ by rw [Nat.mul_comm, Nat.mul_add_mod, Nat.mod_eq_of_lt hρ]]

/-- `v` where the row's adapter is `n`, else zero. -/
def sel (id : BitVec 32) (n : ℕ) (v : EReal) : EReal := if id = BitVec.ofNat 32 n then v else 0

theorem select_eq {α : Type} (a b : BitVec 32) (x y : α) : Scalar.select (IntOp.cmpi .eq a b) x y = if a = b then x else y := by
  unfold Scalar.select IntOp.cmpi
  by_cases h : a = b
  · simp [h]
  · have e : (a == b) = false := by simpa using h
    simp [h, e]

theorem sum7 (f : ℕ → EReal) : ∑ n ∈ Finset.range 7, f n = f 0 + f 1 + f 2 + f 3 + f 4 + f 5 + f 6 := by
  simp only [Finset.sum_range_succ, Finset.range_zero, Finset.sum_empty, zero_add]

/-- The product of a row with a column of packed int4 weights: the low nibbles meet the row's first half, the high nibbles
    its second; 128 rows share a scale. -/
def prod (K G : ℕ) (x : ℕ → EReal) (c : ℕ → BitVec 8) (s : ℕ → EReal) : EReal :=
  ∑ d ∈ Finset.range K, x d * (((nibLo (c d) : ℝ) : EReal) * s (d / 128))
    + ∑ d ∈ Finset.range K, x (K + d) * (((nibHi (c d) : ℝ) : EReal) * s (G + d / 128))

/-- A row through its adapter's first low-rank factor, scaled. -/
def down (K : ℕ) (id : BitVec 32) (sc : EReal) (x : ℕ → EReal) (A : ℕ → ℕ → EReal) : EReal :=
  (∑ n ∈ Finset.range 7, sel id n (∑ d ∈ Finset.range K, x d * A n d)) * sc

/-- The low-rank correction: the row's sixteen ranks through its adapter's second factor. -/
def up (id : BitVec 32) (s : ℕ → EReal) (B : ℕ → ℕ → EReal) : EReal :=
  ∑ n ∈ Finset.range 7, ∑ ρ ∈ Finset.range 16, sel id n (s ρ) * B n ρ

/-- The gating. -/
def gated (g u : EReal) : EReal := g * FloatOps.logistic (F := Ideal) (φ := .f32) g * u

theorem prod_congr {K G : ℕ} {x x' : ℕ → EReal} {c c' : ℕ → BitVec 8} {s s' : ℕ → EReal} (hK : K ≤ 128 * G) (hx : ∀ d < K + K, x d = x' d)
    (hc : ∀ d < K, c d = c' d) (hs : ∀ g < G + G, s g = s' g) : prod K G x c s = prod K G x' c' s' := by
  unfold prod
  congr 1 <;> refine Finset.sum_congr rfl fun d hd => ?_ <;> have hd := Finset.mem_range.mp hd
  · rw [hx d (by omega), hc d hd, hs _ (by omega)]
  · rw [hx _ (by omega), hc d hd, hs _ (by omega)]

theorem down_congr {K : ℕ} {id : BitVec 32} {sc sc' : EReal} {x x' : ℕ → EReal} {A A' : ℕ → ℕ → EReal} (hsc : sc = sc') (hx : ∀ d < K, x d = x' d)
    (hA : ∀ n < 7, ∀ d < K, A n d = A' n d) : down K id sc x A = down K id sc' x' A' := by
  unfold down
  rw [hsc]
  congr 1
  refine Finset.sum_congr rfl fun n hn => ?_
  congr 1
  refine Finset.sum_congr rfl fun d hd => ?_
  rw [hx d (Finset.mem_range.mp hd), hA n (Finset.mem_range.mp hn) d (Finset.mem_range.mp hd)]

theorem up_congr {id : BitVec 32} {s s' : ℕ → EReal} {B B' : ℕ → ℕ → EReal} (hs : ∀ ρ < 16, s ρ = s' ρ)
    (hB : ∀ n < 7, ∀ ρ < 16, B n ρ = B' n ρ) : up id s B = up id s' B' := by
  unfold up
  refine Finset.sum_congr rfl fun n hn => Finset.sum_congr rfl fun ρ hρ => ?_
  rw [hs ρ (Finset.mem_range.mp hρ), hB n (Finset.mem_range.mp hn) ρ (Finset.mem_range.mp hρ)]

/-- Sixteen times a nibble times a sixteenth of a scale. -/
theorem nib_scale (z : ℤ) (s : EReal) : (((16 * z : ℤ) : ℝ) : EReal) * (s * (((1 : ℝ) / 16 : ℝ) : EReal)) = ((z : ℝ) : EReal) * s := by
  have h : (((16 * z : ℤ) : ℝ) : EReal) * (((1 : ℝ) / 16 : ℝ) : EReal) = ((z : ℝ) : EReal) := by
    rw [← EReal.coe_mul]
    congr 1
    push_cast
    ring
  rw [mul_comm s, ← mul_assoc, h]

end Cert.KernelIdeal.Val

end
-- ==== Proof.V.SumG.lean ====
/- The `gate_up` block over the extended reals: each element is the plain sums it stands for. -/
module

public import proofs.«01_k».proof.Proof.V.Spec
public import proofs.«01_k».proof.Proof.V.Gate0

@[expose] public section

set_option maxRecDepth 16384

noncomputable section

namespace Cert.KernelIdeal.Val

open Cert.KernelIdeal Cert.KernelIdeal.Gen
open Idealize.ShloMosaic

/-- One term of the low fields' sum. -/
def tLo (x : FVec Ideal S48x5120 .bf16) (c : Vec Ideal S2560x256 .i8) (s : FVec Ideal S40x256 .bf16) (r j d : ℕ) : EReal :=
  el2 (α := EReal) x r d * (((nibLo (el2 (α := BitVec 8) c d j) : ℝ) : EReal) * el2 (α := EReal) s (d / 128) j)
/-- One term of the high fields' sum. -/
def tHi (x : FVec Ideal S48x5120 .bf16) (c : Vec Ideal S2560x256 .i8) (s : FVec Ideal S40x256 .bf16) (r j d : ℕ) : EReal :=
  el2 (α := EReal) x r (2560 + d) * (((nibHi (el2 (α := BitVec 8) c d j) : ℝ) : EReal) * el2 (α := EReal) s (20 + d / 128) j)

theorem sc16_el (s : FVec Ideal S40x256 .bf16) (g j : ℕ) (hg : g < 40) (hj : j < 256) :
    el2 (α := EReal) (sc16 (F := Ideal) s) g j = el2 (α := EReal) s g j * (((1 : ℝ) / 16 : ℝ) : EReal) := by
  rw [el2_of (α := EReal) _ hg hj, el2_of (α := EReal) _ hg hj, ← Ideal.ofBits_sixteenth_bf16]
  rfl

theorem gLo_apply (x : FVec Ideal S48x5120 .bf16) (c : Vec Ideal S2560x256 .i8) (s : FVec Ideal S40x256 .bf16) (n : ℕ) (h : n < 10) (r : Fin 48) (j : Fin 256) :
    gLo (F := Ideal) x c (sc16 s) n h (ix2 r j) = ∑ k ∈ Finset.range 256, tLo x c s r.val j.val (256 * n + k) := by
  unfold gLo
  rw [dot_apply, Finset.sum_range]
  refine Finset.sum_congr rfl fun k _ => ?_
  rw [wgt_apply, lo_apply]
  rw [slice2 (α := EReal) x _ r k (by omega) (by omega), slice2 (α := BitVec 8) c _ k j (by omega) (by omega), slice2 (α := EReal) (sc16 (F := Ideal) s) _ _ j (by omega) (by omega)]
  unfold tLo
  have e1 : 2 * n + k.val / 128 = (256 * n + k.val) / 128 := by omega
  simp only [Nat.zero_add, e1]
  rw [sc16_el s _ _ (by omega) j.isLt]
  exact congrArg (_ * ·) (nib_scale _ _)

theorem gHi_apply (x : FVec Ideal S48x5120 .bf16) (c : Vec Ideal S2560x256 .i8) (s : FVec Ideal S40x256 .bf16) (n : ℕ) (h : n < 10) (r : Fin 48) (j : Fin 256) :
    gHi (F := Ideal) x c (sc16 s) n h (ix2 r j) = ∑ k ∈ Finset.range 256, tHi x c s r.val j.val (256 * n + k) := by
  unfold gHi
  rw [dot_apply, Finset.sum_range]
  refine Finset.sum_congr rfl fun k _ => ?_
  rw [wgt_apply, hi_apply]
  rw [slice2 (α := EReal) x _ r k (by omega) (by omega), slice2 (α := BitVec 8) c _ k j (by omega) (by omega), slice2 (α := EReal) (sc16 (F := Ideal) s) _ _ j (by omega) (by omega)]
  unfold tHi
  have e1 : 20 + 2 * n + k.val / 128 = 20 + (256 * n + k.val) / 128 := by omega
  have e2 : 2560 + 256 * n + k.val = 2560 + (256 * n + k.val) := by omega
  simp only [Nat.zero_add, e1, e2]
  rw [sc16_el s _ _ (by omega) j.isLt]
  exact congrArg (_ * ·) (nib_scale _ _)

theorem gAcc_part (x : FVec Ideal S48x5120 .bf16) (c : Vec Ideal S2560x256 .i8) (s : FVec Ideal S40x256 .bf16) (r : Fin 48) (j : Fin 256) :
    ∀ (n : ℕ) (h : n < 10), gAcc (F := Ideal) x c (sc16 s) n h (ix2 r j)
      = ∑ d ∈ Finset.range (256 * (n + 1)), tLo x c s r.val j.val d + ∑ d ∈ Finset.range (256 * (n + 1)), tHi x c s r.val j.val d
  | 0, h => by
    unfold gAcc
    refine (congrArg₂ (fun a b : EReal => a + b) (gLo_apply x c s 0 h r j) (gHi_apply x c s 0 h r j)).trans ?_
    simp only [Nat.mul_zero, Nat.zero_add, Nat.mul_one]
  | n + 1, h => by
    unfold gAcc
    refine (congrArg₂ (fun a b : EReal => a + b) (congrArg₂ (fun a b : EReal => a + b) (gAcc_part x c s r j n (Nat.lt_of_succ_lt h))
      (gLo_apply x c s (n + 1) h r j)) (gHi_apply x c s (n + 1) h r j)).trans ?_
    rw [show 256 * (n + 1 + 1) = 256 * (n + 1) + 256 by omega, Finset.sum_range_add, Finset.sum_range_add]
    beta_reduce
    rw [add_assoc, add_assoc, add_assoc]
    congr 1
    rw [← add_assoc, add_comm (∑ d ∈ Finset.range (256 * (n + 1)), tHi x c s r.val j.val d), add_assoc]

/-- The accumulator after the last step is the product. -/
theorem gAcc_apply (x : FVec Ideal S48x5120 .bf16) (c : Vec Ideal S2560x256 .i8) (s : FVec Ideal S40x256 .bf16) (r : Fin 48) (j : Fin 256) :
    gAcc (F := Ideal) x c (sc16 s) 9 (by omega) (ix2 r j)
      = prod 2560 20 (el2 (α := EReal) x r.val) (fun d => el2 (α := BitVec 8) c d j.val) (fun g => el2 (α := EReal) s g j.val) :=
  gAcc_part x c s r j 9 (by omega)

theorem sPart_apply (x : FVec Ideal S48x5120 .bf16) (w : FVec Ideal S7x5120x32 .bf16) (n : ℕ) (hn : n < 7) (r : Fin 48) (j : Fin 32) :
    sPart (F := Ideal) x w n hn (ix2 r j) = ∑ d ∈ Finset.range 5120, el2 (α := EReal) x r.val d * el3 (α := EReal) w n d j.val := by
  unfold sPart
  refine (Ideal.matmul_plain_apply none x _ _ r j).trans ?_
  have h0 : (constant (F := Ideal) S48x32 .f32 0x00000000#32 (ix2 r j) : EReal) = 0 := Ideal.ofBits_zero_f32
  refine (congrArg (fun a : EReal => a + _) h0).trans ?_
  rw [zero_add, Finset.sum_range]
  refine Finset.sum_congr rfl fun k _ => ?_
  rw [el2_of (α := EReal) x r.isLt k.isLt, el3_of (α := EReal) w hn k.isLt j.isLt]
  congr 1
  pointwise

/-- A row of the block of the low-rank values. -/
theorem sBlk_apply (x0 : Vec Ideal S48x1 .i32) (x1 : Vec Ideal S48x1 .f32) (x : FVec Ideal S48x5120 .bf16) (w : FVec Ideal S7x5120x32 .bf16) (r : Fin 48) (j : Fin 32) :
    sBlk (F := Ideal) x0 x1 x w (ix2 r j)
      = down 5120 (x0 (ix2 r 0)) (x1 (ix2 r 0)) (el2 (α := EReal) x r.val) (fun n d => el3 (α := EReal) w n d j.val) := by
  have h : ∀ n (hn : n < 7), _ := fun n hn => sPart_apply x w n hn r j
  unfold sBlk k0_pay11 k0_pay10 down
  pointwise
  rw [h 0 (by omega), h 1 (by omega), h 2 (by omega), h 3 (by omega), h 4 (by omega), h 5 (by omega), h 6 (by omega), sum7]
  simp only [select_eq, sel]

end Cert.KernelIdeal.Val

end
-- ==== Proof.V.SumD.lean ====
/- The `down` block over the extended reals: each element is the plain sums it stands for. -/
module

public import proofs.«01_k».proof.Proof.V.Spec
public import proofs.«01_k».proof.Proof.V.Down

@[expose] public section

set_option maxRecDepth 16384

noncomputable section

namespace Cert.KernelIdeal.Val.D

open Cert.KernelIdeal Cert.KernelIdeal.Gen
open Idealize.ShloMosaic

/-- One term of the low fields' sum. -/
def tLo (x : FVec Ideal S48x17920 .bf16) (c : Vec Ideal S8960x256 .i8) (s : FVec Ideal S140x256 .bf16) (r j d : ℕ) : EReal :=
  el2 (α := EReal) x r d * (((nibLo (el2 (α := BitVec 8) c d j) : ℝ) : EReal) * el2 (α := EReal) s (d / 128) j)
/-- One term of the high fields' sum. -/
def tHi (x : FVec Ideal S48x17920 .bf16) (c : Vec Ideal S8960x256 .i8) (s : FVec Ideal S140x256 .bf16) (r j d : ℕ) : EReal :=
  el2 (α := EReal) x r (8960 + d) * (((nibHi (el2 (α := BitVec 8) c d j) : ℝ) : EReal) * el2 (α := EReal) s (70 + d / 128) j)

theorem sc16_el (s : FVec Ideal S140x256 .bf16) (g j : ℕ) (hg : g < 140) (hj : j < 256) :
    el2 (α := EReal) (sc16 (F := Ideal) s) g j = el2 (α := EReal) s g j * (((1 : ℝ) / 16 : ℝ) : EReal) := by
  rw [el2_of (α := EReal) _ hg hj, el2_of (α := EReal) _ hg hj, ← Ideal.ofBits_sixteenth_bf16]
  rfl

theorem gLo_apply (x : FVec Ideal S48x17920 .bf16) (c : Vec Ideal S8960x256 .i8) (s : FVec Ideal S140x256 .bf16) (n : ℕ) (h : n < 35) (r : Fin 48) (j : Fin 256) :
    gLo (F := Ideal) x c (sc16 s) n h (ix2 r j) = ∑ k ∈ Finset.range 256, tLo x c s r.val j.val (256 * n + k) := by
  unfold gLo
  rw [dot_apply, Finset.sum_range]
  refine Finset.sum_congr rfl fun k _ => ?_
  rw [wgt_apply, lo_apply]
  rw [slice2 (α := EReal) x _ r k (by omega) (by omega), slice2 (α := BitVec 8) c _ k j (by omega) (by omega), slice2 (α := EReal) (sc16 (F := Ideal) s) _ _ j (by omega) (by omega)]
  unfold tLo
  have e1 : 2 * n + k.val / 128 = (256 * n + k.val) / 128 := by omega
  simp only [Nat.zero_add, e1]
  rw [sc16_el s _ _ (by omega) j.isLt]
  exact congrArg (_ * ·) (nib_scale _ _)

theorem gHi_apply (x : FVec Ideal S48x17920 .bf16) (c : Vec Ideal S8960x256 .i8) (s : FVec Ideal S140x256 .bf16) (n : ℕ) (h : n < 35) (r : Fin 48) (j : Fin 256) :
    gHi (F := Ideal) x c (sc16 s) n h (ix2 r j) = ∑ k ∈ Finset.range 256, tHi x c s r.val j.val (256 * n + k) := by
  unfold gHi
  rw [dot_apply, Finset.sum_range]
  refine Finset.sum_congr rfl fun k _ => ?_
  rw [wgt_apply, hi_apply]
  rw [slice2 (α := EReal) x _ r k (by omega) (by omega), slice2 (α := BitVec 8) c _ k j (by omega) (by omega), slice2 (α := EReal) (sc16 (F := Ideal) s) _ _ j (by omega) (by omega)]
  unfold tHi
  have e1 : 70 + 2 * n + k.val / 128 = 70 + (256 * n + k.val) / 128 := by omega
  have e2 : 8960 + 256 * n + k.val = 8960 + (256 * n + k.val) := by omega
  simp only [Nat.zero_add, e1, e2]
  rw [sc16_el s _ _ (by omega) j.isLt]
  exact congrArg (_ * ·) (nib_scale _ _)

theorem gAcc_part (x : FVec Ideal S48x17920 .bf16) (c : Vec Ideal S8960x256 .i8) (s : FVec Ideal S140x256 .bf16) (r : Fin 48) (j : Fin 256) :
    ∀ (n : ℕ) (h : n < 35), gAcc (F := Ideal) x c (sc16 s) n h (ix2 r j)
      = ∑ d ∈ Finset.range (256 * (n + 1)), tLo x c s r.val j.val d + ∑ d ∈ Finset.range (256 * (n + 1)), tHi x c s r.val j.val d
  | 0, h => by
    unfold gAcc
    refine (congrArg₂ (fun a b : EReal => a + b) (gLo_apply x c s 0 h r j) (gHi_apply x c s 0 h r j)).trans ?_
    simp only [Nat.mul_zero, Nat.zero_add, Nat.mul_one]
  | n + 1, h => by
    unfold gAcc
    refine (congrArg₂ (fun a b : EReal => a + b) (congrArg₂ (fun a b : EReal => a + b) (gAcc_part x c s r j n (Nat.lt_of_succ_lt h))
      (gLo_apply x c s (n + 1) h r j)) (gHi_apply x c s (n + 1) h r j)).trans ?_
    rw [show 256 * (n + 1 + 1) = 256 * (n + 1) + 256 by omega, Finset.sum_range_add, Finset.sum_range_add]
    beta_reduce
    rw [add_assoc, add_assoc, add_assoc]
    congr 1
    rw [← add_assoc, add_comm (∑ d ∈ Finset.range (256 * (n + 1)), tHi x c s r.val j.val d), add_assoc]

/-- The accumulator after the last step is the product. -/
theorem gAcc_apply (x : FVec Ideal S48x17920 .bf16) (c : Vec Ideal S8960x256 .i8) (s : FVec Ideal S140x256 .bf16) (r : Fin 48) (j : Fin 256) :
    gAcc (F := Ideal) x c (sc16 s) 34 (by omega) (ix2 r j)
      = prod 8960 70 (el2 (α := EReal) x r.val) (fun d => el2 (α := BitVec 8) c d j.val) (fun g => el2 (α := EReal) s g j.val) :=
  gAcc_part x c s r j 34 (by omega)

theorem tPart_apply (x : FVec Ideal S48x17920 .bf16) (w : FVec Ideal S7x17920x16 .bf16) (n : ℕ) (hn : n < 7) (r : Fin 48) (j : Fin 16) :
    tPart (F := Ideal) x w n hn (ix2 r j) = ∑ d ∈ Finset.range 17920, el2 (α := EReal) x r.val d * el3 (α := EReal) w n d j.val := by
  unfold tPart
  refine (Ideal.matmul_plain_apply none x _ _ r j).trans ?_
  have h0 : (constant (F := Ideal) S48x16 .f32 0x00000000#32 (ix2 r j) : EReal) = 0 := Ideal.ofBits_zero_f32
  refine (congrArg (fun a : EReal => a + _) h0).trans ?_
  rw [zero_add, Finset.sum_range]
  refine Finset.sum_congr rfl fun k _ => ?_
  rw [el2_of (α := EReal) x r.isLt k.isLt, el3_of (α := EReal) w hn k.isLt j.isLt]
  congr 1
  pointwise

/-- A row of the block of the low-rank values. -/
theorem tBlk_apply (x0 : Vec Ideal S48x1 .i32) (x1 : Vec Ideal S48x1 .f32) (x : FVec Ideal S48x17920 .bf16) (w : FVec Ideal S7x17920x16 .bf16) (r : Fin 48) (j : Fin 16) :
    tBlk (F := Ideal) x0 x1 x w (ix2 r j)
      = down 17920 (x0 (ix2 r 0)) (x1 (ix2 r 0)) (el2 (α := EReal) x r.val) (fun n d => el3 (α := EReal) w n d j.val) := by
  have h : ∀ n (hn : n < 7), _ := fun n hn => tPart_apply x w n hn r j
  unfold tBlk k1_pay12 k1_pay11 down
  pointwise
  rw [h 0 (by omega), h 1 (by omega), h 2 (by omega), h 3 (by omega), h 4 (by omega), h 5 (by omega), h 6 (by omega), sum7]
  simp only [select_eq, sel]

end Cert.KernelIdeal.Val.D

end
-- ==== Proof.V.UpG.lean ====
/- The `h` block over the extended reals: the gating of the two halves, each the int4 product plus the low-rank correction. -/
module

public import proofs.«01_k».proof.Proof.V.SumG

@[expose] public section

set_option maxRecDepth 16384

noncomputable section

namespace Cert.KernelIdeal.Val

open Cert.KernelIdeal Cert.KernelIdeal.Gen
open Idealize.ShloMosaic

theorem bCat_apply (b : Vec Ideal S7x2x16x256 .bf16) (p : ℕ) (hp : p < 2) (q : Fin 112) (j : Fin 256) :
    bCat (F := Ideal) b p hp (ix2 q j) = el4 (α := EReal) b (q.val / 16) p (q.val % 16) j.val := by
  have e : bCat (F := Ideal) b p hp = concatenate S112x256 0 (List.ofFn fun n : Fin 7 => (⟨S16x256, bRow (F := Ideal) b p hp n.val n.isLt⟩ : (s : Shape) × (s.Idx → EReal)))
      concatenates_S16x256_S16x256_S16x256_S16x256_S16x256_S16x256_S16x256_S112x256_d0 := rfl
  rw [e]
  refine (concatenate_ofFn_apply (0 : Fin S112x256.rank) (fun n : Fin 7 => bRow (F := Ideal) b p hp n.val n.isLt) _ rfl 16 rfl (ix2 q j) ⟨q.val / 16, by omega⟩ rfl
    (ix2 ⟨q.val % 16, by omega⟩ j) rfl (fun a ha => ?_)).trans ?_
  · match a with
    | ⟨0, _⟩ => exact absurd rfl ha
    | ⟨1, _⟩ => rfl
  · rw [el4_of (α := EReal) b (by omega) hp (by omega) j.isLt]
    unfold bRow
    pointwise

/-- The low-rank part of a row: the sum over its adapter's ranks. -/
theorem gLora_apply (x0 : Vec Ideal S48x1 .i32) (S : FVec Ideal S48x32 .bf16) (b : Vec Ideal S7x2x16x256 .bf16) (p : ℕ) (hp : p < 2) (r : Fin 48) (j : Fin 256) :
    gLora (F := Ideal) (mBlk x0 S) b p hp (ix2 r j)
      = up (x0 (ix2 r 0)) (fun ρ => el2 (α := EReal) S r.val (16 * p + ρ)) (fun n ρ => el4 (α := EReal) b n p ρ j.val) := by
  unfold gLora
  refine (Ideal.matmul_plain_apply none _ _ _ r j).trans ?_
  have h0 : (constant (F := Ideal) S48x256 .f32 0x00000000#32 (ix2 r j) : EReal) = 0 := Ideal.ofBits_zero_f32
  refine (congrArg (fun a : EReal => a + _) h0).trans ?_
  rw [zero_add]
  unfold up
  rw [← sum_runs 7 16 (by omega) (fun n ρ => sel (x0 (ix2 r 0)) n (el2 (α := EReal) S r.val (16 * p + ρ)) * el4 (α := EReal) b n p ρ j.val), Finset.sum_range]
  refine Finset.sum_congr rfl fun q _ => ?_
  refine (congrArg (fun a : EReal => _ * a) (bCat_apply b p hp q j)).trans ?_
  refine congrArg (fun a : EReal => a * _) ?_
  have e : shapeCast S48x112 (extractStridedSlice S1x48x112 ![p, 0, 0] (mBlk (F := Ideal) x0 S) (inb3 hp)) shapeCasts_S1x48x112_S48x112 (ix2 r q)
      = mBlk (F := Ideal) x0 S (ix3 ⟨p, hp⟩ r q) := by
    generalize mBlk (F := Ideal) x0 S = M
    pointwise
  refine e.trans ?_
  rw [el2_of (α := EReal) S r.isLt (by omega)]
  unfold mBlk
  refine (select_eq _ _ _ _).trans ?_
  have h0 : (Scalar.ofBits (F := Ideal) .bf16 0x0000#16 : EReal) = 0 := Ideal.ofBits_zero_bf16
  unfold sel
  rw [h0]
  rfl

/-- A row of the block. -/
theorem hBlk_apply (x0 : Vec Ideal S48x1 .i32) (S : FVec Ideal S48x32 .bf16) (x : FVec Ideal S48x5120 .bf16) (cg cu : Vec Ideal S2560x256 .i8)
    (sg su : FVec Ideal S40x256 .bf16) (b : Vec Ideal S7x2x16x256 .bf16) (r : Fin 48) (j : Fin 256) :
    hBlk (F := Ideal) x cg cu sg su (mBlk x0 S) b (ix2 r j)
      = gated (prod 2560 20 (el2 (α := EReal) x r.val) (fun d => el2 (α := BitVec 8) cg d j.val) (fun g => el2 (α := EReal) sg g j.val)
          + up (x0 (ix2 r 0)) (fun ρ => el2 (α := EReal) S r.val (16 * 0 + ρ)) (fun n ρ => el4 (α := EReal) b n 0 ρ j.val))
        (prod 2560 20 (el2 (α := EReal) x r.val) (fun d => el2 (α := BitVec 8) cu d j.val) (fun g => el2 (α := EReal) su g j.val)
          + up (x0 (ix2 r 0)) (fun ρ => el2 (α := EReal) S r.val (16 * 1 + ρ)) (fun n ρ => el4 (α := EReal) b n 1 ρ j.val)) := by
  rw [← gLora_apply x0 S b 0 (by omega) r j, ← gLora_apply x0 S b 1 (by omega) r j, ← gAcc_apply x cg sg r j, ← gAcc_apply x cu su r j]
  rfl

end Cert.KernelIdeal.Val

end
-- ==== Proof.V.UpD.lean ====
/- The block of the result over the extended reals: the int4 product plus the low-rank correction. -/
module

public import proofs.«01_k».proof.Proof.V.SumD

@[expose] public section

set_option maxRecDepth 16384

noncomputable section

namespace Cert.KernelIdeal.Val.D

open Cert.KernelIdeal Cert.KernelIdeal.Gen
open Idealize.ShloMosaic

theorem bCat_apply (b : Vec Ideal S7x16x256 .bf16) (q : Fin 112) (j : Fin 256) :
    bCat (F := Ideal) b (ix2 q j) = el3 (α := EReal) b (q.val / 16) (q.val % 16) j.val := by
  have e : bCat (F := Ideal) b = concatenate S112x256 0 (List.ofFn fun n : Fin 7 => (⟨S16x256, bRow (F := Ideal) b n.val n.isLt⟩ : (s : Shape) × (s.Idx → EReal)))
      concatenates_S16x256_S16x256_S16x256_S16x256_S16x256_S16x256_S16x256_S112x256_d0 := rfl
  rw [e]
  refine (concatenate_ofFn_apply (0 : Fin S112x256.rank) (fun n : Fin 7 => bRow (F := Ideal) b n.val n.isLt) _ rfl 16 rfl (ix2 q j) ⟨q.val / 16, by omega⟩ rfl
    (ix2 ⟨q.val % 16, by omega⟩ j) rfl (fun a ha => ?_)).trans ?_
  · match a with
    | ⟨0, _⟩ => exact absurd rfl ha
    | ⟨1, _⟩ => rfl
  · rw [el3_of (α := EReal) b (by omega) (by omega) j.isLt]
    unfold bRow
    pointwise

/-- The low-rank part of a row: the sum over its adapter's ranks. -/
theorem lora_apply (x0 : Vec Ideal S48x1 .i32) (S : FVec Ideal S48x16 .bf16) (b : Vec Ideal S7x16x256 .bf16) (r : Fin 48) (j : Fin 256) :
    matmul (F := Ideal) (φ₁ := .bf16) (φ₂ := .bf16) dot_S48x112_S112x256_S48x256_1_0_0_1_n_n none (mBlk x0 S) (bCat b) (constant S48x256 .f32 0x00000000#32) (ix2 r j)
      = up (x0 (ix2 r 0)) (fun ρ => el2 (α := EReal) S r.val ρ) (fun n ρ => el3 (α := EReal) b n ρ j.val) := by
  skip
  refine (Ideal.matmul_plain_apply none _ _ _ r j).trans ?_
  have h0 : (constant (F := Ideal) S48x256 .f32 0x00000000#32 (ix2 r j) : EReal) = 0 := Ideal.ofBits_zero_f32
  refine (congrArg (fun a : EReal => a + _) h0).trans ?_
  rw [zero_add]
  unfold up
  rw [← sum_runs 7 16 (by omega) (fun n ρ => sel (x0 (ix2 r 0)) n (el2 (α := EReal) S r.val ρ) * el3 (α := EReal) b n ρ j.val), Finset.sum_range]
  refine Finset.sum_congr rfl fun q _ => ?_
  refine (congrArg (fun a : EReal => _ * a) (bCat_apply b q j)).trans ?_
  refine congrArg (fun a : EReal => a * _) ?_
  rw [el2_of (α := EReal) S r.isLt (by omega)]
  unfold mBlk
  refine (select_eq _ _ _ _).trans ?_
  have h0 : (Scalar.ofBits (F := Ideal) .bf16 0x0000#16 : EReal) = 0 := Ideal.ofBits_zero_bf16
  unfold sel
  rw [h0]

/-- A row of the block. -/
theorem oBlk_apply (x0 : Vec Ideal S48x1 .i32) (S : FVec Ideal S48x16 .bf16) (x : FVec Ideal S48x17920 .bf16) (c : Vec Ideal S8960x256 .i8)
    (s : FVec Ideal S140x256 .bf16) (b : Vec Ideal S7x16x256 .bf16) (r : Fin 48) (j : Fin 256) :
    oBlk (F := Ideal) x c s (mBlk x0 S) b (ix2 r j)
      = prod 8960 70 (el2 (α := EReal) x r.val) (fun d => el2 (α := BitVec 8) c d j.val) (fun g => el2 (α := EReal) s g j.val)
          + up (x0 (ix2 r 0)) (fun ρ => el2 (α := EReal) S r.val ρ) (fun n ρ => el3 (α := EReal) b n ρ j.val) := by
  rw [← lora_apply x0 S b r j, ← gAcc_apply x c s r j]
  rfl

end Cert.KernelIdeal.Val.D

end
-- ==== Proof.V.Ref0.lean ====
/- The reference's values over the extended reals: the unpacked weights and the two int4 products. -/
module

public import proofs.«01_k».proof.Proof.V.Spec
public import proofs.«01_k».proof.Proof.Gen.HostIdeal.Read

@[expose] public section

set_option maxRecDepth 16384

noncomputable section

namespace Cert.HostIdeal.Val

open Cert.HostIdeal Cert.HostIdeal.Gen Cert.HostIdeal.Read
open Idealize.ShloMosaic
open Cert.KernelIdeal.Val (el2 el3 el4 el2_of el3_of el4_of nibLo nibHi prod down up gated sel select_eq at2 at3 at4)

theorem low_nibble : ∀ b : BitVec 8, (Scalar.select (IntOp.cmpi .sge (IntOp.andi (b.setWidth 32) 15#32) 8#32)
    (IntOp.subi (IntOp.andi (b.setWidth 32) 15#32) 16#32) (IntOp.andi (b.setWidth 32) 15#32)).toInt = nibLo b := by decide
theorem high_nibble : ∀ b : BitVec 8, (Scalar.select (IntOp.cmpi .sge (IntOp.shrsi .host (b.setWidth 32) 4#32) 8#32)
    (IntOp.subi (IntOp.shrsi .host (b.setWidth 32) 4#32) 16#32) (IntOp.shrsi .host (b.setWidth 32) 4#32)).toInt = nibHi b := by decide

theorem v19_at (x2 : Vec Ideal S2560x35840 .i8) (i : S2560x35840.Idx) : val_main_v19 (F := Ideal) x2 i = (((nibLo (x2 i) : ℤ) : ℝ) : EReal) := by
  rw [← low_nibble]
  rfl
theorem v25_at (x2 : Vec Ideal S2560x35840 .i8) (i : S2560x35840.Idx) : val_main_v25 (F := Ideal) x2 i = (((nibHi (x2 i) : ℤ) : ℝ) : EReal) := by
  rw [← high_nibble]
  rfl

/-- A product of a row with a column, over the extended reals, on the reference's indices. -/
theorem v31_at (x2 : Vec Ideal S2560x35840 .i8) (x3 : Vec Ideal S40x35840 .bf16) (d : Fin 2560) (c : Fin 35840) :
    val_main_v31 (F := Ideal) x2 x3 (ix2 d c) = (((nibLo (x2 (ix2 d c)) : ℤ) : ℝ) : EReal) * x3 (ix2 ⟨d.val / 128, by omega⟩ c) := by
  rw [← v19_at]
  unfold val_main_v31 val_main_v30 val_main_v29 val_main_v28 val_main_v27 val_main_v26
  generalize val_main_v19 (F := Ideal) x2 = W
  pointwise
theorem v37_at (x2 : Vec Ideal S2560x35840 .i8) (x3 : Vec Ideal S40x35840 .bf16) (d : Fin 2560) (c : Fin 35840) :
    val_main_v37 (F := Ideal) x2 x3 (ix2 d c) = (((nibHi (x2 (ix2 d c)) : ℤ) : ℝ) : EReal) * x3 (ix2 ⟨20 + d.val / 128, by omega⟩ c) := by
  rw [← v25_at]
  unfold val_main_v37 val_main_v36 val_main_v35 val_main_v34 val_main_v33 val_main_v32
  generalize val_main_v25 (F := Ideal) x2 = W
  pointwise
theorem v38_at (x0 : Vec Ideal S36x1x5120 .bf16) (r : Fin 36) (d : Fin 2560) :
    val_main_v38 (F := Ideal) x0 (ix2 r d) = x0 (ix3 r 0 ⟨d.val, by omega⟩) := by
  unfold val_main_v38 val_main_v0
  pointwise
theorem v40_at (x0 : Vec Ideal S36x1x5120 .bf16) (r : Fin 36) (d : Fin 2560) :
    val_main_v40 (F := Ideal) x0 (ix2 r d) = x0 (ix3 r 0 ⟨2560 + d.val, by omega⟩) := by
  unfold val_main_v40 val_main_v0
  pointwise

/-- The first product at a row and a column. -/
theorem v42_at (x0 : Vec Ideal S36x1x5120 .bf16) (x2 : Vec Ideal S2560x35840 .i8) (x3 : Vec Ideal S40x35840 .bf16) (r : Fin 36) (c : Fin 35840) :
    val_main_v42 (F := Ideal) x0 x2 x3 (ix2 r c) = prod 2560 20 (fun d => el3 (α := EReal) x0 r.val 0 d) (fun d => el2 (α := BitVec 8) x2 d c.val)
      (fun g => el2 (α := EReal) x3 g c.val) := by
  rw [val_main_v42_apply, val_main_v39_apply, val_main_v41_apply]
  unfold prod
  rw [Finset.sum_range, Finset.sum_range]
  refine congrArg₂ (fun a b : EReal => a + b) (Finset.sum_congr rfl fun k _ => ?_) (Finset.sum_congr rfl fun k _ => ?_)
  · rw [show lidx_main_v39 (ix2 r c) k = ix2 r k from funext fun a => match a with | ⟨0, _⟩ => rfl | ⟨1, _⟩ => rfl,
      show ridx_main_v39 (ix2 r c) k = ix2 k c from funext fun a => match a with | ⟨0, _⟩ => rfl | ⟨1, _⟩ => rfl, v38_at, v31_at]
    beta_reduce
    rw [el3_of (α := EReal) x0 r.isLt Nat.one_pos (by have := k.isLt; omega), el2_of (α := BitVec 8) x2 k.isLt c.isLt, el2_of (α := EReal) x3 (by omega) c.isLt]
    rfl
  · rw [show lidx_main_v41 (ix2 r c) k = ix2 r k from funext fun a => match a with | ⟨0, _⟩ => rfl | ⟨1, _⟩ => rfl,
      show ridx_main_v41 (ix2 r c) k = ix2 k c from funext fun a => match a with | ⟨0, _⟩ => rfl | ⟨1, _⟩ => rfl, v40_at, v37_at]
    beta_reduce
    rw [el3_of (α := EReal) x0 r.isLt Nat.one_pos (by have := k.isLt; omega), el2_of (α := BitVec 8) x2 k.isLt c.isLt, el2_of (α := EReal) x3 (by omega) c.isLt]
    rfl

/-- The adapters' indicator. -/
theorem v1_at (x1 : Vec Ideal S36 .i32) (r : Fin 36) (n : Fin 7) (v : EReal) :
    (val_main_v1 (F := Ideal) x1 (ix2 r n) : EReal) * v = sel (x1 (ix1 r)) n.val v := by
  have e : val_main_v1 (F := Ideal) x1 (ix2 r n) = ((((IntOp.cmpi .eq (x1 (ix1 r)) (BitVec.ofNat 32 n.val)).toNat : ℕ) : ℝ) : EReal) := by
    unfold val_main_v1 val_main_call0_v4 val_main_call0_v3 val_main_call0_v2 val_main_call0_v1 val_main_call0_v0
    pointwise
    rfl
  rw [e]
  unfold sel IntOp.cmpi
  by_cases h : x1 (ix1 r) = BitVec.ofNat 32 n.val
  · rw [if_pos h, h]; simp
  · have e : (x1 (ix1 r) == BitVec.ofNat 32 n.val) = false := by simpa using h
    rw [if_neg h, e]; simp

/-- `s` at a row and a rank. -/
theorem v48_at (x0 : Vec Ideal S36x1x5120 .bf16) (x1 : Vec Ideal S36 .i32) (x6 : Vec Ideal S7x5120x32 .bf16) (x10 : Vec Ideal S7 .f32) (r : Fin 36) (j : Fin 32) :
    val_main_v48 (F := Ideal) x0 x1 x6 x10 (ix2 r j) = down 5120 (x1 (ix1 r)) (val_main_v8 (F := Ideal) x1 x10 (ix1 r))
      (fun d => el3 (α := EReal) x0 r.val 0 d) (fun n d => el3 (α := EReal) x6 n d j.val) := by
  have e : val_main_v48 (F := Ideal) x0 x1 x6 x10 (ix2 r j) = (val_main_v44 (F := Ideal) x0 x1 x6 (ix2 r j) : EReal) * val_main_v8 (F := Ideal) x1 x10 (ix1 r) := by
    unfold val_main_v48 val_main_v47 val_main_v46 val_main_v45
    generalize val_main_v44 (F := Ideal) x0 x1 x6 = A
    generalize val_main_v8 (F := Ideal) x1 x10 = B
    pointwise
  rw [e]
  unfold down
  refine congrArg (fun a : EReal => a * _) ?_
  rw [val_main_v44_apply, Finset.sum_range]
  refine Finset.sum_congr rfl fun n _ => ?_
  rw [show lidx_main_v44 (ix2 r j) n = ix2 r n from funext fun a => match a with | ⟨0, _⟩ => rfl | ⟨1, _⟩ => rfl,
    show ridx_main_v44 (ix2 r j) n = ix3 r n j from funext fun a => match a with | ⟨0, _⟩ => rfl | ⟨1, _⟩ => rfl | ⟨2, _⟩ => rfl, v1_at,
    val_main_v43_apply, Finset.sum_range]
  refine congrArg (sel _ _) (Finset.sum_congr rfl fun k _ => ?_)
  beta_reduce
  rw [el3_of (α := EReal) x0 r.isLt Nat.one_pos k.isLt, el3_of (α := EReal) x6 n.isLt k.isLt j.isLt,
    show ridx_main_v43 (ix3 r n j) k = ix3 n k j from funext fun a => match a with | ⟨0, _⟩ => rfl | ⟨1, _⟩ => rfl | ⟨2, _⟩ => rfl,
    show lidx_main_v43 (ix3 r n j) k = ix2 r k from funext fun a => match a with | ⟨0, _⟩ => rfl | ⟨1, _⟩ => rfl]
  refine congrArg (fun a : EReal => a * _) ?_
  unfold val_main_v0
  pointwise

end Cert.HostIdeal.Val

end
-- ==== Proof.V.Ref1.lean ====
/- The reference's values over the extended reals: the low-rank correction of the first product and `h`. -/
module

public import proofs.«01_k».proof.Proof.V.Ref0
public import Idealize.ShloMosaic.Lib.TwoAxisContraction

@[expose] public section

set_option maxRecDepth 16384

noncomputable section

namespace Cert.HostIdeal.Val

open Cert.HostIdeal Cert.HostIdeal.Gen Cert.HostIdeal.Read
open Idealize.ShloMosaic
open Cert.KernelIdeal.Val (el2 el3 el4 el2_of el3_of el4_of nibLo nibHi prod down up gated sel select_eq at2 at3 at4)

theorem v54_at (x0 : Vec Ideal S36x1x5120 .bf16) (x1 : Vec Ideal S36 .i32) (x6 : Vec Ideal S7x5120x32 .bf16) (x10 : Vec Ideal S7 .f32)
    (r : Fin 36) (n : Fin 7) (p : Fin 2) (ρ : Fin 16) :
    val_main_v54 (F := Ideal) x0 x1 x6 x10 (ix4 r n p ρ) = sel (x1 (ix1 r)) n.val (el2 (α := EReal) (val_main_v48 (F := Ideal) x0 x1 x6 x10) r.val (p.val * 16 + ρ.val)) := by
  rw [← v1_at, el2_of (α := EReal) _ r.isLt (by omega)]
  unfold val_main_v54 val_main_v53 val_main_v52 val_main_v51 val_main_v50 val_main_v49
  generalize val_main_v1 (F := Ideal) x1 = A
  generalize val_main_v48 (F := Ideal) x0 x1 x6 x10 = B
  pointwise

/-- The low-rank correction of the first product. -/
theorem v55_at (x0 : Vec Ideal S36x1x5120 .bf16) (x1 : Vec Ideal S36 .i32) (x6 : Vec Ideal S7x5120x32 .bf16) (x7 : Vec Ideal S7x2x16x17920 .bf16)
    (x10 : Vec Ideal S7 .f32) (r : Fin 36) (p : Fin 2) (f : Fin 17920) :
    val_main_v55 (F := Ideal) x0 x1 x6 x7 x10 (ix3 p f r) = up (x1 (ix1 r))
      (fun ρ => el2 (α := EReal) (val_main_v48 (F := Ideal) x0 x1 x6 x10) r.val (p.val * 16 + ρ)) (fun n ρ => el4 (α := EReal) x7 n p.val ρ f.val) := by
  have hv := v54_at x0 x1 x6 x10 r
  unfold val_main_v55
  generalize val_main_v54 (F := Ideal) x0 x1 x6 x10 = y at *
  simp only [Host.dotGeneral]
  rw [Ideal.dotGeneral_apply, ← Equiv.sum_comp (ValueIdx.contrEquiv2 dot_S7x2x16x17920_S36x7x2x16_S2x17920x36_02_13_3_0_1_2 7 16 rfl rfl rfl).symm, Fintype.sum_prod_type]
  unfold up
  rw [Finset.sum_range]
  refine Finset.sum_congr rfl fun n _ => ?_
  rw [Finset.sum_range]
  refine Finset.sum_congr rfl fun ρ _ => ?_
  have h0 := ValueIdx.contrEquiv2_symm_val0 dot_S7x2x16x17920_S36x7x2x16_S2x17920x36_02_13_3_0_1_2 7 16 rfl rfl rfl (n, ρ)
  have h1 := ValueIdx.contrEquiv2_symm_val1 dot_S7x2x16x17920_S36x7x2x16_S2x17920x36_02_13_3_0_1_2 7 16 rfl rfl rfl (n, ρ)
  have el : dot_S7x2x16x17920_S36x7x2x16_S2x17920x36_02_13_3_0_1_2.lhsIdx (ix3 p f r) ((ValueIdx.contrEquiv2 dot_S7x2x16x17920_S36x7x2x16_S2x17920x36_02_13_3_0_1_2 7 16 rfl rfl rfl).symm (n, ρ)) = ix4 n p ρ f := by
    funext a; apply Fin.ext
    match a with
    | ⟨0, _⟩ => exact h0
    | ⟨1, _⟩ => rfl
    | ⟨2, _⟩ => exact h1
    | ⟨3, _⟩ => rfl
  have er : dot_S7x2x16x17920_S36x7x2x16_S2x17920x36_02_13_3_0_1_2.rhsIdx (ix3 p f r) ((ValueIdx.contrEquiv2 dot_S7x2x16x17920_S36x7x2x16_S2x17920x36_02_13_3_0_1_2 7 16 rfl rfl rfl).symm (n, ρ)) = ix4 r n p ρ := by
    funext a; apply Fin.ext
    match a with
    | ⟨0, _⟩ => rfl
    | ⟨1, _⟩ => exact h0
    | ⟨2, _⟩ => rfl
    | ⟨3, _⟩ => exact h1
  rw [el, er, hv, mul_comm]
  beta_reduce
  rw [el4_of (α := EReal) x7 n.isLt p.isLt ρ.isLt f.isLt]

/-- One half of the product before the gating. -/
theorem v58_at (x0 : Vec Ideal S36x1x5120 .bf16) (x1 : Vec Ideal S36 .i32) (x2 : Vec Ideal S2560x35840 .i8) (x3 : Vec Ideal S40x35840 .bf16)
    (x6 : Vec Ideal S7x5120x32 .bf16) (x7 : Vec Ideal S7x2x16x17920 .bf16) (x10 : Vec Ideal S7 .f32) (r : Fin 36) (p : Fin 2) (f : Fin 17920) :
    val_main_v58 (F := Ideal) x0 x1 x2 x3 x6 x7 x10 (ix3 r p f)
      = prod 2560 20 (fun d => el3 (α := EReal) x0 r.val 0 d) (fun d => el2 (α := BitVec 8) x2 d (p.val * 17920 + f.val))
          (fun g => el2 (α := EReal) x3 g (p.val * 17920 + f.val))
        + up (x1 (ix1 r)) (fun ρ => el2 (α := EReal) (val_main_v48 (F := Ideal) x0 x1 x6 x10) r.val (p.val * 16 + ρ))
          (fun n ρ => el4 (α := EReal) x7 n p.val ρ f.val) := by
  rw [← v55_at, ← v42_at x0 x2 x3 r ⟨p.val * 17920 + f.val, by omega⟩]
  unfold val_main_v58 val_main_v57 val_main_v56
  generalize val_main_v55 (F := Ideal) x0 x1 x6 x7 x10 = A
  generalize val_main_v42 (F := Ideal) x0 x2 x3 = B
  pointwise

/-- `h` at a row and a column. -/
theorem v71_at (x0 : Vec Ideal S36x1x5120 .bf16) (x1 : Vec Ideal S36 .i32) (x2 : Vec Ideal S2560x35840 .i8) (x3 : Vec Ideal S40x35840 .bf16)
    (x6 : Vec Ideal S7x5120x32 .bf16) (x7 : Vec Ideal S7x2x16x17920 .bf16) (x10 : Vec Ideal S7 .f32) (r : Fin 36) (f : Fin 17920) :
    val_main_v71 (F := Ideal) x0 x1 x2 x3 x6 x7 x10 (ix2 r f)
      = gated (val_main_v58 (F := Ideal) x0 x1 x2 x3 x6 x7 x10 (ix3 r 0 f)) (val_main_v58 (F := Ideal) x0 x1 x2 x3 x6 x7 x10 (ix3 r 1 f)) := by
  have e0 : val_main_v60 (F := Ideal) x0 x1 x2 x3 x6 x7 x10 (ix2 r f) = val_main_v58 (F := Ideal) x0 x1 x2 x3 x6 x7 x10 (ix3 r 0 f) := by
    unfold val_main_v60 val_main_v59
    generalize val_main_v58 (F := Ideal) x0 x1 x2 x3 x6 x7 x10 = B
    pointwise
  have e1 : val_main_v62 (F := Ideal) x0 x1 x2 x3 x6 x7 x10 (ix2 r f) = val_main_v58 (F := Ideal) x0 x1 x2 x3 x6 x7 x10 (ix3 r 1 f) := by
    unfold val_main_v62 val_main_v61
    generalize val_main_v58 (F := Ideal) x0 x1 x2 x3 x6 x7 x10 = B
    pointwise
  have o : ∀ b : S36x17920.Idx, (val_main_v65 (F := Ideal) b : EReal) = 1 := fun b => Ideal.ofBits_one_f32
  have o' : ∀ b : S36x17920.Idx, (val_main_v67 (F := Ideal) b : EReal) = 1 := fun b => Ideal.ofBits_one_f32
  rw [← e0, ← e1]
  rw [val_main_v71_apply, val_main_v70_apply, val_main_v69_apply, val_main_v68_apply, val_main_v66_apply, val_main_v64_apply, val_main_v63_apply, o, o']
  rfl

end Cert.HostIdeal.Val

end
-- ==== Proof.V.Ref2.lean ====
/- The reference's values over the extended reals: the second product, `t`, its correction and the output. -/
module

public import proofs.«01_k».proof.Proof.V.Ref1

@[expose] public section

set_option maxRecDepth 16384

noncomputable section

namespace Cert.HostIdeal.Val

open Cert.HostIdeal Cert.HostIdeal.Gen Cert.HostIdeal.Read
open Idealize.ShloMosaic
open Cert.KernelIdeal.Val (el2 el3 el4 el2_of el3_of el4_of nibLo nibHi prod down up gated sel select_eq at2 at3 at4)

variable (x0 : Vec Ideal S36x1x5120 .bf16) (x1 : Vec Ideal S36 .i32) (x2 : Vec Ideal S2560x35840 .i8) (x3 : Vec Ideal S40x35840 .bf16)
  (x4 : Vec Ideal S8960x5120 .i8) (x5 : Vec Ideal S140x5120 .bf16) (x6 : Vec Ideal S7x5120x32 .bf16) (x7 : Vec Ideal S7x2x16x17920 .bf16)
  (x8 : Vec Ideal S7x17920x16 .bf16) (x9 : Vec Ideal S7x16x5120 .bf16) (x10 : Vec Ideal S7 .f32)

theorem v82_at (i : S8960x5120.Idx) : val_main_v82 (F := Ideal) x4 i = (((nibLo (x4 i) : ℤ) : ℝ) : EReal) := by
  rw [← low_nibble]
  rfl
theorem v88_at (i : S8960x5120.Idx) : val_main_v88 (F := Ideal) x4 i = (((nibHi (x4 i) : ℤ) : ℝ) : EReal) := by
  rw [← high_nibble]
  rfl

theorem v94_at (d : Fin 8960) (c : Fin 5120) :
    val_main_v94 (F := Ideal) x4 x5 (ix2 d c) = (((nibLo (x4 (ix2 d c)) : ℤ) : ℝ) : EReal) * x5 (ix2 ⟨d.val / 128, by omega⟩ c) := by
  rw [← v82_at]
  unfold val_main_v94 val_main_v93 val_main_v92 val_main_v91 val_main_v90 val_main_v89
  generalize val_main_v82 (F := Ideal) x4 = W
  pointwise
theorem v100_at (d : Fin 8960) (c : Fin 5120) :
    val_main_v100 (F := Ideal) x4 x5 (ix2 d c) = (((nibHi (x4 (ix2 d c)) : ℤ) : ℝ) : EReal) * x5 (ix2 ⟨70 + d.val / 128, by omega⟩ c) := by
  rw [← v88_at]
  unfold val_main_v100 val_main_v99 val_main_v98 val_main_v97 val_main_v96 val_main_v95
  generalize val_main_v88 (F := Ideal) x4 = W
  pointwise
theorem v101_at (r : Fin 36) (d : Fin 8960) :
    val_main_v101 (F := Ideal) x0 x1 x2 x3 x6 x7 x10 (ix2 r d) = val_main_v71 (F := Ideal) x0 x1 x2 x3 x6 x7 x10 (ix2 r ⟨d.val, by omega⟩) := by
  unfold val_main_v101
  generalize val_main_v71 (F := Ideal) x0 x1 x2 x3 x6 x7 x10 = W
  pointwise
theorem v103_at (r : Fin 36) (d : Fin 8960) :
    val_main_v103 (F := Ideal) x0 x1 x2 x3 x6 x7 x10 (ix2 r d) = val_main_v71 (F := Ideal) x0 x1 x2 x3 x6 x7 x10 (ix2 r ⟨8960 + d.val, by omega⟩) := by
  unfold val_main_v103
  generalize val_main_v71 (F := Ideal) x0 x1 x2 x3 x6 x7 x10 = W
  pointwise

/-- The second product at a row and a column. -/
theorem v105_at (r : Fin 36) (c : Fin 5120) :
    val_main_v105 (F := Ideal) x0 x1 x2 x3 x4 x5 x6 x7 x10 (ix2 r c)
      = prod 8960 70 (el2 (α := EReal) (val_main_v71 (F := Ideal) x0 x1 x2 x3 x6 x7 x10) r.val) (fun d => el2 (α := BitVec 8) x4 d c.val) (fun g => el2 (α := EReal) x5 g c.val) := by
  rw [val_main_v105_apply, val_main_v102_apply, val_main_v104_apply]
  unfold prod
  rw [Finset.sum_range, Finset.sum_range]
  refine congrArg₂ (fun a b : EReal => a + b) (Finset.sum_congr rfl fun k _ => ?_) (Finset.sum_congr rfl fun k _ => ?_)
  · rw [show lidx_main_v102 (ix2 r c) k = ix2 r k from funext fun a => match a with | ⟨0, _⟩ => rfl | ⟨1, _⟩ => rfl,
      show ridx_main_v102 (ix2 r c) k = ix2 k c from funext fun a => match a with | ⟨0, _⟩ => rfl | ⟨1, _⟩ => rfl, v101_at, v94_at]
    beta_reduce
    rw [el2_of (α := EReal) _ r.isLt (by have := k.isLt; omega), el2_of (α := BitVec 8) x4 k.isLt c.isLt, el2_of (α := EReal) x5 (by omega) c.isLt]
  · rw [show lidx_main_v104 (ix2 r c) k = ix2 r k from funext fun a => match a with | ⟨0, _⟩ => rfl | ⟨1, _⟩ => rfl,
      show ridx_main_v104 (ix2 r c) k = ix2 k c from funext fun a => match a with | ⟨0, _⟩ => rfl | ⟨1, _⟩ => rfl, v103_at, v100_at]
    beta_reduce
    rw [el2_of (α := EReal) _ r.isLt (by have := k.isLt; omega), el2_of (α := BitVec 8) x4 k.isLt c.isLt, el2_of (α := EReal) x5 (by omega) c.isLt]

theorem times_congr {a b c : EReal} (h : a = b) : a * c = b * c := by rw [h]

/-- `t` at a row and a rank. -/
theorem v111_at (r : Fin 36) (j : Fin 16) :
    val_main_v111 (F := Ideal) x0 x1 x2 x3 x6 x7 x8 x10 (ix2 r j) = down 17920 (x1 (ix1 r)) (val_main_v8 (F := Ideal) x1 x10 (ix1 r))
      (el2 (α := EReal) (val_main_v71 (F := Ideal) x0 x1 x2 x3 x6 x7 x10) r.val) (fun n d => el3 (α := EReal) x8 n d j.val) := by
  have e : val_main_v111 (F := Ideal) x0 x1 x2 x3 x6 x7 x8 x10 (ix2 r j) = (val_main_v107 (F := Ideal) x0 x1 x2 x3 x6 x7 x8 x10 (ix2 r j) : EReal) * val_main_v8 (F := Ideal) x1 x10 (ix1 r) := by
    unfold val_main_v111 val_main_v110 val_main_v109 val_main_v108
    generalize val_main_v107 (F := Ideal) x0 x1 x2 x3 x6 x7 x8 x10 = A
    generalize val_main_v8 (F := Ideal) x1 x10 = B
    pointwise
  rw [e]
  unfold down
  refine times_congr ?_
  rw [val_main_v107_apply, Finset.sum_range]
  refine Finset.sum_congr rfl fun n _ => ?_
  rw [show lidx_main_v107 (ix2 r j) n = ix2 r n from funext fun a => match a with | ⟨0, _⟩ => rfl | ⟨1, _⟩ => rfl,
    show ridx_main_v107 (ix2 r j) n = ix3 r n j from funext fun a => match a with | ⟨0, _⟩ => rfl | ⟨1, _⟩ => rfl | ⟨2, _⟩ => rfl, v1_at,
    val_main_v106_apply, Finset.sum_range]
  refine congrArg (sel _ _) (Finset.sum_congr rfl fun k _ => ?_)
  beta_reduce
  rw [el2_of (α := EReal) _ r.isLt k.isLt, el3_of (α := EReal) x8 n.isLt k.isLt j.isLt,
    show ridx_main_v106 (ix3 r n j) k = ix3 n k j from funext fun a => match a with | ⟨0, _⟩ => rfl | ⟨1, _⟩ => rfl | ⟨2, _⟩ => rfl,
    show lidx_main_v106 (ix3 r n j) k = ix2 r k from funext fun a => match a with | ⟨0, _⟩ => rfl | ⟨1, _⟩ => rfl]

theorem v117_at (r : Fin 36) (n : Fin 7) (ρ : Fin 16) :
    val_main_v117 (F := Ideal) x0 x1 x2 x3 x6 x7 x8 x10 (ix3 r n ρ) = sel (x1 (ix1 r)) n.val (el2 (α := EReal) (val_main_v111 (F := Ideal) x0 x1 x2 x3 x6 x7 x8 x10) r.val ρ.val) := by
  rw [← v1_at, el2_of (α := EReal) _ r.isLt ρ.isLt]
  unfold val_main_v117 val_main_v116 val_main_v115 val_main_v114 val_main_v113 val_main_v112
  generalize val_main_v1 (F := Ideal) x1 = A
  generalize val_main_v111 (F := Ideal) x0 x1 x2 x3 x6 x7 x8 x10 = B
  pointwise

/-- The low-rank correction of the second product. -/
theorem v118_at (r : Fin 36) (c : Fin 5120) :
    val_main_v118 (F := Ideal) x0 x1 x2 x3 x6 x7 x8 x9 x10 (ix2 r c) = up (x1 (ix1 r))
      (el2 (α := EReal) (val_main_v111 (F := Ideal) x0 x1 x2 x3 x6 x7 x8 x10) r.val) (fun n ρ => el3 (α := EReal) x9 n ρ c.val) := by
  have hv := v117_at x0 x1 x2 x3 x6 x7 x8 x10 r
  unfold val_main_v118
  generalize val_main_v117 (F := Ideal) x0 x1 x2 x3 x6 x7 x8 x10 = y at *
  simp only [Host.dotGeneral]
  rw [Ideal.dotGeneral_apply, ← Equiv.sum_comp (ValueIdx.contrEquiv2 dot_S36x7x16_S7x16x5120_S36x5120_12_01_0_2_n_n 7 16 rfl rfl rfl).symm, Fintype.sum_prod_type]
  unfold up
  rw [Finset.sum_range]
  refine Finset.sum_congr rfl fun n _ => ?_
  rw [Finset.sum_range]
  refine Finset.sum_congr rfl fun ρ _ => ?_
  have h0 := ValueIdx.contrEquiv2_symm_val0 dot_S36x7x16_S7x16x5120_S36x5120_12_01_0_2_n_n 7 16 rfl rfl rfl (n, ρ)
  have h1 := ValueIdx.contrEquiv2_symm_val1 dot_S36x7x16_S7x16x5120_S36x5120_12_01_0_2_n_n 7 16 rfl rfl rfl (n, ρ)
  have el : dot_S36x7x16_S7x16x5120_S36x5120_12_01_0_2_n_n.lhsIdx (ix2 r c) ((ValueIdx.contrEquiv2 dot_S36x7x16_S7x16x5120_S36x5120_12_01_0_2_n_n 7 16 rfl rfl rfl).symm (n, ρ)) = ix3 r n ρ := by
    funext a; apply Fin.ext
    match a with
    | ⟨0, _⟩ => rfl
    | ⟨1, _⟩ => exact h0
    | ⟨2, _⟩ => exact h1
  have er : dot_S36x7x16_S7x16x5120_S36x5120_12_01_0_2_n_n.rhsIdx (ix2 r c) ((ValueIdx.contrEquiv2 dot_S36x7x16_S7x16x5120_S36x5120_12_01_0_2_n_n 7 16 rfl rfl rfl).symm (n, ρ)) = ix3 n ρ c := by
    funext a; apply Fin.ext
    match a with
    | ⟨0, _⟩ => exact h0
    | ⟨1, _⟩ => exact h1
    | ⟨2, _⟩ => rfl
  rw [el, er, hv]
  beta_reduce
  rw [el3_of (α := EReal) x9 n.isLt ρ.isLt c.isLt]

/-- The output at a row and a column. -/
theorem v120_at (r : Fin 36) (c : Fin 5120) :
    val_main_v120 (F := Ideal) x0 x1 x2 x3 x4 x5 x6 x7 x8 x9 x10 (ix2 r c)
      = prod 8960 70 (el2 (α := EReal) (val_main_v71 (F := Ideal) x0 x1 x2 x3 x6 x7 x10) r.val) (fun d => el2 (α := BitVec 8) x4 d c.val) (fun g => el2 (α := EReal) x5 g c.val)
        + up (x1 (ix1 r)) (el2 (α := EReal) (val_main_v111 (F := Ideal) x0 x1 x2 x3 x6 x7 x8 x10) r.val) (fun n ρ => el3 (α := EReal) x9 n ρ c.val) := by
  rw [← v105_at, ← v118_at]
  rfl
theorem v121_at (r : Fin 36) (c : Fin 5120) :
    val_main_v121 (F := Ideal) x0 x1 x2 x3 x4 x5 x6 x7 x8 x9 x10 (ix3 r 0 c) = val_main_v120 (F := Ideal) x0 x1 x2 x3 x4 x5 x6 x7 x8 x9 x10 (ix2 r c) := by
  unfold val_main_v121
  generalize val_main_v120 (F := Ideal) x0 x1 x2 x3 x4 x5 x6 x7 x8 x9 x10 = W
  pointwise

end Cert.HostIdeal.Val

end
-- ==== Proof.V.Gather.lean ====
/- The adapter's scaling, looked up at an adapter's number: both programs take the same entry. -/
module

public import proofs.«01_k».proof.Proof.V.Ref0

@[expose] public section

set_option maxRecDepth 16384

noncomputable section

namespace Cert.KernelIdeal.Val

open Idealize.ShloMosaic

/-- An index counted from the end is made non-negative. -/
def wrap (b : BitVec 32) : BitVec 32 := Scalar.select (IntOp.cmpi .slt b 0#32) (IntOp.addi b 7#32) b
/-- The scaling of adapter `b`, the index clamped into the table. -/
def scaling (x : (⟨1, ![7]⟩ : Shape).Idx → EReal) (b : BitVec 32) : EReal :=
  x (ix1 ⟨min b.toInt.toNat 6, by omega⟩)

end Cert.KernelIdeal.Val

namespace Cert.HostIdeal.Val

open Cert.HostIdeal Cert.HostIdeal.Gen Cert.HostIdeal.Read
open Idealize.ShloMosaic
open Cert.KernelIdeal.Val (wrap scaling)

theorem v7_at (x1 : Vec Ideal S36 .i32) (r : Fin 36) : val_main_v7 (F := Ideal) x1 (ix2 r 0) = wrap (x1 (ix1 r)) := by
  unfold val_main_v7 val_main_v6 val_main_v5 val_main_v4 val_main_v3 val_main_v2
  pointwise
  rfl

theorem v8_at (x1 : Vec Ideal S36 .i32) (x10 : Vec Ideal S7 .f32) (r : Fin 36) :
    val_main_v8 (F := Ideal) x1 x10 (ix1 r) = scaling x10 (wrap (x1 (ix1 r))) := by
  rw [← v7_at]
  unfold scaling
  unfold val_main_v8
  generalize val_main_v7 (F := Ideal) x1 = idx
  unfold Host.gather
  congr 1
  funext a
  obtain rfl : a = 0 := Subsingleton.elim _ _
  refine Fin.ext ?_
  show gather_S7_S36x1_S36_n_0_n_n_0_1_1.start (ix1 r) idx 0 + gather_S7_S36x1_S36_n_0_n_n_0_1_1.batchCoord (ix1 r) 0 + gather_S7_S36x1_S36_n_0_n_n_0_1_1.offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S7_S36x1_S36_n_0_n_n_0_1_1.startIndexMap from List.mem_singleton.mpr rfl)]
  have hsi : gather_S7_S36x1_S36_n_0_n_n_0_1_1.siIdx (ix1 r) ⟨List.idxOf (0 : Fin 1) gather_S7_S36x1_S36_n_0_n_n_0_1_1.startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

end Cert.HostIdeal.Val

end
-- ==== Proof.V.Pow.lean ====
/- The power of two of a scale: the search through the bits of an exponent against the largest power below a value. -/
module

public import proofs.«01_k».proof.Proof.V.Spec

@[expose] public section

set_option maxRecDepth 16384

noncomputable section

namespace Cert.KernelIdeal.Val

open Idealize.ShloMosaic

/-- The value of the float whose exponent field is `n` and whose other bits are zero. -/
def pw (n : ℕ) : EReal := if n = 0 then 0 else if n < 255 then (((2 : ℝ) ^ ((n : ℤ) - 127) : ℝ) : EReal) else ⊤

theorem bits_pw : ∀ n : Fin 256, ((BitVec.ofNat 32 n.val <<< 23#32).extractLsb' (8 + 23) 1 == 1#1) = false
    ∧ ((BitVec.ofNat 32 n.val <<< 23#32).extractLsb' 23 8).toNat = n.val ∧ ((BitVec.ofNat 32 n.val <<< 23#32).extractLsb' 0 23).toNat = 0 := by
  decide

theorem ofBits_pw {n : ℕ} (h : n < 256) : Ideal.ofBits .f32 (BitVec.ofNat 32 n <<< 23#32) = pw n := by
  have h1 : ((BitVec.ofNat 32 n <<< 23#32).extractLsb' (8 + 23) 1 == 1#1) = false := (bits_pw ⟨n, h⟩).1
  have h2 : ((BitVec.ofNat 32 n <<< 23#32).extractLsb' 23 8).toNat = n := (bits_pw ⟨n, h⟩).2.1
  have h3 : ((BitVec.ofNat 32 n <<< 23#32).extractLsb' 0 23).toNat = 0 := (bits_pw ⟨n, h⟩).2.2
  show Ideal.ieee 8 23 (BitVec.ofNat 32 n <<< 23#32) = pw n
  unfold Ideal.ieee pw
  simp only [h1, h2, h3]
  clear h1 h2 h3
  by_cases e : n = 255
  · subst e; simp
  · rw [if_neg (by omega : ¬ n = 2 ^ 8 - 1)]
    by_cases z : n = 0
    · subst z; simp
    · rw [if_neg z, if_neg z, if_pos (by omega : n < 255)]
      have key : ((if false = true then (-1 : ℝ) else 1) * ((2 ^ 23 + 0 : ℕ) : ℝ) * (2 : ℝ) ^ ((n : ℤ) - (2 ^ (8 - 1) - 1) - ((23 : ℕ) : ℤ))) = (2 : ℝ) ^ ((n : ℤ) - 127) := by
        rw [if_neg (by decide), one_mul, Nat.add_zero, Nat.cast_pow, Nat.cast_ofNat, ← zpow_natCast, ← zpow_add₀ (by norm_num)]
        refine congrArg (fun t : ℤ => (2 : ℝ) ^ t) ?_
        push_cast
        ring
      exact congrArg (fun t : ℝ => (t : EReal)) key

theorem pw_mono {a b : ℕ} (h : a ≤ b) : pw a ≤ pw b := by
  unfold pw
  by_cases hb : b < 255
  · have ha : a < 255 := by omega
    by_cases za : a = 0
    · rw [if_pos za]
      by_cases zb : b = 0
      · rw [if_pos zb]
      · rw [if_neg zb, if_pos hb]
        exact EReal.coe_nonneg.mpr (by positivity)
    · rw [if_neg za, if_pos ha, if_neg (by omega), if_pos hb]
      exact EReal.coe_le_coe_iff.mpr (zpow_le_zpow_right₀ (by norm_num) (by omega))
  · rw [if_neg (by omega : ¬ b = 0), if_neg hb]
    exact le_top
theorem pw_pos {n : ℕ} (h : n ≠ 0) : 0 < pw n := by
  unfold pw
  rw [if_neg h]
  by_cases hb : n < 255
  · rw [if_pos hb]
    exact EReal.coe_pos.mpr (by positivity)
  · rw [if_neg hb]
    exact EReal.coe_lt_top 0
theorem pw_two {n : ℕ} (h : n ≠ 0) (h' : n < 254) : 2 * pw n = pw (n + 1) := by
  unfold pw
  rw [if_neg h, if_pos (by omega), if_neg (by omega), if_pos (by omega)]
  have e : (2 : ℝ) ^ (((n + 1 : ℕ) : ℤ) - 127) = 2 * (2 : ℝ) ^ ((n : ℤ) - 127) := by
    rw [← zpow_one_add₀ (by norm_num)]
    congr 1
    push_cast
    ring
  rw [e, EReal.coe_mul]
  rfl

/-- One step of the search, at one value. -/
def stp (v : EReal) (f k : BitVec 32) : BitVec 32 :=
  Scalar.select (Ideal.cmp .olt v (Ideal.ofBits .f32 (IntOp.shli .vector (IntOp.addi f k) 23#32))) f (IntOp.addi f k)

theorem stp_spec {v : EReal} {f k : ℕ} (h : f + 2 * k ≤ 256) (hk : 0 < k) (h0 : pw f ≤ v) (h1 : v < pw (f + 2 * k)) :
    ∃ f', stp v (BitVec.ofNat 32 f) (BitVec.ofNat 32 k) = BitVec.ofNat 32 f' ∧ f' + k ≤ 256 ∧ pw f' ≤ v ∧ v < pw (f' + k) := by
  have e : IntOp.addi (BitVec.ofNat 32 f) (BitVec.ofNat 32 k) = BitVec.ofNat 32 (f + k) := (BitVec.ofNat_add f k).symm
  have s : IntOp.shli .vector (BitVec.ofNat 32 (f + k)) 23#32 = BitVec.ofNat 32 (f + k) <<< 23#32 := rfl
  unfold stp
  rw [e, s, ofBits_pw (by omega)]
  by_cases hlt : v < pw (f + k)
  · refine ⟨f, ?_, by omega, h0, hlt⟩
    have : Ideal.cmp .olt v (pw (f + k)) = 1#1 := by
      show BitVec.ofBool (decide (v < pw (f + k))) = 1#1
      rw [decide_eq_true hlt]; rfl
    rw [this]; rfl
  · refine ⟨f + k, ?_, by omega, not_lt.mp hlt, by rw [show f + k + k = f + 2 * k by omega]; exact h1⟩
    have : Ideal.cmp .olt v (pw (f + k)) = 0#1 := by
      show BitVec.ofBool (decide (v < pw (f + k))) = 0#1
      rw [decide_eq_false hlt]; rfl
    rw [this]; rfl

/-- The exponent field of a value. -/
def fld (v : EReal) : BitVec 32 := stp v (stp v (stp v (stp v (stp v (stp v (stp v (stp v 0#32 128#32) 64#32) 32#32) 16#32) 8#32) 4#32) 2#32) 1#32

theorem fld_spec {v : EReal} (h0 : 0 ≤ v) (h1 : v < pw 253) : ∃ f, fld v = BitVec.ofNat 32 f ∧ f < 253 ∧ pw f ≤ v ∧ v < pw (f + 1) := by
  have t : v < pw 256 := lt_of_lt_of_le h1 (pw_mono (by decide))
  obtain ⟨f1, e1, b1, l1, u1⟩ := stp_spec (v := v) (f := 0) (k := 128) (by decide) (by decide) (by simpa [pw] using h0) t
  obtain ⟨f2, e2, b2, l2, u2⟩ := stp_spec (f := f1) (k := 64) b1 (by decide) l1 u1
  obtain ⟨f3, e3, b3, l3, u3⟩ := stp_spec (f := f2) (k := 32) b2 (by decide) l2 u2
  obtain ⟨f4, e4, b4, l4, u4⟩ := stp_spec (f := f3) (k := 16) b3 (by decide) l3 u3
  obtain ⟨f5, e5, b5, l5, u5⟩ := stp_spec (f := f4) (k := 8) b4 (by decide) l4 u4
  obtain ⟨f6, e6, b6, l6, u6⟩ := stp_spec (f := f5) (k := 4) b5 (by decide) l5 u5
  obtain ⟨f7, e7, b7, l7, u7⟩ := stp_spec (f := f6) (k := 2) b6 (by decide) l6 u6
  obtain ⟨f8, e8, b8, l8, u8⟩ := stp_spec (f := f7) (k := 1) b7 (by decide) l7 u7
  refine ⟨f8, ?_, ?_, l8, u8⟩
  · unfold fld
    rw [show stp v 0#32 128#32 = _ from e1, show stp v _ 64#32 = _ from e2, show stp v _ 32#32 = _ from e3, show stp v _ 16#32 = _ from e4,
      show stp v _ 8#32 = _ from e5, show stp v _ 4#32 = _ from e6, show stp v _ 2#32 = _ from e7]
    exact e8
  · by_contra hc
    exact absurd (lt_of_lt_of_le h1 (le_trans (pw_mono (by omega)) l8)) (lt_irrefl v)

/-- The bits of the scale from the exponent field. -/
def pbits (f : BitVec 32) : BitVec 32 :=
  IntOp.shli .vector (IntOp.addi (Scalar.select (IntOp.cmpi .slt (IntOp.shli .vector f 23#32) 8388608#32) 0#32
    (IntOp.subi (IntOp.shrsi .vector (IntOp.shli .vector f 23#32) 23#32) 126#32)) 127#32) 23#32
theorem pbits_eq : ∀ n : Fin 254, pbits (BitVec.ofNat 32 n.val) = BitVec.ofNat 32 (if n.val = 0 then 127 else n.val + 1) <<< 23#32 := by decide

/-- The scale of a value: what the search leads to. -/
def scaleOf (v : EReal) : EReal := Ideal.ofBits .f32 (pbits (fld v))

/-- The bits of the scale's inverse from the exponent field. -/
def nbits (f : BitVec 32) : BitVec 32 :=
  IntOp.shli .vector (IntOp.subi 127#32 (Scalar.select (IntOp.cmpi .slt (IntOp.shli .vector f 23#32) 8388608#32) 0#32
    (IntOp.subi (IntOp.shrsi .vector (IntOp.shli .vector f 23#32) 23#32) 126#32))) 23#32
theorem nbits_eq : ∀ n : Fin 253, nbits (BitVec.ofNat 32 n.val) = BitVec.ofNat 32 (if n.val = 0 then 127 else 253 - n.val) <<< 23#32 := by decide

/-- What the kernel multiplies by where the reference divides by the scale. -/
def invOf (v : EReal) : EReal := Ideal.ofBits .f32 (nbits (fld v))

/-- The two agree. -/
theorem div_scale {v : EReal} (h0 : 0 ≤ v) (h1 : v < pw 253) (x : EReal) : Ideal.div x (scaleOf v) = x * invOf v := by
  obtain ⟨f, e, hf, -, -⟩ := fld_spec h0 h1
  have hs : scaleOf v = pw (if f = 0 then 127 else f + 1) := by
    unfold scaleOf
    rw [e, pbits_eq ⟨f, by omega⟩, ofBits_pw (by show (if f = 0 then 127 else f + 1) < 256; split <;> omega)]
  have hi : invOf v = pw (if f = 0 then 127 else 253 - f) := by
    unfold invOf
    rw [e, nbits_eq ⟨f, hf⟩, ofBits_pw (by show (if f = 0 then 127 else 253 - f) < 256; split <;> omega)]
  have key : ∀ a b : ℕ, a ≠ 0 → b ≠ 0 → a < 255 → b < 255 → a + b = 254 → Ideal.div x (pw a) = x * pw b := by
    intro a b ha hb ha' hb' hab
    unfold pw
    rw [if_neg ha, if_pos ha', if_neg hb, if_pos hb', Ideal.div_coe (by positivity), one_div, ← zpow_neg]
    congr 4
    omega
  rw [hs, hi]
  by_cases z : f = 0
  · rw [if_pos z, if_pos z]; exact key 127 127 (by decide) (by decide) (by decide) (by decide) (by decide)
  · rw [if_neg z, if_neg z]; exact key _ _ (by omega) (by omega) (by omega) (by omega) (by omega)

/-- A quotient clipped to the codes' range. -/
def clip (x : EReal) : EReal :=
  FloatOps.minimumf (F := Ideal) (φ := .f32) (Scalar.ofBits .f32 0x43E00000#32) (FloatOps.maximumf (F := Ideal) (φ := .f32) (Scalar.ofBits .f32 0xC3E00000#32) x)

/-- The largest power of two not above a value, or zero, among those the reference lists. -/
def below (v : EReal) (k : ℕ) : EReal := if pw (k + 1) ≤ v then pw (k + 1) else 0

theorem pw_one : pw 127 = 1 := by simp [pw]

/-- The reference's scale is the kernel's. -/
theorem scale_eq {v : EReal} (h0 : 0 ≤ v) (h1 : v < pw 253) {M : EReal}
    (hM : M = (Finset.univ : Finset (Fin 254)).fold max ⊥ (fun k => below v k.val)) :
    (if M = 0 then 1 else 2 * M) = scaleOf v := by
  obtain ⟨f, e, hf, l, u⟩ := fld_spec h0 h1
  have hs : scaleOf v = pw (if f = 0 then 127 else f + 1) := by
    unfold scaleOf
    rw [e, pbits_eq ⟨f, by omega⟩, ofBits_pw (by show (if f = 0 then 127 else f + 1) < 256; split <;> omega)]
  have hle : ∀ k : Fin 254, below v k.val ≤ pw f := by
    intro k
    unfold below
    split
    · rename_i hk
      refine pw_mono ?_
      by_contra hc
      exact absurd (lt_of_le_of_lt (le_trans (pw_mono (by omega)) hk) u) (lt_irrefl _)
    · simpa [pw] using pw_mono (Nat.zero_le f)
  have hM' : M = pw f := by
    rw [hM]
    refine le_antisymm (Finset.fold_max_le _ |>.mpr ⟨bot_le, fun k _ => hle k⟩) ?_
    rw [Finset.le_fold_max]
    right
    by_cases z : f = 0
    · subst z
      refine ⟨0, Finset.mem_univ _, ?_⟩
      unfold below
      split
      · exact pw_mono (by omega)
      · simp [pw]
    · refine ⟨⟨f - 1, by omega⟩, Finset.mem_univ _, ?_⟩
      have e1 : f - 1 + 1 = f := by omega
      show pw f ≤ below v (f - 1)
      unfold below
      rw [e1, if_pos l]
  rw [hM', hs]
  by_cases z : f = 0
  · rw [if_pos z, if_pos (by rw [z]; simp [pw]), pw_one]
  · rw [if_neg z, if_neg (ne_of_gt (pw_pos z)), pw_two z (by omega)]

end Cert.KernelIdeal.Val

end
-- ==== Proof.V.Amax.lean ====
/- The scale of a block: the largest magnitude of 128 values over 448, and the power of two above it, in both programs. -/
module

public import proofs.«01_k».proof.Proof.V.Ref2
public import proofs.«01_k».proof.Proof.V.Pow
public import proofs.«01_k».proof.Proof.V.Down

@[expose] public section

set_option maxRecDepth 16384

noncomputable section

namespace Cert.KernelIdeal.Val

open Idealize.ShloMosaic

/-- The largest magnitude of 128 values, over 448. -/
def amax (g : Fin 128 → EReal) : EReal :=
  (Finset.univ : Finset (Fin 128)).fold max ⊥ (fun k => FloatOps.absf (F := Ideal) (φ := .f32) (g k)) * Ideal.ofBits .f32 0x3B124925#32

theorem absf_nonneg (a : EReal) : 0 ≤ FloatOps.absf (F := Ideal) (φ := .f32) a := by
  show 0 ≤ max a (-a)
  rcases le_total 0 a with h | h
  · exact le_max_of_le_left h
  · exact le_max_of_le_right (EReal.neg_nonneg.mpr h)

theorem inv448_nonneg : 0 ≤ Ideal.ofBits .f32 0x3B124925#32 := by
  show 0 ≤ Ideal.ieee 8 23 (0x3B124925#32)
  unfold Ideal.ieee
  have h1 : ((0x3B124925#32).extractLsb' (8 + 23) 1 == 1#1) = false := by decide
  have h2 : ((0x3B124925#32).extractLsb' 23 8).toNat = 118 := by decide
  simp only [h1, h2]
  rw [if_neg (by decide), if_neg (by decide)]
  refine EReal.coe_nonneg.mpr ?_
  rw [if_neg (by decide), one_mul]
  positivity

theorem amax_nonneg (g : Fin 128 → EReal) : 0 ≤ amax g := by
  unfold amax
  refine mul_nonneg ?_ inv448_nonneg
  rw [Finset.le_fold_max]
  exact .inr ⟨0, Finset.mem_univ _, absf_nonneg _⟩

theorem ninf : (FloatOps.ofBits (F := Ideal) .f32 0xFF800000#32 : EReal) = ⊥ := by simp [Ideal.ofBits, Ideal.ieee]

namespace D
open Cert.KernelIdeal Cert.KernelIdeal.Gen

theorem lift_eq (r : Fin 48) (k : Fin 128) : reduces_S48x128_S48.lift (ix1 r) k = ix2 r k := by
  funext a; apply Fin.ext
  match a with
  | ⟨0, _⟩ => rfl
  | ⟨1, _⟩ => rfl

theorem aMax_at (v : FVec Ideal S48x128 .f32) (r : Fin 48) : aMax v (ix2 r 0) = amax (fun k => v (ix2 r k)) := by
  have e : multiReduction .maximumf [1] S48 (absf v) 0xFF800000#32 reduces_S48x128_S48 (.inl rfl) rfl (ix1 r)
      = (Finset.univ : Finset (Fin 128)).fold max ⊥ (fun k => FloatOps.absf (F := Ideal) (φ := .f32) (v (ix2 r k))) := by
    refine (Ideal.multiReduction_maximumf_single (absf v) 0xFF800000#32 reduces_S48x128_S48 (.inl rfl) rfl (ix1 r)).trans ?_
    rw [ninf]
    refine congrArg (fun f => (Finset.univ : Finset (Fin 128)).fold max ⊥ f) (funext fun k => ?_)
    exact congrArg (fun i => FloatOps.absf (F := Ideal) (φ := .f32) (v i)) (lift_eq r k)
  unfold aMax amax
  rw [← e]
  generalize multiReduction .maximumf [1] S48 (absf v) 0xFF800000#32 reduces_S48x128_S48 (.inl rfl) rfl = W
  pointwise

theorem step_at (v : FVec Ideal S48x1 .f32) (f : IVec S48x1 32) (k : BitVec 32) (i : S48x1.Idx) : step v f k i = stp (v i) (f i) k := rfl
theorem field_at (v : FVec Ideal S48x1 .f32) (i : S48x1.Idx) : field v i = fld (v i) := by
  unfold field fld
  simp only [step_at]
  rfl
theorem powOf_at (f : IVec S48x1 32) (i : S48x1.Idx) : powOf (F := Ideal) f i = Ideal.ofBits .f32 (pbits (f i)) := rfl

theorem scl_at (v : FVec Ideal S48x128 .f32) (r : Fin 48) : scl v (ix2 r 0) = scaleOf (amax (fun k => v (ix2 r k))) := by
  rw [← aMax_at]
  unfold scl
  rw [powOf_at, field_at]
  rfl

theorem qBlk_at (o : FVec Ideal S48x256 .bf16) (r : Fin 48) (j : Fin 2) :
    qBlk o (ix3 0 r j) = scaleOf (amax (fun k => o (ix2 r ⟨128 * j.val + k.val, by omega⟩))) := by
  show scl (vHalf o j.val j.isLt) (ix2 r 0) = _
  rw [scl_at]
  refine congrArg (fun g => scaleOf (amax g)) (funext fun k => ?_)
  unfold vHalf
  pointwise

theorem invOf_at (f : IVec S48x1 32) (i : S48x1.Idx) : invOf (F := Ideal) f i = Ideal.ofBits .f32 (nbits (f i)) := rfl

theorem cHalf_at (v : FVec Ideal S48x128 .f32) (r : Fin 48) (k : Fin 128) :
    cHalf v (ix2 r k) = clip (v (ix2 r k) * Val.invOf (amax (fun k => v (ix2 r k)))) := by
  have e : invOf (F := Ideal) (field (aMax v)) (ix2 r 0) = Val.invOf (amax (fun k => v (ix2 r k))) := by
    rw [← aMax_at, invOf_at, field_at]
    rfl
  rw [← e]
  unfold cHalf
  generalize invOf (F := Ideal) (field (aMax v)) = I
  have b : broadcastTo S48x128 I broadcasts_S48x1_S48x128 (ix2 r k) = I (ix2 r 0) := by pointwise
  rw [← b]
  rfl

theorem cBlk_at (o : FVec Ideal S48x256 .bf16) (r : Fin 48) (j : Fin 256) :
    cBlk o (ix2 r j) = clip (o (ix2 r j) * Val.invOf (amax (fun k => o (ix2 r ⟨128 * (j.val / 128) + k.val, by omega⟩)))) := by
  have hv : ∀ k : Fin 128, vHalf o (j.val / 128) (by omega) (ix2 r k) = o (ix2 r ⟨128 * (j.val / 128) + k.val, by omega⟩) := fun k => by
    unfold vHalf
    pointwise
  show cHalf (vHalf o (j.val / 128) _) (ix2 r ⟨j.val % 128, _⟩) = _
  rw [cHalf_at]
  refine congrArg clip (congrArg₂ (fun a b : EReal => a * b) ((hv _).trans (congrArg (fun s => o (ix2 r s)) (Fin.ext ?_))) (congrArg (fun g => Val.invOf (amax g)) (funext hv)))
  show 128 * (j.val / 128) + j.val % 128 = j.val
  omega

end D

end Cert.KernelIdeal.Val

namespace Cert.HostIdeal.Val

open Cert.HostIdeal Cert.HostIdeal.Gen Cert.HostIdeal.Read
open Idealize.ShloMosaic
open Cert.KernelIdeal.Val (amax amax_nonneg ninf pw ofBits_pw below scale_eq scaleOf clip invOf div_scale)

variable (x0 : Vec Ideal S36x1x5120 .bf16) (x1 : Vec Ideal S36 .i32) (x2 : Vec Ideal S2560x35840 .i8) (x3 : Vec Ideal S40x35840 .bf16)
  (x4 : Vec Ideal S8960x5120 .i8) (x5 : Vec Ideal S140x5120 .bf16) (x6 : Vec Ideal S7x5120x32 .bf16) (x7 : Vec Ideal S7x2x16x17920 .bf16)
  (x8 : Vec Ideal S7x17920x16 .bf16) (x9 : Vec Ideal S7x16x5120 .bf16) (x10 : Vec Ideal S7 .f32)

theorem red128 : S36x1x40x128.Reduces [3] S36x1x40 := by decide
theorem red254 : S36x1x40x254.Reduces [3] S36x1x40 := by decide

theorem lift128 (r : Fin 36) (b : Fin 40) (k : Fin 128) : red128.lift (ix3 r 0 b) k = ix4 r 0 b k := by
  funext a; apply Fin.ext
  match a with
  | ⟨0, _⟩ => rfl
  | ⟨1, _⟩ => rfl
  | ⟨2, _⟩ => rfl
  | ⟨3, _⟩ => rfl
theorem lift254 (r : Fin 36) (b : Fin 40) (k : Fin 254) : red254.lift (ix3 r 0 b) k = ix4 r 0 b k := by
  funext a; apply Fin.ext
  match a with
  | ⟨0, _⟩ => rfl
  | ⟨1, _⟩ => rfl
  | ⟨2, _⟩ => rfl
  | ⟨3, _⟩ => rfl

theorem v124_at (r : Fin 36) (b : Fin 40) (k : Fin 128) :
    val_main_v124 (F := Ideal) x0 x1 x2 x3 x4 x5 x6 x7 x8 x9 x10 (ix4 r 0 b k)
      = FloatOps.absf (F := Ideal) (φ := .f32) (val_main_v120 (F := Ideal) x0 x1 x2 x3 x4 x5 x6 x7 x8 x9 x10 (ix2 r ⟨b.val * 128 + k.val, by omega⟩)) := by
  unfold val_main_v124 val_main_v123 val_main_v122 val_main_v121
  generalize val_main_v120 (F := Ideal) x0 x1 x2 x3 x4 x5 x6 x7 x8 x9 x10 = W
  pointwise

theorem v128_at (r : Fin 36) (b : Fin 40) :
    val_main_v128 (F := Ideal) x0 x1 x2 x3 x4 x5 x6 x7 x8 x9 x10 (ix3 r 0 b)
      = amax (fun k => val_main_v120 (F := Ideal) x0 x1 x2 x3 x4 x5 x6 x7 x8 x9 x10 (ix2 r ⟨b.val * 128 + k.val, by omega⟩)) := by
  have hk := v124_at x0 x1 x2 x3 x4 x5 x6 x7 x8 x9 x10 r b
  rw [val_main_v128_apply]
  unfold amax val_main_v125
  refine congrArg₂ (fun a b : EReal => a * b) ?_ rfl
  refine (Host.reduce_eq_fold_single (α := EReal) max _ _ reducesTo_S36x1x40x128_S36x1x40_d3 red128 h_S_ _).trans ?_
  have hi : val_main_cst_14 (F := Ideal) (Shape.Idx.first h_S_) = (⊥ : EReal) := ninf
  rw [hi]
  refine congrArg (fun f => (Finset.univ : Finset (Fin 128)).fold max ⊥ f) (funext fun k => ?_)
  exact (congrArg (val_main_v124 (F := Ideal) x0 x1 x2 x3 x4 x5 x6 x7 x8 x9 x10) (lift128 r b k)).trans (hk k)

theorem v134_at (k : Fin 254) : val_main_v134 (F := Ideal) (ix1 k) = pw (k.val + 1) := by
  rw [← ofBits_pw (by omega)]
  have e : ∀ k : Fin 254, IntOp.shli .host (IntOp.addi (BitVec.ofNat 32 k.val) 1#32) 23#32 = BitVec.ofNat 32 (k.val + 1) <<< 23#32 := by decide
  rw [← e]
  rfl

theorem v140_at (r : Fin 36) (b : Fin 40) (k : Fin 254) :
    val_main_v140 (F := Ideal) x0 x1 x2 x3 x4 x5 x6 x7 x8 x9 x10 (ix4 r 0 b k) = below (val_main_v128 (F := Ideal) x0 x1 x2 x3 x4 x5 x6 x7 x8 x9 x10 (ix3 r 0 b)) k.val := by
  have e : val_main_v140 (F := Ideal) x0 x1 x2 x3 x4 x5 x6 x7 x8 x9 x10 (ix4 r 0 b k)
      = Scalar.select (Ideal.cmp .ole (val_main_v134 (F := Ideal) (ix1 k)) (val_main_v128 (F := Ideal) x0 x1 x2 x3 x4 x5 x6 x7 x8 x9 x10 (ix3 r 0 b))) (val_main_v134 (F := Ideal) (ix1 k)) 0 := by
    have ec : val_main_call5_v0 (F := Ideal) = fun _ => (0 : EReal) := funext fun _ => Ideal.ofBits_zero_f32
    unfold val_main_v140 val_main_v139 val_main_v138 val_main_v137 val_main_v136 val_main_v135 val_main_call5_v1 val_main_call5_v2
    rw [ec]
    generalize val_main_v128 (F := Ideal) x0 x1 x2 x3 x4 x5 x6 x7 x8 x9 x10 = W
    generalize val_main_v134 (F := Ideal) = P
    pointwise
  rw [e, v134_at]
  unfold below
  generalize val_main_v128 (F := Ideal) x0 x1 x2 x3 x4 x5 x6 x7 x8 x9 x10 (ix3 r 0 b) = v
  show Scalar.select (BitVec.ofBool (decide (pw (k.val + 1) ≤ v))) _ _ = _
  by_cases h : pw (k.val + 1) ≤ v
  · rw [decide_eq_true h, if_pos h]; rfl
  · rw [decide_eq_false h, if_neg h]; rfl

theorem v141_at (r : Fin 36) (b : Fin 40) :
    val_main_v141 (F := Ideal) x0 x1 x2 x3 x4 x5 x6 x7 x8 x9 x10 (ix3 r 0 b)
      = (Finset.univ : Finset (Fin 254)).fold max ⊥ (fun k => below (val_main_v128 (F := Ideal) x0 x1 x2 x3 x4 x5 x6 x7 x8 x9 x10 (ix3 r 0 b)) k.val) := by
  have hk := v140_at x0 x1 x2 x3 x4 x5 x6 x7 x8 x9 x10 r b
  unfold val_main_v141
  refine (Host.reduce_eq_fold_single (α := EReal) max _ _ reducesTo_S36x1x40x254_S36x1x40_d3 red254 h_S_ _).trans ?_
  have hi : val_main_cst_19 (F := Ideal) (Shape.Idx.first h_S_) = (⊥ : EReal) := ninf
  rw [hi]
  refine congrArg (fun f => (Finset.univ : Finset (Fin 254)).fold max ⊥ f) (funext fun k => ?_)
  exact (congrArg (val_main_v140 (F := Ideal) x0 x1 x2 x3 x4 x5 x6 x7 x8 x9 x10) (lift254 r b k)).trans (hk k)

/-- The scale, where the value it is taken of is small enough. -/
theorem v146_at (r : Fin 36) (b : Fin 40) (h : val_main_v128 (F := Ideal) x0 x1 x2 x3 x4 x5 x6 x7 x8 x9 x10 (ix3 r 0 b) < pw 253) :
    val_main_v146 (F := Ideal) x0 x1 x2 x3 x4 x5 x6 x7 x8 x9 x10 (ix3 r 0 b)
      = scaleOf (amax (fun k => val_main_v120 (F := Ideal) x0 x1 x2 x3 x4 x5 x6 x7 x8 x9 x10 (ix2 r ⟨b.val * 128 + k.val, by omega⟩))) := by
  have hM := v141_at x0 x1 x2 x3 x4 x5 x6 x7 x8 x9 x10 r b
  have hv := v128_at x0 x1 x2 x3 x4 x5 x6 x7 x8 x9 x10 r b
  rw [← hv, ← scale_eq (by rw [hv]; exact amax_nonneg _) h hM]
  rw [val_main_v146_apply, val_main_v143_apply, val_main_v145_apply]
  generalize val_main_v141 (F := Ideal) x0 x1 x2 x3 x4 x5 x6 x7 x8 x9 x10 (ix3 r 0 b) = M
  have e0 : val_main_v142 (F := Ideal) (ix3 r 0 b) = (0 : EReal) := Ideal.ofBits_zero_f32
  have e1 : val_main_call6_v1 (F := Ideal) (ix3 r 0 b) = (1 : EReal) := Ideal.ofBits_one_f32
  have e2 : val_main_v144 (F := Ideal) (ix3 r 0 b) = (2 : EReal) := by
    show Ideal.ofBits .f32 (BitVec.ofNat 32 128 <<< 23#32) = 2
    rw [ofBits_pw (by decide)]
    show ((if (128:ℕ) = 0 then (0 : EReal) else if (128:ℕ) < 255 then (((2 : ℝ) ^ (((128 : ℕ) : ℤ) - 127) : ℝ) : EReal) else ⊤)) = 2
    rw [if_neg (by decide), if_pos (by decide)]
    norm_num
    rfl
  rw [e0, e1, e2]
  show Scalar.select (BitVec.ofBool (decide (M = 0))) (1 : EReal) (2 * M) = _
  by_cases hz : M = 0
  · rw [decide_eq_true hz, if_pos hz]; rfl
  · rw [decide_eq_false hz, if_neg hz]; rfl

theorem v122_at (r : Fin 36) (q : Fin 5120) :
    val_main_v122 (F := Ideal) x0 x1 x2 x3 x4 x5 x6 x7 x8 x9 x10 (ix3 r 0 q) = val_main_v120 (F := Ideal) x0 x1 x2 x3 x4 x5 x6 x7 x8 x9 x10 (ix2 r q) := by
  rw [val_main_v122_apply, v121_at]
  rfl

/-- The repeated scale is the scale of the element's block. -/
theorem v148_at (r : Fin 36) (q : Fin 5120) :
    val_main_v148 (F := Ideal) x0 x1 x2 x3 x4 x5 x6 x7 x8 x9 x10 (ix3 r 0 q)
      = val_main_v146 (F := Ideal) x0 x1 x2 x3 x4 x5 x6 x7 x8 x9 x10 (ix3 r 0 ⟨q.val / 128, by omega⟩) := by
  unfold val_main_v148 val_main_v147
  generalize val_main_v146 (F := Ideal) x0 x1 x2 x3 x4 x5 x6 x7 x8 x9 x10 = W
  pointwise

/-- The codes: the output over the scale, clipped. -/
def codes : Vec Ideal S36x1x5120 .fp8e4m3 := fun i =>
  clip (Ideal.div (val_main_v122 (F := Ideal) x0 x1 x2 x3 x4 x5 x6 x7 x8 x9 x10 i) (val_main_v148 (F := Ideal) x0 x1 x2 x3 x4 x5 x6 x7 x8 x9 x10 i))

/-- A code, where the value its scale is taken of is small enough. -/
theorem codes_at (r : Fin 36) (q : Fin 5120)
    (h : val_main_v128 (F := Ideal) x0 x1 x2 x3 x4 x5 x6 x7 x8 x9 x10 (ix3 r 0 ⟨q.val / 128, by omega⟩) < pw 253) :
    codes x0 x1 x2 x3 x4 x5 x6 x7 x8 x9 x10 (ix3 r 0 q)
      = clip (val_main_v120 (F := Ideal) x0 x1 x2 x3 x4 x5 x6 x7 x8 x9 x10 (ix2 r q)
          * invOf (amax (fun k => val_main_v120 (F := Ideal) x0 x1 x2 x3 x4 x5 x6 x7 x8 x9 x10 (ix2 r ⟨q.val / 128 * 128 + k.val, by omega⟩)))) := by
  have hv := v128_at x0 x1 x2 x3 x4 x5 x6 x7 x8 x9 x10 r ⟨q.val / 128, by omega⟩
  unfold codes
  rw [v122_at, v148_at, v146_at _ _ _ _ _ _ _ _ _ _ _ r ⟨q.val / 128, by omega⟩ h]
  rw [hv] at h
  exact congrArg clip (div_scale (amax_nonneg _) h _)

end Cert.HostIdeal.Val

end
-- ==== Proof.V.Rows.lean ====
/- The two calls' arrays against the reference's values, row by row: rows below 36 hold the reference's rows. -/
module

public import proofs.«01_k».proof.Proof.V.Arr0
public import proofs.«01_k».proof.Proof.V.Arr1
public import proofs.«01_k».proof.Proof.V.SumG
public import proofs.«01_k».proof.Proof.V.SumD
public import proofs.«01_k».proof.Proof.V.UpG
public import proofs.«01_k».proof.Proof.V.UpD
public import proofs.«01_k».proof.Proof.V.Ref2
public import proofs.«01_k».proof.Proof.V.Gather
public import proofs.«01_k».proof.Proof.V.Amax

@[expose] public section

set_option maxRecDepth 16384

noncomputable section

namespace Cert.KernelIdeal.Val

open Cert.KernelIdeal Cert.KernelIdeal.Gen
open Idealize.ShloMosaic Idealize.ShloMosaic.TcCoe
open Cert.HostIdeal.Read (val_main_v8 val_main_v48 val_main_v58 val_main_v71 val_main_v111 val_main_v120)
open Cert.HostIdeal.Val (v48_at v58_at v71_at v111_at v120_at v8_at)

/-- A row of the batch among the padded rows. -/
def pad (r : Fin 36) : Fin 48 := ⟨r.val, by omega⟩

section Blocks
variable {α : Type} [Inhabited α]

/-- A column of a block is a column of the array. -/
theorem blk_el2 {A B C : ℕ} (x : (⟨2, ![A, B]⟩ : Shape).Idx → α) (y : (⟨2, ![A, C]⟩ : Shape).Idx → α) (j q : ℕ) (hj : j < B) (hq : q < C)
    (h : ∀ p, x (ix2 p ⟨j, hj⟩) = y (ix2 p ⟨q, hq⟩)) : ∀ p < A, el2 x p j = el2 y p q := fun p hp => by
  rw [el2_of x hp hj, el2_of y hp hq, h]

theorem blk_el3 {A B C D : ℕ} (x : (⟨3, ![A, B, C]⟩ : Shape).Idx → α) (y : (⟨3, ![A, B, D]⟩ : Shape).Idx → α) (j q : ℕ) (hj : j < C) (hq : q < D)
    (h : ∀ n p, x (ix3 n p ⟨j, hj⟩) = y (ix3 n p ⟨q, hq⟩)) : ∀ n < A, ∀ p < B, el3 x n p j = el3 y n p q := fun n hn p hp => by
  rw [el3_of x hn hp hj, el3_of y hn hp hq, h]

theorem blk_el4 {A B C D E : ℕ} (x : (⟨4, ![A, B, C, D]⟩ : Shape).Idx → α) (y : (⟨4, ![A, B, C, E]⟩ : Shape).Idx → α) (k j q : ℕ) (hk : k < B) (hj : j < D) (hq : q < E)
    (h : ∀ n (k : Fin B) p, x (ix4 n k p ⟨j, hj⟩) = y (ix4 n k p ⟨q, hq⟩)) : ∀ n < A, ∀ p < C, el4 x n k p j = el4 y n k p q := fun n hn p hp => by
  rw [el4_of x hn hk hp hj, el4_of y hn hk hp hq, h]

/-- A row of one array is a row of another. -/
theorem row_el2 {A B C : ℕ} (x : (⟨2, ![A, B]⟩ : Shape).Idx → α) (y : (⟨2, ![C, B]⟩ : Shape).Idx → α) (i : ℕ) (hi : i < A) (hi' : i < C)
    (h : ∀ d, x (ix2 ⟨i, hi⟩ d) = y (ix2 ⟨i, hi'⟩ d)) : ∀ d < B, el2 x i d = el2 y i d := fun d hd => by
  rw [el2_of x hi hd, el2_of y hi' hd, h]
end Blocks

variable (V : (c : Dev nD) → (b : Ref sig .tc) → Buf (Elt Ideal) ((c : Thread nD τ).loc b)) (c : Dev nD)
variable (x0 : Vec Ideal S36x1x5120 .bf16) (x1 : Vec Ideal S36 .i32) (x2 : Vec Ideal S2560x35840 .i8) (x3 : Vec Ideal S40x35840 .bf16)
  (x4 : Vec Ideal S8960x5120 .i8) (x5 : Vec Ideal S140x5120 .bf16) (x6 : Vec Ideal S7x5120x32 .bf16) (x7 : Vec Ideal S7x2x16x17920 .bf16)
  (x8 : Vec Ideal S7x17920x16 .bf16) (x9 : Vec Ideal S7x16x5120 .bf16) (x10 : Vec Ideal S7 .f32)

section Gate
variable (hid : ∀ r : Fin 36, (V c main_v3 : Vec Ideal S48x1 .i32) (ix2 (pad r) 0) = x1 (ix1 r))
  (hsc : ∀ r : Fin 36, (V c main_v10 : Vec Ideal S48x1 .f32) (ix2 (pad r) 0) = scaling x10 (wrap (x1 (ix1 r))))
  (hx : ∀ (r : Fin 36) (d : Fin 5120), (V c main_v1 : Vec Ideal S48x5120 .bf16) (ix2 (pad r) d) = x0 (ix3 r 0 d))
  (h2 : V c main_arg2 = x2) (h3 : V c main_arg3 = x3) (h6 : V c main_arg6 = x6) (h7 : V c main_arg7 = x7)

include hx in
theorem x_el (r : Fin 36) : ∀ d < 5120, el2 (α := EReal) (V c main_v1 : Vec Ideal S48x5120 .bf16) (pad r).val d = el3 (α := EReal) x0 r.val 0 d := fun d hd => by
  rw [el2_of _ (pad r).isLt hd, el3_of _ r.isLt (by omega) hd]
  exact hx r ⟨d, hd⟩

include hid hsc hx h6 in
/-- `s` on the batch's rows. -/
theorem s_row (r : Fin 36) (j : Fin 32) : G.sArr V c (ix2 (pad r) j) = val_main_v48 (F := Ideal) x0 x1 x6 x10 (ix2 r j) := by
  unfold G.sArr
  refine (sBlk_apply _ _ _ _ (pad r) j).trans ?_
  rw [v48_at, v8_at, hid r, h6]
  exact down_congr (hsc r) (x_el V c x0 hx r) fun _ _ _ _ => rfl

include hid hsc hx h6 in
theorem s_el (r : Fin 36) : ∀ ρ < 32, el2 (α := EReal) (G.sArr V c) (pad r).val ρ = el2 (α := EReal) (val_main_v48 (F := Ideal) x0 x1 x6 x10) r.val ρ :=
  row_el2 (α := EReal) _ _ r.val (pad r).isLt r.isLt fun d => s_row V c x0 x1 x6 x10 hid hsc hx h6 r d

include hid hsc hx h2 h3 h6 h7 in
/-- `h` on the batch's rows. -/
theorem h_row (r : Fin 36) (f : Fin 17920) : G.hArr V c (ix2 (pad r) f) = val_main_v71 (F := Ideal) x0 x1 x2 x3 x6 x7 x10 (ix2 r f) := by
  have hf := f.isLt
  have hN : Cert.KernelIdeal.cfg0.N = 70 := N_0
  have hs := s_el V c x0 x1 x6 x10 hid hsc hx h6 r
  have hX := x_el V c x0 hx r
  let t : Fin Cert.KernelIdeal.cfg0.N := ⟨f.val / 256, by rw [hN]; omega⟩
  let j : Fin 256 := ⟨f.val % 256, by omega⟩
  have ht : 256 * t.val + j.val = f.val := by show 256 * (f.val / 256) + f.val % 256 = f.val; omega
  have e : G.hArr V c (ix2 (pad r) f) = G.hAt V c t (ix2 (pad r) j) := rfl
  rw [e, v71_at, v58_at, v58_at]
  unfold G.hAt
  refine (hBlk_apply _ _ _ _ _ _ _ _ (pad r) j).trans ?_
  rw [hid r]
  subst h2 h3 h7
  refine congrArg₂ gated (congrArg₂ (· + ·) (prod_congr (by omega) hX ?_ ?_) (up_congr (fun ρ hρ => hs _ (by omega)) ?_))
    (congrArg₂ (· + ·) (prod_congr (by omega) hX ?_ ?_) (up_congr (fun ρ hρ => hs _ (by omega)) ?_))
  · refine blk_el2 _ _ _ _ j.isLt (by show 0 * 17920 + f.val < 35840; omega) fun p => (G.blk3 V c t p j).trans (congrArg (V c main_arg2) (congrArg (ix2 p) (Fin.ext ?_)))
    show 256 * t.val + j.val = 0 * 17920 + f.val
    omega
  · refine blk_el2 (α := EReal) _ _ _ _ j.isLt (by show 0 * 17920 + f.val < 35840; omega) fun p => (G.blk5 V c t p j).trans (congrArg (V c main_arg3) (congrArg (ix2 p) (Fin.ext ?_)))
    show 256 * t.val + j.val = 0 * 17920 + f.val
    omega
  · refine blk_el4 (α := EReal) _ _ 0 _ _ (by omega) j.isLt hf fun n k p => (G.blk8 V c t n k p j).trans (congrArg (V c main_arg7) (congrArg (ix4 n k p) (Fin.ext ?_)))
    exact ht
  · refine blk_el2 _ _ _ _ j.isLt (by show 1 * 17920 + f.val < 35840; omega) fun p => (G.blk4 V c t p j).trans (congrArg (V c main_arg2) (congrArg (ix2 p) (Fin.ext ?_)))
    show 17920 + (256 * t.val + j.val) = 1 * 17920 + f.val
    omega
  · refine blk_el2 (α := EReal) _ _ _ _ j.isLt (by show 1 * 17920 + f.val < 35840; omega) fun p => (G.blk6 V c t p j).trans (congrArg (V c main_arg3) (congrArg (ix2 p) (Fin.ext ?_)))
    show 17920 + (256 * t.val + j.val) = 1 * 17920 + f.val
    omega
  · refine blk_el4 (α := EReal) _ _ 1 _ _ (by omega) j.isLt hf fun n k p => (G.blk8 V c t n k p j).trans (congrArg (V c main_arg7) (congrArg (ix4 n k p) (Fin.ext ?_)))
    exact ht
end Gate

section Down
variable (hid : ∀ r : Fin 36, (V c main_v3 : Vec Ideal S48x1 .i32) (ix2 (pad r) 0) = x1 (ix1 r))
  (hsc : ∀ r : Fin 36, (V c main_v10 : Vec Ideal S48x1 .f32) (ix2 (pad r) 0) = scaling x10 (wrap (x1 (ix1 r))))
  (hh : ∀ (r : Fin 36) (f : Fin 17920), (V c main_v11_0 : Vec Ideal S48x17920 .bf16) (ix2 (pad r) f) = val_main_v71 (F := Ideal) x0 x1 x2 x3 x6 x7 x10 (ix2 r f))
  (h4 : V c main_arg4 = x4) (h5 : V c main_arg5 = x5) (h8 : V c main_arg8 = x8) (h9 : V c main_arg9 = x9)

include hh in
theorem h_el (r : Fin 36) : ∀ d < 17920, el2 (α := EReal) (V c main_v11_0 : Vec Ideal S48x17920 .bf16) (pad r).val d
    = el2 (α := EReal) (val_main_v71 (F := Ideal) x0 x1 x2 x3 x6 x7 x10) r.val d :=
  row_el2 (α := EReal) _ _ r.val (pad r).isLt r.isLt fun d => hh r d

include hid hsc hh h8 in
/-- `t` on the batch's rows. -/
theorem t_row (r : Fin 36) (j : Fin 16) : D.tArr V c (ix2 (pad r) j) = val_main_v111 (F := Ideal) x0 x1 x2 x3 x6 x7 x8 x10 (ix2 r j) := by
  unfold D.tArr
  refine (D.tBlk_apply _ _ _ _ (pad r) j).trans ?_
  rw [v111_at, v8_at, hid r, h8]
  exact down_congr (hsc r) (h_el V c x0 x1 x2 x3 x6 x7 x10 hh r) fun _ _ _ _ => rfl

include hid hsc hh h4 h5 h8 h9 in
/-- The output on the batch's rows, block by block. -/
theorem oAt_row (r : Fin 36) (t : Fin Cert.KernelIdeal.cfg1.N) (j : Fin 256) (q : Fin 5120) (hq : q.val = 256 * t.val + j.val) :
    D.oAt V c t (ix2 (pad r) j) = val_main_v120 (F := Ideal) x0 x1 x2 x3 x4 x5 x6 x7 x8 x9 x10 (ix2 r q) := by
  have hT := row_el2 (α := EReal) (D.tArr V c) (val_main_v111 (F := Ideal) x0 x1 x2 x3 x6 x7 x8 x10) r.val (pad r).isLt r.isLt
    fun d => t_row V c x0 x1 x2 x3 x6 x7 x8 x10 hid hsc hh h8 r d
  have hX := h_el V c x0 x1 x2 x3 x6 x7 x10 hh r
  rw [v120_at]
  unfold D.oAt
  refine (D.oBlk_apply _ _ _ _ _ _ (pad r) j).trans ?_
  rw [hid r]
  subst h4 h5 h9
  refine congrArg₂ (· + ·) (prod_congr (by omega) hX ?_ ?_) (up_congr (fun ρ hρ => hT _ hρ) ?_)
  · exact blk_el2 _ _ _ _ j.isLt q.isLt fun p => (D.blk3 V c t p j).trans (congrArg (V c main_arg4) (congrArg (ix2 p) (Fin.ext hq.symm)))
  · exact blk_el2 (α := EReal) _ _ _ _ j.isLt q.isLt fun p => (D.blk4 V c t p j).trans (congrArg (V c main_arg5) (congrArg (ix2 p) (Fin.ext hq.symm)))
  · exact blk_el3 (α := EReal) _ _ _ _ j.isLt q.isLt fun n p => (D.blk6 V c t n p j).trans (congrArg (V c main_arg9) (congrArg (ix3 n p) (Fin.ext hq.symm)))

include hid hsc hh h4 h5 h8 h9 in
/-- The output on the batch's rows. -/
theorem o_row (r : Fin 36) (q : Fin 5120) : D.oArr V c (ix2 (pad r) q) = val_main_v120 (F := Ideal) x0 x1 x2 x3 x4 x5 x6 x7 x8 x9 x10 (ix2 r q) := by
  have hN : Cert.KernelIdeal.cfg1.N = 20 := N_1
  have hq := q.isLt
  exact oAt_row V c x0 x1 x2 x3 x4 x5 x6 x7 x8 x9 x10 hid hsc hh h4 h5 h8 h9 r ⟨q.val / 256, by rw [hN]; omega⟩ ⟨q.val % 256, by omega⟩ q
    (by show q.val = 256 * (q.val / 256) + q.val % 256; omega)

include hid hsc hh h4 h5 h8 h9 in
/-- The scales on the batch's rows. -/
theorem q_row (r : Fin 36) (t : Fin 20) (j : Fin 2) (b : Fin 40) (hb : b.val = t.val * 2 + j.val) :
    D.qArr V c (ix3 t (pad r) j) = scaleOf (amax (fun k => val_main_v120 (F := Ideal) x0 x1 x2 x3 x4 x5 x6 x7 x8 x9 x10 (ix2 r ⟨b.val * 128 + k.val, by omega⟩))) := by
  have hN : Cert.KernelIdeal.cfg1.N = 20 := N_1
  refine (D.qArr_at V c ⟨t.val, by rw [hN]; omega⟩ (ix3 t (pad r) j) (ix3 0 (pad r) j) rfl rfl rfl).trans ?_
  refine (D.qBlk_at _ (pad r) j).trans (congrArg (fun f => scaleOf (amax f)) (funext fun k => ?_))
  exact oAt_row V c x0 x1 x2 x3 x4 x5 x6 x7 x8 x9 x10 hid hsc hh h4 h5 h8 h9 r _ _ _
    (by show b.val * 128 + k.val = 256 * t.val + (128 * j.val + k.val); omega)

include hid hsc hh h4 h5 h8 h9 in
/-- The codes on the batch's rows. -/
theorem c_row (r : Fin 36) (q : Fin 5120) :
    D.cArr V c (ix2 (pad r) q) = clip (val_main_v120 (F := Ideal) x0 x1 x2 x3 x4 x5 x6 x7 x8 x9 x10 (ix2 r q)
      * invOf (amax (fun k => val_main_v120 (F := Ideal) x0 x1 x2 x3 x4 x5 x6 x7 x8 x9 x10 (ix2 r ⟨q.val / 128 * 128 + k.val, by omega⟩)))) := by
  have hN : Cert.KernelIdeal.cfg1.N = 20 := N_1
  have hq := q.isLt
  have ho := oAt_row V c x0 x1 x2 x3 x4 x5 x6 x7 x8 x9 x10 hid hsc hh h4 h5 h8 h9 r ⟨q.val / 256, by rw [hN]; omega⟩
  refine (D.cBlk_at (D.oAt V c ⟨q.val / 256, by rw [hN]; omega⟩) (pad r) ⟨q.val % 256, by omega⟩).trans ?_
  refine congrArg clip (congrArg₂ (fun a b : EReal => a * b) (ho _ q ?_) (congrArg (fun g => invOf (amax g)) (funext fun k => ho _ _ ?_)))
  · show q.val = 256 * (q.val / 256) + q.val % 256; omega
  · show q.val / 128 * 128 + k.val = 256 * (q.val / 256) + (128 * (q.val % 256 / 128) + k.val); omega
end Down

end Cert.KernelIdeal.Val

end
-- ==== Proof.V.Entry.lean ====
/- What the first call finds: the batch, the adapters' numbers and their scales on the batch's rows, and the weights. -/
module

public import proofs.«01_k».proof.Proof.V.Host
public import proofs.«01_k».proof.Proof.V.Rows
public import Idealize.ShloMosaic.Lib.KernelVsHost

@[expose] public section

set_option maxRecDepth 16384

noncomputable section

namespace Cert.KernelIdeal.Val.H

open Cert.KernelIdeal Cert.KernelIdeal.Gen
open Idealize.ShloMosaic Idealize.ShloMosaic.TcCoe
open Cert.KernelIdeal.Val (pad wrap scaling)

theorem padded2 (x : FVec Ideal S36x1x5120 .bf16) (v : FVec Ideal S_ .bf16) (r : Fin 36) (d : Fin 5120) :
    Idealize.ShloMosaic.pad S48x5120 ![0, 0] ![12, 0] ![0, 0] (shapeCast S36x5120 x shapeCasts_S36x1x5120_S36x5120) v pads_S36x5120_S48x5120_0120_000 h_S_ (ix2 (Val.pad r) d)
      = x (ix3 r 0 d) := by
  refine (pad_apply_of_inside ![0, 0] ![12, 0] ![0, 0] _ v pads_S36x5120_S48x5120_0120_000 h_S_ (ix2 (Val.pad r) d) (ix2 r d)
    (fun a => match a with
      | ⟨0, _⟩ => by show r.val = 0 + r.val * (0 + 1); omega
      | ⟨1, _⟩ => by show d.val = 0 + d.val * (0 + 1); omega)).trans ?_
  pointwise

theorem padded1 (x : Vec Ideal S36 .i32) (v : Vec Ideal S_ .i32) (r : Fin 36) :
    shapeCast S48x1 (Idealize.ShloMosaic.pad S48 ![0] ![12] ![0] x v pads_S36_S48_0120 h_S_) shapeCasts_S48_S48x1 (ix2 (Val.pad r) 0) = x (ix1 r) := by
  have e : Idealize.ShloMosaic.pad S48 ![0] ![12] ![0] x v pads_S36_S48_0120 h_S_ (ix1 (Val.pad r)) = x (ix1 r) :=
    pad_apply_of_inside ![0] ![12] ![0] x v pads_S36_S48_0120 h_S_ (ix1 (Val.pad r)) (ix1 r)
      (fun a => match a with | ⟨0, _⟩ => by show r.val = 0 + r.val * (0 + 1); omega)
  rw [← e]
  generalize Idealize.ShloMosaic.pad S48 ![0] ![12] ![0] x v pads_S36_S48_0120 h_S_ = y
  pointwise

theorem wrapped_at (i : Vec Ideal S48x1 .i32) (r : Fin 48) : wrapped (F := Ideal) i (ix3 r 0 0) = wrap (i (ix2 r 0)) := by
  unfold wrapped
  pointwise
  rfl

/-- The scales' lookup. -/
theorem gathered (x : Vec Ideal S7 .f32) (idx : Vec Ideal S48x1x1 .i32) (r : Fin 48) :
    Host.gather gather_S7_S48x1x1_S48x1_n_0_n_n_0_2_1 x idx (ix2 r 0) = scaling x (idx (ix3 r 0 0)) := by
  unfold scaling
  unfold Host.gather
  congr 1
  funext a
  obtain rfl : a = 0 := Subsingleton.elim _ _
  refine Fin.ext ?_
  show gather_S7_S48x1x1_S48x1_n_0_n_n_0_2_1.start (ix2 r 0) idx 0 + gather_S7_S48x1x1_S48x1_n_0_n_n_0_2_1.batchCoord (ix2 r 0) 0 + gather_S7_S48x1x1_S48x1_n_0_n_n_0_2_1.offCoord (ix2 r 0) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S7_S48x1x1_S48x1_n_0_n_n_0_2_1.startIndexMap from List.mem_singleton.mpr rfl)]
  have hsi : gather_S7_S48x1x1_S48x1_n_0_n_n_0_2_1.siIdx (ix2 r 0) ⟨List.idxOf (0 : Fin 1) gather_S7_S48x1x1_S48x1_n_0_n_n_0_2_1.startIndexMap,
      List.idxOf_lt_length_iff.2 (List.mem_singleton.mpr rfl)⟩ = ix3 r 0 0 := by
    funext b; refine Fin.ext ?_
    match b with
    | ⟨0, _⟩ => rfl
    | ⟨1, _⟩ => rfl
    | ⟨2, _⟩ => rfl
  rw [hsi]
  rfl

variable (m : (ℓ : Loc nD τ sig) → Buf (Elt Ideal) ℓ) (c : Dev nD)

/-- An argument, before the first call. -/
theorem V5_arg (r : Ref sig .tc) (h4 : r ∉ hostOps0_4_W) (h3 : r ∉ hostOps0_3_W) (h2 : r ∉ hostOps0_2_W) (h1 : r ∉ hostOps0_1_W) (h0 : r ∉ hostOps0_W) :
    V5 m c (Proc.devRef .tc r) = m (c, Proc.devRef .tc r) :=
  (V5_of m c r h4).trans <| (V4_of m c r h3).trans <| (V3_of m c r h2).trans <| (V2_of m c r h1).trans (V1_of m c r h0)

theorem entry_x (r : Fin 36) (d : Fin 5120) : (V5 m c (Proc.devRef .tc main_v1) : Vec Ideal S48x5120 .bf16) (ix2 (Val.pad r) d)
    = (m ((c : Thread nD τ).loc main_arg0) : Vec Ideal S36x1x5120 .bf16) (ix3 r 0 d) := by
  have e : V5 m c (Proc.devRef .tc main_v1) = _ := (V5_of m c main_v1 (by decide)).trans <| (V4_of m c main_v1 (by decide)).trans <| (V3_of m c main_v1 (by decide)).trans (v1_of (V1 m c))
  have e0 : V1 m c (Proc.devRef .tc main_v0) = _ := v0_of (V0 m c)
  rw [e, e0]
  exact padded2 _ _ r d

/-- The padded adapters' numbers. -/
theorem entry_v2 : V4 m c (Proc.devRef .tc main_v2) = Idealize.ShloMosaic.pad S48 ![0] ![12] ![0] (m ((c : Thread nD τ).loc main_arg1) : Vec Ideal S36 .i32)
    (V3 m c (Proc.devRef .tc main_c_0) : Vec Ideal S_ .i32) pads_S36_S48_0120 h_S_ := by
  have e : V3 m c (Proc.devRef .tc main_arg1) = m ((c : Thread nD τ).loc main_arg1) :=
    (V3_of m c main_arg1 (by decide)).trans <| (V2_of m c main_arg1 (by decide)).trans (V1_of m c main_arg1 (by decide))
  rw [← e]
  exact v2_of (V3 m c)

theorem entry_id (r : Fin 36) : (V5 m c (Proc.devRef .tc main_v3) : Vec Ideal S48x1 .i32) (ix2 (Val.pad r) 0)
    = (m ((c : Thread nD τ).loc main_arg1) : Vec Ideal S36 .i32) (ix1 r) := by
  have e : V5 m c (Proc.devRef .tc main_v3) = _ := v3_of (V4 m c)
  rw [e, entry_v2]
  exact padded1 _ _ r

theorem entry_sc (r : Fin 36) : (V5 m c (Proc.devRef .tc main_v10) : Vec Ideal S48x1 .f32) (ix2 (Val.pad r) 0)
    = scaling (m ((c : Thread nD τ).loc main_arg10)) (wrap ((m ((c : Thread nD τ).loc main_arg1) : Vec Ideal S36 .i32) (ix1 r))) := by
  have e : V5 m c (Proc.devRef .tc main_v10) = _ := v10_of (V4 m c)
  have e10 : V4 m c (Proc.devRef .tc main_arg10) = m ((c : Thread nD τ).loc main_arg10) :=
    (V4_of m c main_arg10 (by decide)).trans <| (V3_of m c main_arg10 (by decide)).trans <| (V2_of m c main_arg10 (by decide)).trans (V1_of m c main_arg10 (by decide))
  rw [e, entry_v2, e10]
  refine (gathered _ _ (Val.pad r)).trans ?_
  rw [wrapped_at, padded1]

end Cert.KernelIdeal.Val.H

end
-- ==== Proof.V.Mask.lean ====
/- The mask of the claim: where the value a scale is taken of lies below the largest power of two the kernel represents. -/
module

public import proofs.«01_k».proof.Proof.V.Ref2
public import proofs.«01_k».proof.Proof.V.Pow
public import proofs.«01_k».proof.Proof.Gen.On_selected
public import proofs.«01_k».proof.Defs

@[expose] public section

set_option maxRecDepth 16384

noncomputable section

namespace Cert.HostIdeal.Val

open Cert.HostIdeal Cert.HostIdeal.Gen Cert.HostIdeal.Read
open Idealize.ShloMosaic

section
variable {F : FTy → Type} [FloatOps F]
variable (x0 : Vec F S36x1x5120 .bf16) (x1 : Vec F S36 .i32) (x2 : Vec F S2560x35840 .i8) (x3 : Vec F S40x35840 .bf16)
  (x4 : Vec F S8960x5120 .i8) (x5 : Vec F S140x5120 .bf16) (x6 : Vec F S7x5120x32 .bf16) (x7 : Vec F S7x2x16x17920 .bf16)
  (x8 : Vec F S7x17920x16 .bf16) (x9 : Vec F S7x16x5120 .bf16) (x10 : Vec F S7 .f32)

theorem mask_eq :
    (@Cert.On_selected.fn Cert.On_selected.Gen.facts F _ x0 x1 x2 x3 x4 x5 x6 x7 x8 x9 x10).2.2.2.2.2
      = cmpf .olt (val_main_v128 (F := F) x0 x1 x2 x3 x4 x5 x6 x7 x8 x9 x10) (broadcastInDim S36x1x40 ![] bcast_S_S36x1x40 (constant S_ .f32 0x7E800000#32)) := rfl

/-- The codes' mask is the scales', of the element's block. -/
theorem mask_codes (r : Fin 36) (q : Fin 5120) :
    (@Cert.On_selected.fn Cert.On_selected.Gen.facts F _ x0 x1 x2 x3 x4 x5 x6 x7 x8 x9 x10).2.2.2.2.1 (ix3 r 0 q)
      = (@Cert.On_selected.fn Cert.On_selected.Gen.facts F _ x0 x1 x2 x3 x4 x5 x6 x7 x8 x9 x10).2.2.2.2.2 (ix3 r 0 ⟨q.val / 128, by omega⟩) := by
  have e : (@Cert.On_selected.fn Cert.On_selected.Gen.facts F _ x0 x1 x2 x3 x4 x5 x6 x7 x8 x9 x10).2.2.2.2.1
      = shapeCast S36x1x5120 (broadcastInDim S36x1x40x128 ![0, 1, 2] bcast_S36x1x40_S36x1x40x128_0_1_2
          (@Cert.On_selected.fn Cert.On_selected.Gen.facts F _ x0 x1 x2 x3 x4 x5 x6 x7 x8 x9 x10).2.2.2.2.2) shapeCasts_S36x1x40x128_S36x1x5120 := rfl
  rw [e]
  generalize (@Cert.On_selected.fn Cert.On_selected.Gen.facts F _ x0 x1 x2 x3 x4 x5 x6 x7 x8 x9 x10).2.2.2.2.2 = M
  pointwise
end

variable (x0 : Vec Ideal S36x1x5120 .bf16) (x1 : Vec Ideal S36 .i32) (x2 : Vec Ideal S2560x35840 .i8) (x3 : Vec Ideal S40x35840 .bf16)
  (x4 : Vec Ideal S8960x5120 .i8) (x5 : Vec Ideal S140x5120 .bf16) (x6 : Vec Ideal S7x5120x32 .bf16) (x7 : Vec Ideal S7x2x16x17920 .bf16)
  (x8 : Vec Ideal S7x17920x16 .bf16) (x9 : Vec Ideal S7x16x5120 .bf16) (x10 : Vec Ideal S7 .f32)

/-- Where the mask is set, the value is below the power of two. -/
theorem mask_lt (i : S36x1x40.Idx)
    (h : (@Cert.On_selected.fn Cert.On_selected.Gen.facts Ideal _ x0 x1 x2 x3 x4 x5 x6 x7 x8 x9 x10).2.2.2.2.2 i = 1#1) :
    val_main_v128 (F := Ideal) x0 x1 x2 x3 x4 x5 x6 x7 x8 x9 x10 i < Cert.KernelIdeal.Val.pw 253 := by
  rw [mask_eq] at h
  generalize val_main_v128 (F := Ideal) x0 x1 x2 x3 x4 x5 x6 x7 x8 x9 x10 = v at *
  have e : Ideal.cmp .olt (v i) (Ideal.ofBits .f32 (BitVec.ofNat 32 253 <<< 23#32)) = 1#1 := h
  rw [Cert.KernelIdeal.Val.ofBits_pw (by decide)] at e
  by_contra hc
  rw [show Ideal.cmp .olt (v i) (Cert.KernelIdeal.Val.pw 253) = 0#1 from by
    show BitVec.ofBool (decide (v i < Cert.KernelIdeal.Val.pw 253)) = 0#1
    rw [decide_eq_false hc]; rfl] at e
  exact absurd e (by decide)

end Cert.HostIdeal.Val

end
-- ==== Proof.V.Results.lean ====
/- The results: what the kernel's run leaves in each result is what the reference computes of the same arguments. -/
module

public import proofs.«01_k».proof.Proof.KI.Run
public import proofs.«01_k».proof.Proof.V.Entry
public import proofs.«01_k».proof.Proof.V.Mask

@[expose] public section

set_option maxRecDepth 16384

noncomputable section

namespace Cert.KernelIdeal.Val.H

open Cert.KernelIdeal Cert.KernelIdeal.Gen Cert.KernelIdeal.Whole
open Idealize.ShloMosaic Idealize.ShloMosaic.TcCoe
open Cert.KernelIdeal.Val (pad wrap scaling)
open Cert.HostIdeal.Read (val_main_v48 val_main_v71 val_main_v111 val_main_v120 val_main_v121 val_main_v126 val_main_v128 val_main_v146)

/-! ## Reading the results' rows out of the padded arrays -/

theorem out_at (y : FVec Ideal S48x5120 .bf16) (r : Fin 36) (q : Fin 5120) :
    shapeCast S36x1x5120 (extractStridedSlice S36x5120 ![0, 0] y slices_S48x5120_S36x5120_0_0) shapeCasts_S36x5120_S36x1x5120 (ix3 r 0 q) = y (ix2 (Val.pad r) q) := by
  pointwise
  rfl

theorem codes_at (y : FVec Ideal S48x5120 .fp8e4m3) (r : Fin 36) (q : Fin 5120) :
    shapeCast S36x1x5120 (extractStridedSlice S36x5120 ![0, 0] y slices_S48x5120_S36x5120_0_0) shapeCasts_S36x5120_S36x1x5120 (ix3 r 0 q) = y (ix2 (Val.pad r) q) := by
  pointwise
  rfl

theorem hid_at (y : FVec Ideal S48x17920 .bf16) (r : Fin 36) (q : Fin 17920) :
    shapeCast S36x1x17920 (extractStridedSlice S36x17920 ![0, 0] y slices_S48x17920_S36x17920_0_0) shapeCasts_S36x17920_S36x1x17920 (ix3 r 0 q) = y (ix2 (Val.pad r) q) := by
  pointwise
  rfl

theorem s_at (y : FVec Ideal S48x32 .bf16) (r : Fin 36) (q : Fin 32) :
    extractStridedSlice S36x32 ![0, 0] y slices_S48x32_S36x32_0_0 (ix2 r q) = y (ix2 (Val.pad r) q) := by
  pointwise
  rfl

theorem t_at (y : FVec Ideal S48x16 .bf16) (r : Fin 36) (q : Fin 16) :
    extractStridedSlice S36x16 ![0, 0] y slices_S48x16_S36x16_0_0 (ix2 r q) = y (ix2 (Val.pad r) q) := by
  pointwise
  rfl

theorem scale_at (y : FVec Ideal S20x48x2 .f32) (r : Fin 36) (b : Fin 40) :
    shapeCast S36x1x40 (extractStridedSlice S36x40 ![0, 0] (shapeCast S48x40 (transpose S48x20x2 [1, 0, 2] y
        transposes_S20x48x2_S48x20x2_1_0_2) shapeCasts_S48x20x2_S48x40) slices_S48x40_S36x40_0_0) shapeCasts_S36x40_S36x1x40 (ix3 r 0 b)
      = y (ix3 ⟨b.val / 2, by omega⟩ (Val.pad r) ⟨b.val % 2, by omega⟩) := by
  have e : shapeCast S48x40 (transpose S48x20x2 [1, 0, 2] y transposes_S20x48x2_S48x20x2_1_0_2) shapeCasts_S48x20x2_S48x40 (ix2 (Val.pad r) b)
      = y (ix3 ⟨b.val / 2, by omega⟩ (Val.pad r) ⟨b.val % 2, by omega⟩) := by
    pointwise
  rw [← e]
  generalize shapeCast S48x40 (transpose S48x20x2 [1, 0, 2] y transposes_S20x48x2_S48x20x2_1_0_2) shapeCasts_S48x20x2_S48x40 = z
  pointwise
  rfl

theorem ref_hid_at (y : FVec Ideal Cert.HostIdeal.S36x17920 .bf16) (r : Fin 36) (q : Fin 17920) :
    shapeCast Cert.HostIdeal.S36x1x17920 y Cert.HostIdeal.Gen.shapeCasts_S36x17920_S36x1x17920 (ix3 r 0 q) = y (ix2 r q) := by
  pointwise

variable (m : (ℓ : Loc nD τ sig) → Buf (Elt Ideal) ℓ) (c : Dev nD)

/-! ## The arrays along the run -/

/-- What the first call finds, and the second. -/
abbrev A5 : (c : Dev nD) → (b : Ref sig .tc) → Buf (Elt Ideal) ((c : Thread nD τ).loc b) := fun c b => V5 m c (Proc.devRef .tc b)
abbrev A6 : (c : Dev nD) → (b : Ref sig .tc) → Buf (Elt Ideal) ((c : Thread nD τ).loc b) := fun c b => W6 m c (Proc.devRef .tc b)

theorem W6_h : A6 m c main_v11_0 = G.hArr (A5 m) c :=
  ((dat0 m c).withArrays_arrAt sharedIn0 (V5 m c) (fun w => R0.A_eq _ c w) 9).trans (G.arr9 (A5 m) c)
theorem W6_s : A6 m c main_v11_1 = G.sArr (A5 m) c :=
  ((dat0 m c).withArrays_arrAt sharedIn0 (V5 m c) (fun w => R0.A_eq _ c w) 10).trans (G.arr10 (A5 m) c)
theorem W7_o : W7 m c (Proc.devRef .tc main_v12_0) = D.oArr (A6 m) c :=
  ((dat1 m c).withArrays_arrAt launch1.to₀.sharedIn (W6 m c) (fun w => R1.A_eq _ c w) 7).trans (D.arr7 (A6 m) c)
theorem W7_c : W7 m c (Proc.devRef .tc main_v12_1) = D.cArr (A6 m) c :=
  ((dat1 m c).withArrays_arrAt launch1.to₀.sharedIn (W6 m c) (fun w => R1.A_eq _ c w) 8).trans (D.arr8 (A6 m) c)
theorem W7_q : W7 m c (Proc.devRef .tc main_v12_2) = D.qArr (A6 m) c :=
  ((dat1 m c).withArrays_arrAt launch1.to₀.sharedIn (W6 m c) (fun w => R1.A_eq _ c w) 9).trans (D.arr9 (A6 m) c)
theorem W7_t : W7 m c (Proc.devRef .tc main_v12_3) = D.tArr (A6 m) c :=
  ((dat1 m c).withArrays_arrAt launch1.to₀.sharedIn (W6 m c) (fun w => R1.A_eq _ c w) 10).trans (D.arr10 (A6 m) c)

/-- What the first call does not write, the second finds as the first did. -/
theorem W6_keep (r : Ref sig .tc) (h : r ∉ ([main_v11_0, main_v11_1] : List (Ref sig .tc))) : A6 m c r = A5 m c r :=
  (V6_eq m c r).symm.trans (V6_of m (outs m) c r h)

variable (x0 : Vec Ideal S36x1x5120 .bf16) (x1 : Vec Ideal S36 .i32) (x2 : Vec Ideal S2560x35840 .i8) (x3 : Vec Ideal S40x35840 .bf16) (x4 : Vec Ideal S8960x5120 .i8) (x5 : Vec Ideal S140x5120 .bf16) (x6 : Vec Ideal S7x5120x32 .bf16) (x7 : Vec Ideal S7x2x16x17920 .bf16) (x8 : Vec Ideal S7x17920x16 .bf16) (x9 : Vec Ideal S7x16x5120 .bf16) (x10 : Vec Ideal S7 .f32)

/-- The arguments the program is launched at. -/
structure Args : Prop where
  e0 : m ((c : Thread nD τ).loc main_arg0) = x0
  e1 : m ((c : Thread nD τ).loc main_arg1) = x1
  e2 : m ((c : Thread nD τ).loc main_arg2) = x2
  e3 : m ((c : Thread nD τ).loc main_arg3) = x3
  e4 : m ((c : Thread nD τ).loc main_arg4) = x4
  e5 : m ((c : Thread nD τ).loc main_arg5) = x5
  e6 : m ((c : Thread nD τ).loc main_arg6) = x6
  e7 : m ((c : Thread nD τ).loc main_arg7) = x7
  e8 : m ((c : Thread nD τ).loc main_arg8) = x8
  e9 : m ((c : Thread nD τ).loc main_arg9) = x9
  e10 : m ((c : Thread nD τ).loc main_arg10) = x10

variable {x0 x1 x2 x3 x4 x5 x6 x7 x8 x9 x10} (h : Args m c x0 x1 x2 x3 x4 x5 x6 x7 x8 x9 x10)

theorem A5_arg (r : Ref sig .tc) (h4 : r ∉ hostOps0_4_W := by decide) (h3 : r ∉ hostOps0_3_W := by decide) (h2 : r ∉ hostOps0_2_W := by decide)
    (h1 : r ∉ hostOps0_1_W := by decide) (h0 : r ∉ hostOps0_W := by decide) : A5 m c r = m ((c : Thread nD τ).loc r) :=
  V5_arg m c r h4 h3 h2 h1 h0

theorem A6_arg (r : Ref sig .tc) (h4 : r ∉ hostOps0_4_W := by decide) (h3 : r ∉ hostOps0_3_W := by decide) (h2 : r ∉ hostOps0_2_W := by decide)
    (h1 : r ∉ hostOps0_1_W := by decide) (h0 : r ∉ hostOps0_W := by decide)
    (h : r ∉ ([main_v11_0, main_v11_1] : List (Ref sig .tc)) := by decide) : A6 m c r = m ((c : Thread nD τ).loc r) :=
  (W6_keep m c r h).trans (V5_arg m c r h4 h3 h2 h1 h0)

include h

theorem id5 (r : Fin 36) : (A5 m c main_v3 : Vec Ideal S48x1 .i32) (ix2 (Val.pad r) 0) = x1 (ix1 r) := by
  rw [← h.e1]; exact entry_id m c r
theorem sc5 (r : Fin 36) : (A5 m c main_v10 : Vec Ideal S48x1 .f32) (ix2 (Val.pad r) 0) = scaling x10 (wrap (x1 (ix1 r))) := by
  rw [← h.e1, ← h.e10]; exact entry_sc m c r
theorem bat5 (r : Fin 36) (d : Fin 5120) : (A5 m c main_v1 : Vec Ideal S48x5120 .bf16) (ix2 (Val.pad r) d) = x0 (ix3 r 0 d) := by
  rw [← h.e0]; exact entry_x m c r d
theorem id6 (r : Fin 36) : (A6 m c main_v3 : Vec Ideal S48x1 .i32) (ix2 (Val.pad r) 0) = x1 (ix1 r) := by
  rw [W6_keep m c main_v3 (by decide)]; exact id5 m c h r
theorem sc6 (r : Fin 36) : (A6 m c main_v10 : Vec Ideal S48x1 .f32) (ix2 (Val.pad r) 0) = scaling x10 (wrap (x1 (ix1 r))) := by
  rw [W6_keep m c main_v10 (by decide)]; exact sc5 m c h r

/-- The first call's `h` and `s`, on the batch's rows. -/
theorem h6 (r : Fin 36) (f : Fin 17920) : (A6 m c main_v11_0 : Vec Ideal S48x17920 .bf16) (ix2 (Val.pad r) f) = val_main_v71 (F := Ideal) x0 x1 x2 x3 x6 x7 x10 (ix2 r f) := by
  rw [W6_h]
  exact h_row (A5 m) c x0 x1 x2 x3 x6 x7 x10 (id5 m c h) (sc5 m c h) (bat5 m c h) ((A5_arg m c main_arg2).trans h.e2) ((A5_arg m c main_arg3).trans h.e3)
    ((A5_arg m c main_arg6).trans h.e6) ((A5_arg m c main_arg7).trans h.e7) r f
theorem s6 (r : Fin 36) (j : Fin 32) : (A6 m c main_v11_1 : Vec Ideal S48x32 .bf16) (ix2 (Val.pad r) j) = val_main_v48 (F := Ideal) x0 x1 x6 x10 (ix2 r j) := by
  rw [W6_s]
  exact s_row (A5 m) c x0 x1 x6 x10 (id5 m c h) (sc5 m c h) (bat5 m c h) ((A5_arg m c main_arg6).trans h.e6) r j

/-- The second call's output, `t`, scales and codes, on the batch's rows. -/
theorem o7 (r : Fin 36) (q : Fin 5120) : (W7 m c (Proc.devRef .tc main_v12_0) : Vec Ideal S48x5120 .bf16) (ix2 (Val.pad r) q)
    = val_main_v120 (F := Ideal) x0 x1 x2 x3 x4 x5 x6 x7 x8 x9 x10 (ix2 r q) := by
  rw [W7_o]
  exact o_row (A6 m) c x0 x1 x2 x3 x4 x5 x6 x7 x8 x9 x10 (id6 m c h) (sc6 m c h) (h6 m c h) ((A6_arg m c main_arg4).trans h.e4) ((A6_arg m c main_arg5).trans h.e5)
    ((A6_arg m c main_arg8).trans h.e8) ((A6_arg m c main_arg9).trans h.e9) r q
theorem t7 (r : Fin 36) (j : Fin 16) : (W7 m c (Proc.devRef .tc main_v12_3) : Vec Ideal S48x16 .bf16) (ix2 (Val.pad r) j)
    = val_main_v111 (F := Ideal) x0 x1 x2 x3 x6 x7 x8 x10 (ix2 r j) := by
  rw [W7_t]
  exact t_row (A6 m) c x0 x1 x2 x3 x6 x7 x8 x10 (id6 m c h) (sc6 m c h) (h6 m c h) ((A6_arg m c main_arg8).trans h.e8) r j
theorem q7 (r : Fin 36) (b : Fin 40) : (W7 m c (Proc.devRef .tc main_v12_2) : Vec Ideal S20x48x2 .f32) (ix3 ⟨b.val / 2, by omega⟩ (Val.pad r) ⟨b.val % 2, by omega⟩)
    = scaleOf (amax (fun k => val_main_v120 (F := Ideal) x0 x1 x2 x3 x4 x5 x6 x7 x8 x9 x10 (ix2 r ⟨b.val * 128 + k.val, by omega⟩))) := by
  rw [W7_q]
  exact q_row (A6 m) c x0 x1 x2 x3 x4 x5 x6 x7 x8 x9 x10 (id6 m c h) (sc6 m c h) (h6 m c h) ((A6_arg m c main_arg4).trans h.e4) ((A6_arg m c main_arg5).trans h.e5)
    ((A6_arg m c main_arg8).trans h.e8) ((A6_arg m c main_arg9).trans h.e9) r _ _ b (by show b.val = b.val / 2 * 2 + b.val % 2; omega)

theorem c7 (r : Fin 36) (q : Fin 5120) : (W7 m c (Proc.devRef .tc main_v12_1) : Vec Ideal S48x5120 .fp8e4m3) (ix2 (Val.pad r) q)
    = clip (val_main_v120 (F := Ideal) x0 x1 x2 x3 x4 x5 x6 x7 x8 x9 x10 (ix2 r q)
      * Val.invOf (amax (fun k => val_main_v120 (F := Ideal) x0 x1 x2 x3 x4 x5 x6 x7 x8 x9 x10 (ix2 r ⟨q.val / 128 * 128 + k.val, by omega⟩)))) := by
  rw [W7_c]
  exact c_row (A6 m) c x0 x1 x2 x3 x4 x5 x6 x7 x8 x9 x10 (id6 m c h) (sc6 m c h) (h6 m c h) ((A6_arg m c main_arg4).trans h.e4) ((A6_arg m c main_arg5).trans h.e5)
    ((A6_arg m c main_arg8).trans h.e8) ((A6_arg m c main_arg9).trans h.e9) r q

/-! ## The results -/

theorem res_out : V8 m (outs m) c (Proc.devRef .tc main_v16) = val_main_v121 (F := Ideal) x0 x1 x2 x3 x4 x5 x6 x7 x8 x9 x10 := by
  refine (v16_of (V7 m (outs m) c)).trans ?_
  rw [V7_eq]
  funext i
  rw [eq_ix3 i, show i 1 = (0 : Fin 1) from Subsingleton.elim (α := Fin 1) _ _]
  exact (out_at _ (i 0) (i 2)).trans ((o7 m c h (i 0) (i 2)).trans (Cert.HostIdeal.Val.v121_at x0 x1 x2 x3 x4 x5 x6 x7 x8 x9 x10 (i 0) (i 2)).symm)

theorem res_h : V8 m (outs m) c (Proc.devRef .tc main_v18) = val_main_v126 (F := Ideal) x0 x1 x2 x3 x6 x7 x10 := by
  refine (v18_of (V7 m (outs m) c)).trans ?_
  rw [V7_of m (outs m) c main_v11_0 (by decide), V6_eq]
  funext i
  rw [eq_ix3 i, show i 1 = (0 : Fin 1) from Subsingleton.elim (α := Fin 1) _ _]
  exact (hid_at _ (i 0) (i 2)).trans ((h6 m c h (i 0) (i 2)).trans (ref_hid_at _ (i 0) (i 2)).symm)

theorem res_s : V8 m (outs m) c (Proc.devRef .tc main_v19) = val_main_v48 (F := Ideal) x0 x1 x6 x10 := by
  refine (v19_of (V7 m (outs m) c)).trans ?_
  rw [V7_of m (outs m) c main_v11_1 (by decide), V6_eq]
  funext i
  rw [eq_ix2 i]
  exact (s_at _ (i 0) (i 1)).trans (s6 m c h (i 0) (i 1))

theorem res_t : V8 m (outs m) c (Proc.devRef .tc main_v20) = val_main_v111 (F := Ideal) x0 x1 x2 x3 x6 x7 x8 x10 := by
  refine (v20_of (V7 m (outs m) c)).trans ?_
  rw [V7_eq]
  funext i
  rw [eq_ix2 i]
  exact (t_at _ (i 0) (i 1)).trans (t7 m c h (i 0) (i 1))

theorem res_scale (i : S36x1x40.Idx) (hm : val_main_v128 (F := Ideal) x0 x1 x2 x3 x4 x5 x6 x7 x8 x9 x10 i < pw 253) :
    (V8 m (outs m) c (Proc.devRef .tc main_v24) : Vec Ideal S36x1x40 .f32) i = val_main_v146 (F := Ideal) x0 x1 x2 x3 x4 x5 x6 x7 x8 x9 x10 i := by
  refine (congrFun (v24_of (V7 m (outs m) c)) i).trans ?_
  rw [V7_eq]
  rw [eq_ix3 i, show i 1 = (0 : Fin 1) from Subsingleton.elim (α := Fin 1) _ _] at hm ⊢
  exact (scale_at _ (i 0) (i 2)).trans ((q7 m c h (i 0) (i 2)).trans (Cert.HostIdeal.Val.v146_at x0 x1 x2 x3 x4 x5 x6 x7 x8 x9 x10 (i 0) (i 2) hm).symm)

theorem res_codes (i : S36x1x5120.Idx)
    (hm : (@Cert.On_selected.fn Cert.On_selected.Gen.facts Ideal _ x0 x1 x2 x3 x4 x5 x6 x7 x8 x9 x10).2.2.2.2.1 i = 1#1) :
    (V8 m (outs m) c (Proc.devRef .tc main_v22) : Vec Ideal S36x1x5120 .fp8e4m3) i = Cert.HostIdeal.Val.codes x0 x1 x2 x3 x4 x5 x6 x7 x8 x9 x10 i := by
  refine (congrFun (v22_of (V7 m (outs m) c)) i).trans ?_
  rw [V7_eq]
  rw [eq_ix3 i, show i 1 = (0 : Fin 1) from Subsingleton.elim (α := Fin 1) _ _] at hm ⊢
  refine (codes_at _ (i 0) (i 2)).trans ((c7 m c h (i 0) (i 2)).trans (Cert.HostIdeal.Val.codes_at x0 x1 x2 x3 x4 x5 x6 x7 x8 x9 x10 (i 0) (i 2) ?_).symm)
  exact Cert.HostIdeal.Val.mask_lt _ _ _ _ _ _ _ _ _ _ _ _ ((Cert.HostIdeal.Val.mask_codes _ _ _ _ _ _ _ _ _ _ _ (i 0) (i 2)).symm.trans hm)

end Cert.KernelIdeal.Val.H

end
-- ==== Proof.V.Prefix.lean ====
/- The reference's host lines are those of the program `HostIdeal`, so what its buffers hold when its call begins is that
   program's values of the arguments. The lines are read in five stretches. -/
module

public import proofs.«01_k».proof.Proof.Gen.HostIdeal.Read
public import proofs.«01_k».proof.Proof.Gen.ReferenceIdeal.Value

@[expose] public section

set_option maxRecDepth 16384
set_option maxHeartbeats 400000

noncomputable section

namespace Cert.ReferenceIdeal.Pre

open Cert.ReferenceIdeal Cert.ReferenceIdeal.Gen
open Idealize.ShloMosaic Idealize.ShloMosaic.TcCoe Idealize.ShloMosaic.StableHlo Idealize.SL.Sem
open Cert.HostIdeal.Read

variable {F : FTy → Type} [FloatOps F]

abbrev l1 : List (HloOp τ sig (Elt F)) := List.flatten [hostOps0, hostOps0_1, hostOps0_2, hostOps0_3, hostOps0_4, hostOps0_5]
abbrev l2 : List (HloOp τ sig (Elt F)) := hostOps0_6
abbrev l3 : List (HloOp τ sig (Elt F)) := List.flatten [hostOps0_7, hostOps0_8, hostOps0_9]
abbrev l4 : List (HloOp τ sig (Elt F)) := hostOps0_10
abbrev l5 : List (HloOp τ sig (Elt F)) := List.flatten [hostOps0_11, hostOps0_12, hostOps0_13, hostOps0_14]

variable (U : Valuation τ sig (Elt F))

/-! The arguments. -/
abbrev x0 := U (Proc.devRef .tc main_arg0)
abbrev x1 := U (Proc.devRef .tc main_arg1)
abbrev x2 := U (Proc.devRef .tc main_arg2)
abbrev x3 := U (Proc.devRef .tc main_arg3)
abbrev x4 := U (Proc.devRef .tc main_arg4)
abbrev x5 := U (Proc.devRef .tc main_arg5)
abbrev x6 := U (Proc.devRef .tc main_arg6)
abbrev x7 := U (Proc.devRef .tc main_arg7)
abbrev x8 := U (Proc.devRef .tc main_arg8)
abbrev x9 := U (Proc.devRef .tc main_arg9)
abbrev x10 := U (Proc.devRef .tc main_arg10)

/-- What the buffers hold after stretch 1. -/
def U1 : Valuation τ sig (Elt F) := after l1 U
theorem U1_all : U1 U (no_index (Proc.devRef .tc main_arg3)) = x3 U
    ∧ U1 U (no_index (Proc.devRef .tc main_arg4)) = x4 U
    ∧ U1 U (no_index (Proc.devRef .tc main_arg5)) = x5 U
    ∧ U1 U (no_index (Proc.devRef .tc main_arg6)) = x6 U
    ∧ U1 U (no_index (Proc.devRef .tc main_arg7)) = x7 U
    ∧ U1 U (no_index (Proc.devRef .tc main_arg8)) = x8 U
    ∧ U1 U (no_index (Proc.devRef .tc main_arg9)) = x9 U
    ∧ U1 U (no_index (Proc.devRef .tc main_v0)) = val_main_v0 (F := F) (x0 U)
    ∧ U1 U (no_index (Proc.devRef .tc main_v1)) = val_main_v1 (F := F) (x1 U)
    ∧ U1 U (no_index (Proc.devRef .tc main_v8)) = val_main_v8 (F := F) (x1 U) (x10 U)
    ∧ U1 U (no_index (Proc.devRef .tc main_v19)) = val_main_v19 (F := F) (x2 U)
    ∧ U1 U (no_index (Proc.devRef .tc main_v24)) = val_main_v24 (F := F) (x2 U) := by
  refine ⟨?_, ?_, ?_, ?_, ?_, ?_, ?_, ?_, ?_, ?_, ?_, ?_⟩ <;>
    (simp only [U1, l1, List.flatten_cons, List.flatten_nil, List.append_nil, List.cons_append, List.nil_append, TRef.nullary, TRef.ternary, TRef.binary, TRef.unary, TRef.toBuf, TRef.ofBuf, cast_eq]; after_results_simp <;> rfl)

/-- What the buffers hold after stretch 2. -/
def U2 : Valuation τ sig (Elt F) := after l2 (U1 U)
theorem U2_all : U2 U (no_index (Proc.devRef .tc main_arg5)) = x5 U
    ∧ U2 U (no_index (Proc.devRef .tc main_arg8)) = x8 U
    ∧ U2 U (no_index (Proc.devRef .tc main_arg9)) = x9 U
    ∧ U2 U (no_index (Proc.devRef .tc main_v1)) = val_main_v1 (F := F) (x1 U)
    ∧ U2 U (no_index (Proc.devRef .tc main_v8)) = val_main_v8 (F := F) (x1 U) (x10 U)
    ∧ U2 U (no_index (Proc.devRef .tc main_v48)) = val_main_v48 (F := F) (x0 U) (x1 U) (x6 U) (x10 U)
    ∧ U2 U (no_index (Proc.devRef .tc main_v71)) = val_main_v71 (F := F) (x0 U) (x1 U) (x2 U) (x3 U) (x6 U) (x7 U) (x10 U)
    ∧ U2 U (no_index (Proc.devRef .tc main_v74)) = val_main_v74 (F := F) (x4 U)
    ∧ U2 U (no_index (Proc.devRef .tc main_v76)) = val_main_v76 (F := F) (x4 U)
    ∧ U2 U (no_index (Proc.devRef .tc main_v78)) = val_main_v78 (F := F) (x4 U)
    ∧ U2 U (no_index (Proc.devRef .tc main_v80)) = val_main_v80 (F := F) (x4 U) := by
  refine ⟨?_, ?_, ?_, ?_, ?_, ?_, ?_, ?_, ?_, ?_, ?_⟩ <;>
    (simp only [U2, l2, List.flatten_cons, List.flatten_nil, List.append_nil, List.cons_append, List.nil_append, TRef.nullary, TRef.ternary, TRef.binary, TRef.unary, TRef.toBuf, TRef.ofBuf, cast_eq]; after_results_simp <;> (try simp only [U1_all]) <;> rfl)

/-- What the buffers hold after stretch 3. -/
def U3 : Valuation τ sig (Elt F) := after l3 (U2 U)
theorem U3_all : U3 U (no_index (Proc.devRef .tc main_arg5)) = x5 U
    ∧ U3 U (no_index (Proc.devRef .tc main_arg8)) = x8 U
    ∧ U3 U (no_index (Proc.devRef .tc main_arg9)) = x9 U
    ∧ U3 U (no_index (Proc.devRef .tc main_v1)) = val_main_v1 (F := F) (x1 U)
    ∧ U3 U (no_index (Proc.devRef .tc main_v8)) = val_main_v8 (F := F) (x1 U) (x10 U)
    ∧ U3 U (no_index (Proc.devRef .tc main_v48)) = val_main_v48 (F := F) (x0 U) (x1 U) (x6 U) (x10 U)
    ∧ U3 U (no_index (Proc.devRef .tc main_v71)) = val_main_v71 (F := F) (x0 U) (x1 U) (x2 U) (x3 U) (x6 U) (x7 U) (x10 U)
    ∧ U3 U (no_index (Proc.devRef .tc main_v82)) = val_main_v82 (F := F) (x4 U)
    ∧ U3 U (no_index (Proc.devRef .tc main_v87)) = val_main_v87 (F := F) (x4 U) := by
  refine ⟨?_, ?_, ?_, ?_, ?_, ?_, ?_, ?_, ?_⟩ <;>
    (simp only [U3, l3, List.flatten_cons, List.flatten_nil, List.append_nil, List.cons_append, List.nil_append, TRef.nullary, TRef.ternary, TRef.binary, TRef.unary, TRef.toBuf, TRef.ofBuf, cast_eq]; after_results_simp <;> (try simp only [U2_all]) <;> rfl)

/-- What the buffers hold after stretch 4. -/
def U4 : Valuation τ sig (Elt F) := after l4 (U3 U)
theorem U4_all : U4 U (no_index (Proc.devRef .tc main_v48)) = val_main_v48 (F := F) (x0 U) (x1 U) (x6 U) (x10 U)
    ∧ U4 U (no_index (Proc.devRef .tc main_v111)) = val_main_v111 (F := F) (x0 U) (x1 U) (x2 U) (x3 U) (x6 U) (x7 U) (x8 U) (x10 U)
    ∧ U4 U (no_index (Proc.devRef .tc main_v121)) = val_main_v121 (F := F) (x0 U) (x1 U) (x2 U) (x3 U) (x4 U) (x5 U) (x6 U) (x7 U) (x8 U) (x9 U) (x10 U)
    ∧ U4 U (no_index (Proc.devRef .tc main_v122)) = val_main_v122 (F := F) (x0 U) (x1 U) (x2 U) (x3 U) (x4 U) (x5 U) (x6 U) (x7 U) (x8 U) (x9 U) (x10 U)
    ∧ U4 U (no_index (Proc.devRef .tc main_v126)) = val_main_v126 (F := F) (x0 U) (x1 U) (x2 U) (x3 U) (x6 U) (x7 U) (x10 U)
    ∧ U4 U (no_index (Proc.devRef .tc main_v134)) = val_main_v134 (F := F)
    ∧ U4 U (no_index (Proc.devRef .tc main_v139)) = val_main_v139 (F := F) (x0 U) (x1 U) (x2 U) (x3 U) (x4 U) (x5 U) (x6 U) (x7 U) (x8 U) (x9 U) (x10 U) := by
  refine ⟨?_, ?_, ?_, ?_, ?_, ?_, ?_⟩ <;>
    (simp only [U4, l4, List.flatten_cons, List.flatten_nil, List.append_nil, List.cons_append, List.nil_append, TRef.nullary, TRef.ternary, TRef.binary, TRef.unary, TRef.toBuf, TRef.ofBuf, cast_eq]; after_results_simp <;> (try simp only [U3_all]) <;> rfl)

/-- What the buffers hold after stretch 5. -/
def U5 : Valuation τ sig (Elt F) := after l5 (U4 U)
theorem U5_all : U5 U (no_index (Proc.devRef .tc main_v48)) = val_main_v48 (F := F) (x0 U) (x1 U) (x6 U) (x10 U)
    ∧ U5 U (no_index (Proc.devRef .tc main_v111)) = val_main_v111 (F := F) (x0 U) (x1 U) (x2 U) (x3 U) (x6 U) (x7 U) (x8 U) (x10 U)
    ∧ U5 U (no_index (Proc.devRef .tc main_v121)) = val_main_v121 (F := F) (x0 U) (x1 U) (x2 U) (x3 U) (x4 U) (x5 U) (x6 U) (x7 U) (x8 U) (x9 U) (x10 U)
    ∧ U5 U (no_index (Proc.devRef .tc main_v122)) = val_main_v122 (F := F) (x0 U) (x1 U) (x2 U) (x3 U) (x4 U) (x5 U) (x6 U) (x7 U) (x8 U) (x9 U) (x10 U)
    ∧ U5 U (no_index (Proc.devRef .tc main_v126)) = val_main_v126 (F := F) (x0 U) (x1 U) (x2 U) (x3 U) (x6 U) (x7 U) (x10 U)
    ∧ U5 U (no_index (Proc.devRef .tc main_v146)) = val_main_v146 (F := F) (x0 U) (x1 U) (x2 U) (x3 U) (x4 U) (x5 U) (x6 U) (x7 U) (x8 U) (x9 U) (x10 U)
    ∧ U5 U (no_index (Proc.devRef .tc main_v148)) = val_main_v148 (F := F) (x0 U) (x1 U) (x2 U) (x3 U) (x4 U) (x5 U) (x6 U) (x7 U) (x8 U) (x9 U) (x10 U) := by
  refine ⟨?_, ?_, ?_, ?_, ?_, ?_, ?_⟩ <;>
    (simp only [U5, l5, List.flatten_cons, List.flatten_nil, List.append_nil, List.cons_append, List.nil_append, TRef.nullary, TRef.ternary, TRef.binary, TRef.unary, TRef.toBuf, TRef.ofBuf, cast_eq]; after_results_simp <;> (try simp only [U4_all]) <;> rfl)

/-- All the lines, stretch by stretch. -/
theorem after_all : after (List.flatten [hostOps0, hostOps0_1, hostOps0_2, hostOps0_3, hostOps0_4, hostOps0_5, hostOps0_6, hostOps0_7,
    hostOps0_8, hostOps0_9, hostOps0_10, hostOps0_11, hostOps0_12, hostOps0_13, hostOps0_14]) U = U5 U := by
  unfold U5 U4 U3 U2 U1
  rw [← after_append, ← after_append, ← after_append, ← after_append]
  rfl

end Cert.ReferenceIdeal.Pre

end
-- ==== Proof.V.Codes.lean ====
/- The reference's call: what its one block leaves of the output and the repeated scale is the codes, and its other buffers
   stay as its host lines leave them. -/
module

public import proofs.«01_k».proof.Proof.V.Prefix
public import proofs.«01_k».proof.Proof.V.Amax

@[expose] public section

set_option maxRecDepth 16384

noncomputable section

namespace Cert.ReferenceIdeal.Pre

open Cert.ReferenceIdeal Cert.ReferenceIdeal.Gen Cert.ReferenceIdeal.Value
open Idealize.ShloMosaic Idealize.ShloMosaic.TcCoe Idealize.ShloMosaic.StableHlo Idealize.SL.Sem

section
variable {F : FTy → Type} [FloatOps F]
variable (m : (ℓ : Loc nD τ sig) → Buf (Elt F) ℓ) (c : Dev nD)

/-- What the device's buffers hold at first. -/
abbrev U0 : Valuation τ sig (Elt F) := fun b => m (c, b)

theorem V_pre (r : Ref sig .tc) : V m c r = U5 (U0 m c) (Proc.devRef .tc r) := congrFun (after_all (U0 m c)) _

theorem idx0 : ∀ t : Fin cfg0.N, (win0_0.index t 0 = 0 ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0 ∧ win0_2.index t 2 = 0) := by decide +kernel

/-- A block at the origin holds the array's own indices. -/
theorem zero {ix : Fin 3 → Nat} (h : ix 0 = 0 ∧ ix 1 = 0 ∧ ix 2 = 0) (a : Fin 3) : ix a = 0 := by fin_cases a; exacts [h.1, h.2.1, h.2.2]
theorem whole {ix : Fin 3 → Nat} (h : ix 0 = 0 ∧ ix 1 = 0 ∧ ix 2 = 0) (j : S36x1x5120.Idx) (a : Fin 3) :
    ix a * (![36, 1, 5120] : Fin 3 → Nat) a + 1 * (j a).val = (j a).val := by rw [zero h]; omega

/-- The one block of each array is the whole of it. -/
theorem blk0 (t : Fin cfg0.N) : (iblk m c 0 t : Vec F S36x1x5120 .f32) = V m c main_v122 := by
  funext j
  unfold iblk
  rw [View.read_apply]
  exact congrArg (V m c main_v122) (funext fun a => Fin.ext (whole (idx0 t).1 j a))
theorem blk1 (t : Fin cfg0.N) : (iblk m c 1 t : Vec F S36x1x5120 .f32) = V m c main_v148 := by
  funext j
  unfold iblk
  rw [View.read_apply]
  exact congrArg (V m c main_v148) (funext fun a => Fin.ext (whole (idx0 t).2.1 j a))

theorem hz3 : (![0, 0, 0] : Fin 3 → Nat) = fun _ => 0 := funext fun a => by fin_cases a <;> rfl

/-- What the call leaves, of the two arrays it reads. -/
def cods (x s : Vec F S36x1x5120 .f32) : Vec F S36x1x5120 .fp8e4m3 := fun y =>
  FloatOps.truncf .fp8e4m3 bitsLt_fp8e4m3_f32 (FloatOps.minimumf (Scalar.ofBits .f32 0x43E00000#32)
    (FloatOps.maximumf (Scalar.ofBits .f32 0xC3E00000#32) (FloatOps.divf (x y) (s y))))

theorem out_eq (x s : Vec F S36x1x5120 .f32) : out0_2 x s = cods x s := by
  funext y
  unfold out0_2
  rw [View.ld_unit_zero (S := S36x1x5120) hz3, View.ld_unit_zero (S := S36x1x5120) hz3]
  refine (canon2_eq x s y).trans ?_
  have e : ix2_0 y = y := by
    funext a; apply Fin.ext
    have h1 : (y 1).val < 1 := (y 1).isLt
    match a with
    | ⟨0, _⟩ => rfl
    | ⟨1, _⟩ => show 0 = (y 1).val; omega
    | ⟨2, _⟩ => rfl
  show FloatOps.truncf .fp8e4m3 bitsLt_fp8e4m3_f32 (FloatOps.minimumf (Scalar.ofBits .f32 0x43E00000#32) (FloatOps.maximumf (Scalar.ofBits .f32 0xC3E00000#32)
    (FloatOps.divf (x (ix2_0 y)) (s (ix2_0 y))))) = _
  rw [e]
  rfl

theorem flushed_eq (t : Fin cfg0.N) (hf : (cfg0.win 2).flush t = true) :
    (dats m 0 c).flushed 2 t = ((cfg0.win 2).blk t).view.read (Elt F) (cods (V m c main_v122) (V m c main_v148)) := by
  rw [flushed2, blk0, blk1, out_eq]
  generalize cods (V m c main_v122) (V m c main_v148) = X
  funext j
  rw [View.read_apply]
  exact congrArg X (funext fun a => Fin.ext (whole (idx0 t).2.2 j a).symm)

/-- The array of the codes after the call. -/
theorem arr_codes : (dats m 0 c).arrAt 2 cfg0.N = cods (V m c main_v122) (V m c main_v148) :=
  (dats m 0 c).arrAt_eq_of_cover 2 _ (flushed_eq m c) fun i => by
    let t : Fin cfg0.N := ⟨0, by decide⟩
    refine ⟨t, by decide, ?_⟩
    show i ∈ ((View.whole main_v149).slice (win0_2.rect t)).set
    rw [View.set_slice_whole, Rect.mem_set_unit]
    intro a
    show win0_2.index t a * (![36, 1, 5120] : Fin 3 → Nat) a ≤ (i a).val ∧ (i a).val < win0_2.index t a * (![36, 1, 5120] : Fin 3 → Nat) a + (![36, 1, 5120] : Fin 3 → Nat) a
    rw [zero (idx0 t).2.2, Nat.zero_mul, Nat.zero_add]
    exact ⟨Nat.zero_le _, (i a).isLt⟩
end

/-! The results, of what the arguments hold at first. -/

variable (U : Valuation τ sig (Elt Ideal))
abbrev valOut := Cert.HostIdeal.Read.val_main_v121 (F := Ideal) (x0 U) (x1 U) (x2 U) (x3 U) (x4 U) (x5 U) (x6 U) (x7 U) (x8 U) (x9 U) (x10 U)
abbrev valH := Cert.HostIdeal.Read.val_main_v126 (F := Ideal) (x0 U) (x1 U) (x2 U) (x3 U) (x6 U) (x7 U) (x10 U)
abbrev valS := Cert.HostIdeal.Read.val_main_v48 (F := Ideal) (x0 U) (x1 U) (x6 U) (x10 U)
abbrev valT := Cert.HostIdeal.Read.val_main_v111 (F := Ideal) (x0 U) (x1 U) (x2 U) (x3 U) (x6 U) (x7 U) (x8 U) (x10 U)
abbrev valScales := Cert.HostIdeal.Read.val_main_v146 (F := Ideal) (x0 U) (x1 U) (x2 U) (x3 U) (x4 U) (x5 U) (x6 U) (x7 U) (x8 U) (x9 U) (x10 U)
abbrev valCodes := Cert.HostIdeal.Val.codes (x0 U) (x1 U) (x2 U) (x3 U) (x4 U) (x5 U) (x6 U) (x7 U) (x8 U) (x9 U) (x10 U)

section
variable (m : (ℓ : Loc nD τ sig) → Buf (Elt Ideal) ℓ) (c : Dev nD)
variable (r : PUnit × MemSt nD τ sig (Elt Ideal)) (h : Pipeline.FramePost cfgs (dats m) 0 (V m) r)
include h

/-- A buffer the call does not touch. -/
theorem rest (b : Ref sig .tc) (hb : b ∈ Pipeline.restRefs sig (cfgs 0).spec) : r.2.mem ((c : Thread nD τ).loc b) = U5 (U0 m c) (Proc.devRef .tc b) :=
  ((h c).2 b hb).trans (V_pre m c b)

/-- The codes after the run. -/
theorem post_codes : r.2.mem ((c : Thread nD τ).loc main_v149) = valCodes (U0 m c) := by
  refine (post2 m r h c).trans ((arr_codes m c).trans ?_)
  rw [V_pre, V_pre]
  simp only [U5_all]
  rfl

/-- The other results after the run. -/
theorem post_rest : r.2.mem ((c : Thread nD τ).loc main_v121) = valOut (U0 m c)
    ∧ r.2.mem ((c : Thread nD τ).loc main_v126) = valH (U0 m c)
    ∧ r.2.mem ((c : Thread nD τ).loc main_v48) = valS (U0 m c)
    ∧ r.2.mem ((c : Thread nD τ).loc main_v111) = valT (U0 m c)
    ∧ r.2.mem ((c : Thread nD τ).loc main_v146) = valScales (U0 m c) := by
  refine ⟨?_, ?_, ?_, ?_, ?_⟩ <;>
    exact (rest m c r h _ (Pipeline.mem_restRefs_of _ (by decide) (by decide))).trans (by simp only [U5_all])
end

end Cert.ReferenceIdeal.Pre

end
-- ==== Proof.lean ====
/- The proof of the certificate: the four programs run to the end without fault, and the kernel's results are the
   reference's, as extended reals. The runs of the two kernel programs are in Proof/KP and Proof/KI; the values of the
   kernel's blocks and of the reference, and their equality, in Proof/V. -/
module

public import proofs.«01_k».proof.Defs
public import proofs.«01_k».proof.Proof.KP.Run
public import proofs.«01_k».proof.Proof.V.Results
public import proofs.«01_k».proof.Proof.V.Codes
public import proofs.«01_k».proof.Proof.Gen.ReferenceIdeal.Value
public import proofs.«01_k».proof.Proof.Gen.HostIdeal.Read
public import proofs.«01_k».proof.Proof.Gen.On_selected

@[expose] public section

set_option maxRecDepth 16384

noncomputable section

namespace Cert.Proof

open Idealize.ShloMosaic Idealize.ShloMosaic.TcCoe Idealize.SL.Sem

/-- The kernel, bit by bit: it ends, its arguments unchanged, every counter at zero. -/
theorem frame_P : Cert.quiescent_Kernel (hKernel := Cert.Kernel.Gen.facts) := fun m g _ => Cert.Kernel.Whole.frame (F := Bits) m g

/-- The kernel over the extended reals likewise. -/
theorem frame_PI : Cert.quiescent_KernelIdeal (hKernelIdeal := Cert.KernelIdeal.Gen.facts) := fun m g _ => Cert.KernelIdeal.Whole.frame (F := Ideal) m g

/-- The reference over the extended reals likewise. -/
theorem frame_RI : Cert.quiescent_ReferenceIdeal (hReferenceIdeal := Cert.ReferenceIdeal.Gen.facts) := fun m g _ => Cert.ReferenceIdeal.Gen.frame (F := Ideal) m g

/-- The reference's host lines alone likewise: they declare no semaphore. -/
theorem frame_HI : Cert.quiescent_HostIdeal (hHostIdeal := Cert.HostIdeal.Gen.facts) := fun m g _ =>
  (θ_run _ _ _).mono (fun r h => ⟨fun c => (h c).2.2.2.2.2.2.2, sem_eq_zero_of_no_sems (by decide) r.2⟩)
    (Cert.HostIdeal.Value.run (F := Ideal) m g)

open Cert.KernelIdeal.Val.H Cert.KernelIdeal.Whole Cert.HostIdeal.Read Cert.ReferenceIdeal.Pre

/-- The values: at every element selected, both programs leave the reference's value of the arguments. -/
theorem algebraic : Cert.algebraic_KernelIdeal_ReferenceIdeal_on_selected (hKernelIdeal := Cert.KernelIdeal.Gen.facts)
    (hReferenceIdeal := Cert.ReferenceIdeal.Gen.facts) (hOn_selected := Cert.On_selected.Gen.facts) := by
  intro m g m' g' _ hagree
  have hargs : ∀ c : Dev Cert.KernelIdeal.nD, Args m c (x0 (U0 m' c)) (x1 (U0 m' c)) (x2 (U0 m' c)) (x3 (U0 m' c)) (x4 (U0 m' c)) (x5 (U0 m' c)) (x6 (U0 m' c)) (x7 (U0 m' c)) (x8 (U0 m' c)) (x9 (U0 m' c)) (x10 (U0 m' c)) := fun c => by
    obtain ⟨e0, e1, e2, e3, e4, e5, e6, e7, e8, e9, e10⟩ := hagree c
    exact ⟨e0.symm, e1.symm, e2.symm, e3.symm, e4.symm, e5.symm, e6.symm, e7.symm, e8.symm, e9.symm, e10.symm⟩
  refine ⟨fun c => valOut (U0 m' c), fun c => valH (U0 m' c), fun c => valS (U0 m' c), fun c => valT (U0 m' c), fun c => valCodes (U0 m' c), fun c => valScales (U0 m' c), ?_, ?_⟩
  · refine (θ_run _ _ _).mono (fun r h c => ?_) (Cert.KernelIdeal.Whole.run (F := Ideal) m g)
    have hm : ∀ (b : Ref Cert.KernelIdeal.sig .tc) (hb : b.isScoped = false), r.2.mem ((c.tc : Thread Cert.KernelIdeal.nD Cert.KernelIdeal.τ).loc b)
        = Cert.KernelIdeal.Gen.V8 m (Cert.KernelIdeal.Whole.outs m) c (Proc.devRef .tc b) := fun b hb => h.1 c _ (mem_ucRefs b hb)
    obtain ⟨e0, e1, e2, e3, e4, e5, e6, e7, e8, e9, e10⟩ := hagree c
    rw [← e0, ← e1, ← e2, ← e3, ← e4, ← e5, ← e6, ← e7, ← e8, ← e9, ← e10]
    refine ⟨fun i _ => (congrFun (hm Cert.KernelIdeal.main_v16 rfl) i).trans (congrFun (res_out m c (hargs c)) i),
      fun i _ => (congrFun (hm Cert.KernelIdeal.main_v18 rfl) i).trans (congrFun (res_h m c (hargs c)) i),
      fun i _ => (congrFun (hm Cert.KernelIdeal.main_v19 rfl) i).trans (congrFun (res_s m c (hargs c)) i),
      fun i _ => (congrFun (hm Cert.KernelIdeal.main_v20 rfl) i).trans (congrFun (res_t m c (hargs c)) i),
      fun i hi => (congrFun (hm Cert.KernelIdeal.main_v22 rfl) i).trans (res_codes m c (hargs c) i hi),
      fun i hi => (congrFun (hm Cert.KernelIdeal.main_v24 rfl) i).trans (res_scale m c (hargs c) i (Cert.HostIdeal.Val.mask_lt _ _ _ _ _ _ _ _ _ _ _ i hi)), ?_⟩
    rw [e0, e1, e2, e3, e4, e5, e6, e7, e8, e9, e10]
    exact args_kept m c r (h.1 c)
  · refine (θ_run _ _ _).mono (fun r h c => ?_) (Cert.ReferenceIdeal.Gen.run_main (F := Ideal) m' g')
    obtain ⟨h0, h1, h2, h3, h5⟩ := post_rest m' c r h
    exact ⟨fun i _ => congrFun h0 i, fun i _ => congrFun h1 i, fun i _ => congrFun h2 i, fun i _ => congrFun h3 i,
      fun i _ => congrFun (post_codes m' c r h) i, fun i _ => congrFun h5 i, Cert.ReferenceIdeal.Value.kept_main_arg0 m' r h c, Cert.ReferenceIdeal.Value.kept_main_arg1 m' r h c, Cert.ReferenceIdeal.Value.kept_main_arg2 m' r h c, Cert.ReferenceIdeal.Value.kept_main_arg3 m' r h c, Cert.ReferenceIdeal.Value.kept_main_arg4 m' r h c, Cert.ReferenceIdeal.Value.kept_main_arg5 m' r h c, Cert.ReferenceIdeal.Value.kept_main_arg6 m' r h c, Cert.ReferenceIdeal.Value.kept_main_arg7 m' r h c, Cert.ReferenceIdeal.Value.kept_main_arg8 m' r h c, Cert.ReferenceIdeal.Value.kept_main_arg9 m' r h c, Cert.ReferenceIdeal.Value.kept_main_arg10 m' r h c⟩

theorem claim : Cert.Claim := ⟨Cert.Kernel.Gen.facts, Cert.KernelIdeal.Gen.facts, Cert.ReferenceIdeal.Gen.facts, Cert.HostIdeal.Gen.facts, Cert.On_selected.Gen.facts,
  frame_P, frame_PI, frame_RI, frame_HI, trivial, algebraic⟩

end Cert.Proof

end
